-- ==== Defs.lean ====
def Pre_Kernel (m : (ℓ : Loc Cert.Kernel.nD Cert.Kernel.τ Cert.Kernel.sig) → Buf (Elt Bits) ℓ) : Prop :=
  True

def Pre_Kernel_well_posed [hPre_well_posed : Cert.Pre_well_posed.Facts] (m : (ℓ : Loc Cert.Kernel.nD Cert.Kernel.τ Cert.Kernel.sig) → Buf (Elt Bits) ℓ) : Prop :=
  ∀ c : Dev Cert.Kernel.nD,
    (Cert.Pre_well_posed.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_well_posed [hKernel : Cert.Kernel.Facts] [hPre_well_posed : Cert.Pre_well_posed.Facts] : Prop :=
  ∀ (m : (ℓ : Loc Cert.Kernel.nD Cert.Kernel.τ Cert.Kernel.sig) → Buf (Elt Bits) ℓ) (g : Dev Cert.Kernel.nD → PrngReg), Pre_Kernel_well_posed m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v371_0)) (v1 : (c : Dev Cert.KernelIdeal.nD) → Buf (Elt Ideal) ((c.tc : Thread Cert.KernelIdeal.nD Cert.KernelIdeal.τ).loc Cert.KernelIdeal.main_v371_1)) (v2 : (c : Dev Cert.KernelIdeal.nD) → Buf (Elt Ideal) ((c.tc : Thread Cert.KernelIdeal.nD Cert.KernelIdeal.τ).loc Cert.KernelIdeal.main_v371_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v371_0) = v0 c
          ∧ r.2.mem ((c.tc : Thread Cert.KernelIdeal.nD Cert.KernelIdeal.τ).loc Cert.KernelIdeal.main_v371_1) = v1 c
          ∧ r.2.mem ((c.tc : Thread Cert.KernelIdeal.nD Cert.KernelIdeal.τ).loc Cert.KernelIdeal.main_v371_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v446) = v0 c
          ∧ r.2.mem ((c.tc : Thread Cert.ReferenceIdeal.nD Cert.ReferenceIdeal.τ).loc Cert.ReferenceIdeal.main_v447) = v1 c
          ∧ r.2.mem ((c.tc : Thread Cert.ReferenceIdeal.nD Cert.ReferenceIdeal.τ).loc Cert.ReferenceIdeal.main_v448) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_Kernel_pre_well_posed (hKernel := hKernel) (hPre_well_posed := hPre_well_posed)
    ∧ quiescent_KernelIdeal (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal (hKernelIdeal := hKernelIdeal) (hReferenceIdeal := hReferenceIdeal) (hPre_well_posed := hPre_well_posed)
-- ==== Pre_well_posed.lean ====
abbrev S2x128x100000 : Shape := ⟨3, ![2, 128, 100000]⟩
abbrev S128x200000 : Shape := ⟨2, ![128, 200000]⟩
abbrev S_ : Shape := ⟨0, ![]⟩
abbrev S128x100000 : Shape := ⟨2, ![128, 100000]⟩
abbrev S1x128x100000 : Shape := ⟨3, ![1, 128, 100000]⟩
abbrev S128 : Shape := ⟨1, ![128]⟩
abbrev S128x1 : Shape := ⟨2, ![128, 1]⟩

class Facts : Prop where
  bcast_S_S128x100000 : S_.BroadcastsInDim S128x100000 (![] : Fin 0 → Fin S128x100000.rank)
  slices_S128x200000_S128x100000_0_0 : S128x200000.Slices ![0, 0] S128x100000
  slices_S128x200000_S128x100000_0_100000 : S128x200000.Slices ![0, 100000] S128x100000
  slices_S2x128x100000_S1x128x100000_0_0_0 : S2x128x100000.Slices ![0, 0, 0] S1x128x100000
  shapeCasts_S1x128x100000_S128x100000 : S1x128x100000.ShapeCasts S128x100000
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  slices_S2x128x100000_S1x128x100000_1_0_0 : S2x128x100000.Slices ![1, 0, 0] S1x128x100000
  natLt_1_32 : 1 < 32
  reducesTo_S128_S_d0 : S128.ReducesTo [0] S_

variable [Facts]

def fn_part25 {F : FTy → Type} [FloatOps F] (main_v426 : FVec F S128 .f32) (main_v427 : FVec F S128 .f32) (main_v447 : IVec S128 32) (main_v453 : IVec S128 32) (main_v454 : FVec F S128 .f32) : IVec S_ 1 :=
  let main_v455 : IVec S128 1 := cmpf .une main_v426 main_v454
  let main_c_143 : IVec S_ 1 := constantI S_ 1 1#1
  let main_v456 : IVec S_ 1 := (fun x v => Host.reduce IntOp.andi x v reducesTo_S128_S_d0 h_S_) main_v455 main_c_143
  let main_cst_144 : FVec F S_ .f32 := constant S_ .f32 0x00000000#32
  let main_v457 : FVec F S128 .f32 := broadcastInDim S128 ![] bcast_S_S128 main_cst_144
  let main_v458 : IVec S128 1 := cmpf .une main_v427 main_v457
  let main_c_145 : IVec S_ 1 := constantI S_ 1 1#1
  let main_v459 : IVec S_ 1 := (fun x v => Host.reduce IntOp.andi x v reducesTo_S128_S_d0 h_S_) main_v458 main_c_145
  let main_v460 : IVec S_ 1 := andi main_v456 main_v459
  let main_c_146 : IVec S_ 32 := constantI S_ 32 1#32
  let main_v461 : IVec S128 32 := broadcastInDim S128 ![] bcast_S_S128 main_c_146
  let main_v462 : IVec S128 1 := cmpi .eq main_v447 main_v461
  let main_c_147 : IVec S_ 1 := constantI S_ 1 1#1
  let main_v463 : IVec S_ 1 := (fun x v => Host.reduce IntOp.andi x v reducesTo_S128_S_d0 h_S_) main_v462 main_c_147
  let main_v464 : IVec S_ 1 := andi main_v460 main_v463
  let main_c_148 : IVec S_ 32 := constantI S_ 32 1#32
  let main_v465 : IVec S128 32 := broadcastInDim S128 ![] bcast_S_S128 main_c_148
  let main_v466 : IVec S128 1 := cmpi .eq main_v453 main_v465
  let main_c_149 : IVec S_ 1 := constantI S_ 1 1#1
  let main_v467 : IVec S_ 1 := (fun x v => Host.reduce IntOp.andi x v reducesTo_S128_S_d0 h_S_) main_v466 main_c_149
  let main_v468 : IVec S_ 1 := andi main_v464 main_v467
  main_v468

def fn_part24 {F : FTy → Type} [FloatOps F] (main_v391 : FVec F S128x100000 .f32) (main_v425 : FVec F S128x100000 .f32) (main_v426 : FVec F S128 .f32) (main_v427 : FVec F S128 .f32) (main_v434 : FVec F S128x100000 .f32) (main_v436 : FVec F S128x100000 .f32) : IVec S_ 1 :=
  let main_v437 : FVec F S128x100000 .f32 := Host.divf main_v425 main_v436
  let main_cst_137 : FVec F S_ .f32 := constant S_ .f32 0x33D6BF95#32
  let main_v438 : FVec F S128x100000 .f32 := broadcastInDim S128x100000 ![] bcast_S_S128x100000 main_cst_137
  let main_v439 : FVec F S128x100000 .f32 := addf main_v437 main_v438
  let main_v440 : FVec F S128x100000 .f32 := Host.log main_v439
  let main_v441 : FVec F S128x100000 .f32 := addf main_v391 main_v440
  let main_cst_138 : FVec F S_ .f32 := constant S_ .f32 0xFF800000#32
  let main_v442 : FVec F S128 .f32 := (fun x v => Host.reduce FloatOps.maximumf x v reducesTo_S128x100000_S128_d1 h_S_) main_v434 main_cst_138
  let main_v443 : FVec F S128x1 .f32 := broadcastInDim S128x1 ![0] bcast_S128_S128x1_0 main_v442
  let main_v444 : FVec F S128x100000 .f32 := broadcastInDim S128x100000 ![0, 1] bcast_S128x1_S128x100000_0_1 main_v443
  let main_v445 : IVec S128x100000 1 := cmpf .oeq main_v434 main_v444
  let main_v446 : IVec S128x100000 32 := (extui 32 · natLt_1_32) main_v445
  let main_c_139 : IVec S_ 32 := constantI S_ 32 0#32
  let main_v447 : IVec S128 32 := (fun x v => Host.reduce IntOp.addi x v reducesTo_S128x100000_S128_d1 h_S_) main_v446 main_c_139
  let main_cst_140 : FVec F S_ .f32 := constant S_ .f32 0xFF800000#32
  let main_v448 : FVec F S128 .f32 := (fun x v => Host.reduce FloatOps.maximumf x v reducesTo_S128x100000_S128_d1 h_S_) main_v441 main_cst_140
  let main_v449 : FVec F S128x1 .f32 := broadcastInDim S128x1 ![0] bcast_S128_S128x1_0 main_v448
  let main_v450 : FVec F S128x100000 .f32 := broadcastInDim S128x100000 ![0, 1] bcast_S128x1_S128x100000_0_1 main_v449
  let main_v451 : IVec S128x100000 1 := cmpf .oeq main_v441 main_v450
  let main_v452 : IVec S128x100000 32 := (extui 32 · natLt_1_32) main_v451
  let main_c_141 : IVec S_ 32 := constantI S_ 32 0#32
  let main_v453 : IVec S128 32 := (fun x v => Host.reduce IntOp.addi x v reducesTo_S128x100000_S128_d1 h_S_) main_v452 main_c_141
  let main_cst_142 : FVec F S_ .f32 := constant S_ .f32 0x00000000#32
  let main_v454 : FVec F S128 .f32 := broadcastInDim S128 ![] bcast_S_S128 main_cst_142
  fn_part25 (F := F) main_v426 main_v427 main_v447 main_v453 main_v454

def fn_part23 {F : FTy → Type} [FloatOps F] (main_v195 : FVec F S128x100000 .f32) (main_v391 : FVec F S128x100000 .f32) (main_v393 : FVec F S128x100000 .f32) (main_v409 : FVec F S128x100000 .f32) (main_v417 : FVec F S128x100000 .f32) : IVec S_ 1 :=
  let main_v418 : FVec F S128x100000 .f32 := Host.exp main_v417
  let main_cst_132 : FVec F S_ .f32 := constant S_ .f32 0x00000000#32
  let main_v419 : FVec F S128 .f32 := (fun x v => Host.reduceAdd x v reducesTo_S128x100000_S128_d1 h_S_) main_v418 main_cst_132
  let main_v420 : FVec F S128x1 .f32 := broadcastInDim S128x1 ![0] bcast_S128_S128x1_0 main_v419
  let main_v421 : FVec F S128x100000 .f32 := broadcastInDim S128x100000 ![0, 1] bcast_S128x1_S128x100000_0_1 main_v420
  let main_v422 : FVec F S128x100000 .f32 := Host.divf main_v418 main_v421
  let main_cst_133 : FVec F S_ .f32 := constant S_ .f32 0x33D6BF95#32
  let main_v423 : FVec F S128x100000 .f32 := broadcastInDim S128x100000 ![] bcast_S_S128x100000 main_cst_133
  let main_v424 : FVec F S128x100000 .f32 := addf main_v422 main_v423
  let main_v425 : FVec F S128x100000 .f32 := mulf main_v424 main_v393
  let main_cst_134 : FVec F S_ .f32 := constant S_ .f32 0x00000000#32
  let main_v426 : FVec F S128 .f32 := (fun x v => Host.reduceAdd x v reducesTo_S128x100000_S128_d1 h_S_) main_v409 main_cst_134
  let main_cst_135 : FVec F S_ .f32 := constant S_ .f32 0x00000000#32
  let main_v427 : FVec F S128 .f32 := (fun x v => Host.reduceAdd x v reducesTo_S128x100000_S128_d1 h_S_) main_v425 main_cst_135
  let main_v428 : FVec F S128x1 .f32 := broadcastInDim S128x1 ![0] bcast_S128_S128x1_0 main_v426
  let main_v429 : FVec F S128x100000 .f32 := broadcastInDim S128x100000 ![0, 1] bcast_S128x1_S128x100000_0_1 main_v428
  let main_v430 : FVec F S128x100000 .f32 := Host.divf main_v409 main_v429
  let main_cst_136 : FVec F S_ .f32 := constant S_ .f32 0x33D6BF95#32
  let main_v431 : FVec F S128x100000 .f32 := broadcastInDim S128x100000 ![] bcast_S_S128x100000 main_cst_136
  let main_v432 : FVec F S128x100000 .f32 := addf main_v430 main_v431
  let main_v433 : FVec F S128x100000 .f32 := Host.log main_v432
  let main_v434 : FVec F S128x100000 .f32 := addf main_v195 main_v433
  let main_v435 : FVec F S128x1 .f32 := broadcastInDim S128x1 ![0] bcast_S128_S128x1_0 main_v427
  let main_v436 : FVec F S128x100000 .f32 := broadcastInDim S128x100000 ![0, 1] bcast_S128x1_S128x100000_0_1 main_v435
  fn_part24 (F := F) main_v391 main_v425 main_v426 main_v427 main_v434 main_v436

def fn_part22 {F : FTy → Type} [FloatOps F] (main_arg0 : FVec F S2x128x100000 .f32) (main_v195 : FVec F S128x100000 .f32) (main_v391 : FVec F S128x100000 .f32) (main_v392 : FVec F S128x100000 .f32) (main_v393 : FVec F S128x100000 .f32) (main_v395 : FVec F S128x100000 .f32) (main_v396 : FVec F S128 .f32) (main_v397 : FVec F S128 .f32) : IVec S_ 1 :=
  let main_v398 : FVec F S128 .f32 := maximumf main_v397 main_v396
  let main_v399 : FVec F S128x1 .f32 := broadcastInDim S128x1 ![0] bcast_S128_S128x1_0 main_v398
  let main_v400 : FVec F S128x100000 .f32 := broadcastInDim S128x100000 ![0, 1] bcast_S128x1_S128x100000_0_1 main_v399
  let main_v401 : FVec F S128x100000 .f32 := subf main_v395 main_v400
  let main_v402 : FVec F S128x100000 .f32 := Host.exp main_v401
  let main_cst_128 : FVec F S_ .f32 := constant S_ .f32 0x00000000#32
  let main_v403 : FVec F S128 .f32 := (fun x v => Host.reduceAdd x v reducesTo_S128x100000_S128_d1 h_S_) main_v402 main_cst_128
  let main_v404 : FVec F S128x1 .f32 := broadcastInDim S128x1 ![0] bcast_S128_S128x1_0 main_v403
  let main_v405 : FVec F S128x100000 .f32 := broadcastInDim S128x100000 ![0, 1] bcast_S128x1_S128x100000_0_1 main_v404
  let main_v406 : FVec F S128x100000 .f32 := Host.divf main_v402 main_v405
  let main_cst_129 : FVec F S_ .f32 := constant S_ .f32 0x33D6BF95#32
  let main_v407 : FVec F S128x100000 .f32 := broadcastInDim S128x100000 ![] bcast_S_S128x100000 main_cst_129
  let main_v408 : FVec F S128x100000 .f32 := addf main_v406 main_v407
  let main_v409 : FVec F S128x100000 .f32 := mulf main_v408 main_v392
  let main_v410 : FVec F S1x128x100000 .f32 := (extractStridedSlice S1x128x100000 ![1, 0, 0] · slices_S2x128x100000_S1x128x100000_1_0_0) main_arg0
  let main_v411 : FVec F S128x100000 .f32 := shapeCast S128x100000 main_v410 shapeCasts_S1x128x100000_S128x100000
  let main_cst_130 : FVec F S_ .f32 := constant S_ .f32 0xFF800000#32
  let main_v412 : FVec F S128 .f32 := (fun x v => Host.reduce FloatOps.maximumf x v reducesTo_S128x100000_S128_d1 h_S_) main_v411 main_cst_130
  let main_cst_131 : FVec F S_ .f32 := constant S_ .f32 0xFF800000#32
  let main_v413 : FVec F S128 .f32 := broadcastInDim S128 ![] bcast_S_S128 main_cst_131
  let main_v414 : FVec F S128 .f32 := maximumf main_v413 main_v412
  let main_v415 : FVec F S128x1 .f32 := broadcastInDim S128x1 ![0] bcast_S128_S128x1_0 main_v414
  let main_v416 : FVec F S128x100000 .f32 := broadcastInDim S128x100000 ![0, 1] bcast_S128x1_S128x100000_0_1 main_v415
  let main_v417 : FVec F S128x100000 .f32 := subf main_v411 main_v416
  fn_part23 (F := F) main_v195 main_v391 main_v393 main_v409 main_v417

def fn_part21 {F : FTy → Type} [FloatOps F] (main_arg0 : FVec F S2x128x100000 .f32) (main_arg1 : FVec F S128x200000 .f32) (main_v195 : FVec F S128x100000 .f32) (main_v379 : FVec F S128x100000 .f32) : IVec S_ 1 :=
  let main_cst_122 : FVec F S_ .f32 := constant S_ .f32 0x3F800000#32
  let main_v380 : FVec F S128x100000 .f32 := broadcastInDim S128x100000 ![] bcast_S_S128x100000 main_cst_122
  let main_v381 : FVec F S128x100000 .f32 := subf main_v379 main_v380
  let main_cst_123 : FVec F S_ .f32 := constant S_ .f32 0x3F800000#32
  let main_v382 : FVec F S128x100000 .f32 := broadcastInDim S128x100000 ![] bcast_S_S128x100000 main_cst_123
  let main_v383 : FVec F S128x100000 .f32 := mulf main_v381 main_v382
  let main_cst_124 : FVec F S_ .f32 := constant S_ .f32 0x00800000#32
  let main_v384 : FVec F S128x100000 .f32 := broadcastInDim S128x100000 ![] bcast_S_S128x100000 main_cst_124
  let main_v385 : FVec F S128x100000 .f32 := addf main_v383 main_v384
  let main_cst_125 : FVec F S_ .f32 := constant S_ .f32 0x00800000#32
  let main_v386 : FVec F S128x100000 .f32 := broadcastInDim S128x100000 ![] bcast_S_S128x100000 main_cst_125
  let main_v387 : FVec F S128x100000 .f32 := maximumf main_v386 main_v385
  let main_v388 : FVec F S128x100000 .f32 := Host.log main_v387
  let main_v389 : FVec F S128x100000 .f32 := Host.negf main_v388
  let main_v390 : FVec F S128x100000 .f32 := Host.log main_v389
  let main_v391 : FVec F S128x100000 .f32 := Host.negf main_v390
  let main_v392 : FVec F S128x100000 .f32 := (extractStridedSlice S128x100000 ![0, 0] · slices_S128x200000_S128x100000_0_0) main_arg1
  let main_v393 : FVec F S128x100000 .f32 := (extractStridedSlice S128x100000 ![0, 100000] · slices_S128x200000_S128x100000_0_100000) main_arg1
  let main_v394 : FVec F S1x128x100000 .f32 := (extractStridedSlice S1x128x100000 ![0, 0, 0] · slices_S2x128x100000_S1x128x100000_0_0_0) main_arg0
  let main_v395 : FVec F S128x100000 .f32 := shapeCast S128x100000 main_v394 shapeCasts_S1x128x100000_S128x100000
  let main_cst_126 : FVec F S_ .f32 := constant S_ .f32 0xFF800000#32
  let main_v396 : FVec F S128 .f32 := (fun x v => Host.reduce FloatOps.maximumf x v reducesTo_S128x100000_S128_d1 h_S_) main_v395 main_cst_126
  let main_cst_127 : FVec F S_ .f32 := constant S_ .f32 0xFF800000#32
  let main_v397 : FVec F S128 .f32 := broadcastInDim S128 ![] bcast_S_S128 main_cst_127
  fn_part22 (F := F) main_arg0 main_v195 main_v391 main_v392 main_v393 main_v395 main_v396 main_v397

def fn_part20 {F : FTy → Type} [FloatOps F] (main_arg0 : FVec F S2x128x100000 .f32) (main_arg1 : FVec F S128x200000 .f32) (main_v195 : FVec F S128x100000 .f32) (main_v360 : IVec S128x100000 32) (main_v361 : IVec S128x100000 32) (main_c_115 : IVec S_ 32) : IVec S_ 1 :=
  let main_v362 : IVec S128x100000 32 := broadcastInDim S128x100000 ![] bcast_S_S128x100000 main_c_115
  let main_v363 : IVec S128x100000 32 := Host.shli main_v360 main_v362
  let main_c_116 : IVec S_ 32 := constantI S_ 32 26#32
  let main_v364 : IVec S128x100000 32 := broadcastInDim S128x100000 ![] bcast_S_S128x100000 main_c_116
  let main_v365 : IVec S128x100000 32 := Host.shrui main_v360 main_v364
  let main_v366 : IVec S128x100000 32 := ori main_v363 main_v365
  let main_v367 : IVec S128x100000 32 := xori main_v361 main_v366
  let main_c_117 : IVec S_ 32 := constantI S_ 32 3050711811#32
  let main_v368 : IVec S128x100000 32 := broadcastInDim S128x100000 ![] bcast_S_S128x100000 main_c_117
  let main_v369 : IVec S128x100000 32 := addi main_v361 main_v368
  let main_c_118 : IVec S_ 32 := constantI S_ 32 64467757#32
  let main_v370 : IVec S128x100000 32 := broadcastInDim S128x100000 ![] bcast_S_S128x100000 main_c_118
  let main_v371 : IVec S128x100000 32 := addi main_v367 main_v370
  let main_c_119 : IVec S_ 32 := constantI S_ 32 5#32
  let main_v372 : IVec S128x100000 32 := broadcastInDim S128x100000 ![] bcast_S_S128x100000 main_c_119
  let main_v373 : IVec S128x100000 32 := addi main_v371 main_v372
  let main_v374 : IVec S128x100000 32 := xori main_v369 main_v373
  let main_c_120 : IVec S_ 32 := constantI S_ 32 9#32
  let main_v375 : IVec S128x100000 32 := broadcastInDim S128x100000 ![] bcast_S_S128x100000 main_c_120
  let main_v376 : IVec S128x100000 32 := Host.shrui main_v374 main_v375
  let main_c_121 : IVec S_ 32 := constantI S_ 32 1065353216#32
  let main_v377 : IVec S128x100000 32 := broadcastInDim S128x100000 ![] bcast_S_S128x100000 main_c_121
  let main_v378 : IVec S128x100000 32 := ori main_v376 main_v377
  let main_v379 : FVec F S128x100000 .f32 := bitcastToFloat .f32 main_v378
  fn_part21 (F := F) main_arg0 main_arg1 main_v195 main_v379

def fn_part19 {F : FTy → Type} [FloatOps F] (main_arg0 : FVec F S2x128x100000 .f32) (main_arg1 : FVec F S128x200000 .f32) (main_v195 : FVec F S128x100000 .f32) (main_v339 : IVec S128x100000 32) (main_v340 : IVec S128x100000 32) (main_v342 : IVec S128x100000 32) (main_c_110 : IVec S_ 32) : IVec S_ 1 :=
  let main_v343 : IVec S128x100000 32 := broadcastInDim S128x100000 ![] bcast_S_S128x100000 main_c_110
  let main_v344 : IVec S128x100000 32 := Host.shrui main_v339 main_v343
  let main_v345 : IVec S128x100000 32 := ori main_v342 main_v344
  let main_v346 : IVec S128x100000 32 := xori main_v340 main_v345
  let main_v347 : IVec S128x100000 32 := addi main_v340 main_v346
  let main_c_111 : IVec S_ 32 := constantI S_ 32 15#32
  let main_v348 : IVec S128x100000 32 := broadcastInDim S128x100000 ![] bcast_S_S128x100000 main_c_111
  let main_v349 : IVec S128x100000 32 := Host.shli main_v346 main_v348
  let main_c_112 : IVec S_ 32 := constantI S_ 32 17#32
  let main_v350 : IVec S128x100000 32 := broadcastInDim S128x100000 ![] bcast_S_S128x100000 main_c_112
  let main_v351 : IVec S128x100000 32 := Host.shrui main_v346 main_v350
  let main_v352 : IVec S128x100000 32 := ori main_v349 main_v351
  let main_v353 : IVec S128x100000 32 := xori main_v347 main_v352
  let main_v354 : IVec S128x100000 32 := addi main_v347 main_v353
  let main_c_113 : IVec S_ 32 := constantI S_ 32 26#32
  let main_v355 : IVec S128x100000 32 := broadcastInDim S128x100000 ![] bcast_S_S128x100000 main_c_113
  let main_v356 : IVec S128x100000 32 := Host.shli main_v353 main_v355
  let main_c_114 : IVec S_ 32 := constantI S_ 32 6#32
  let main_v357 : IVec S128x100000 32 := broadcastInDim S128x100000 ![] bcast_S_S128x100000 main_c_114
  let main_v358 : IVec S128x100000 32 := Host.shrui main_v353 main_v357
  let main_v359 : IVec S128x100000 32 := ori main_v356 main_v358
  let main_v360 : IVec S128x100000 32 := xori main_v354 main_v359
  let main_v361 : IVec S128x100000 32 := addi main_v354 main_v360
  let main_c_115 : IVec S_ 32 := constantI S_ 32 6#32
  fn_part20 (F := F) main_arg0 main_arg1 main_v195 main_v360 main_v361 main_c_115

def fn_part18 {F : FTy → Type} [FloatOps F] (main_arg0 : FVec F S2x128x100000 .f32) (main_arg1 : FVec F S128x200000 .f32) (main_v195 : FVec F S128x100000 .f32) (main_v320 : IVec S128x100000 32) (main_v325 : IVec S128x100000 32) : IVec S_ 1 :=
  let main_v326 : IVec S128x100000 32 := xori main_v320 main_v325
  let main_v327 : IVec S128x100000 32 := addi main_v320 main_v326
  let main_c_104 : IVec S_ 32 := constantI S_ 32 24#32
  let main_v328 : IVec S128x100000 32 := broadcastInDim S128x100000 ![] bcast_S_S128x100000 main_c_104
  let main_v329 : IVec S128x100000 32 := Host.shli main_v326 main_v328
  let main_c_105 : IVec S_ 32 := constantI S_ 32 8#32
  let main_v330 : IVec S128x100000 32 := broadcastInDim S128x100000 ![] bcast_S_S128x100000 main_c_105
  let main_v331 : IVec S128x100000 32 := Host.shrui main_v326 main_v330
  let main_v332 : IVec S128x100000 32 := ori main_v329 main_v331
  let main_v333 : IVec S128x100000 32 := xori main_v327 main_v332
  let main_c_106 : IVec S_ 32 := constantI S_ 32 2916123636#32
  let main_v334 : IVec S128x100000 32 := broadcastInDim S128x100000 ![] bcast_S_S128x100000 main_c_106
  let main_v335 : IVec S128x100000 32 := addi main_v327 main_v334
  let main_c_107 : IVec S_ 32 := constantI S_ 32 3050711811#32
  let main_v336 : IVec S128x100000 32 := broadcastInDim S128x100000 ![] bcast_S_S128x100000 main_c_107
  let main_v337 : IVec S128x100000 32 := addi main_v333 main_v336
  let main_c_108 : IVec S_ 32 := constantI S_ 32 4#32
  let main_v338 : IVec S128x100000 32 := broadcastInDim S128x100000 ![] bcast_S_S128x100000 main_c_108
  let main_v339 : IVec S128x100000 32 := addi main_v337 main_v338
  let main_v340 : IVec S128x100000 32 := addi main_v335 main_v339
  let main_c_109 : IVec S_ 32 := constantI S_ 32 13#32
  let main_v341 : IVec S128x100000 32 := broadcastInDim S128x100000 ![] bcast_S_S128x100000 main_c_109
  let main_v342 : IVec S128x100000 32 := Host.shli main_v339 main_v341
  let main_c_110 : IVec S_ 32 := constantI S_ 32 19#32
  fn_part19 (F := F) main_arg0 main_arg1 main_v195 main_v339 main_v340 main_v342 main_c_110

def fn_part17 {F : FTy → Type} [FloatOps F] (main_arg0 : FVec F S2x128x100000 .f32) (main_arg1 : FVec F S128x200000 .f32) (main_v195 : FVec F S128x100000 .f32) (main_v305 : IVec S128x100000 32) (main_v306 : IVec S128x100000 32) (main_c_98 : IVec S_ 32) : IVec S_ 1 :=
  let main_v307 : IVec S128x100000 32 := broadcastInDim S128x100000 ![] bcast_S_S128x100000 main_c_98
  let main_v308 : IVec S128x100000 32 := Host.shli main_v305 main_v307
  let main_c_99 : IVec S_ 32 := constantI S_ 32 15#32
  let main_v309 : IVec S128x100000 32 := broadcastInDim S128x100000 ![] bcast_S_S128x100000 main_c_99
  let main_v310 : IVec S128x100000 32 := Host.shrui main_v305 main_v309
  let main_v311 : IVec S128x100000 32 := ori main_v308 main_v310
  let main_v312 : IVec S128x100000 32 := xori main_v306 main_v311
  let main_v313 : IVec S128x100000 32 := addi main_v306 main_v312
  let main_c_100 : IVec S_ 32 := constantI S_ 32 29#32
  let main_v314 : IVec S128x100000 32 := broadcastInDim S128x100000 ![] bcast_S_S128x100000 main_c_100
  let main_v315 : IVec S128x100000 32 := Host.shli main_v312 main_v314
  let main_c_101 : IVec S_ 32 := constantI S_ 32 3#32
  let main_v316 : IVec S128x100000 32 := broadcastInDim S128x100000 ![] bcast_S_S128x100000 main_c_101
  let main_v317 : IVec S128x100000 32 := Host.shrui main_v312 main_v316
  let main_v318 : IVec S128x100000 32 := ori main_v315 main_v317
  let main_v319 : IVec S128x100000 32 := xori main_v313 main_v318
  let main_v320 : IVec S128x100000 32 := addi main_v313 main_v319
  let main_c_102 : IVec S_ 32 := constantI S_ 32 16#32
  let main_v321 : IVec S128x100000 32 := broadcastInDim S128x100000 ![] bcast_S_S128x100000 main_c_102
  let main_v322 : IVec S128x100000 32 := Host.shli main_v319 main_v321
  let main_c_103 : IVec S_ 32 := constantI S_ 32 16#32
  let main_v323 : IVec S128x100000 32 := broadcastInDim S128x100000 ![] bcast_S_S128x100000 main_c_103
  let main_v324 : IVec S128x100000 32 := Host.shrui main_v319 main_v323
  let main_v325 : IVec S128x100000 32 := ori main_v322 main_v324
  fn_part18 (F := F) main_arg0 main_arg1 main_v195 main_v320 main_v325

def fn_part16 {F : FTy → Type} [FloatOps F] (main_arg0 : FVec F S2x128x100000 .f32) (main_arg1 : FVec F S128x200000 .f32) (main_v195 : FVec F S128x100000 .f32) (main_v285 : IVec S128x100000 32) (main_v286 : IVec S128x100000 32) (main_v288 : IVec S128x100000 32) (main_c_92 : IVec S_ 32) : IVec S_ 1 :=
  let main_v289 : IVec S128x100000 32 := broadcastInDim S128x100000 ![] bcast_S_S128x100000 main_c_92
  let main_v290 : IVec S128x100000 32 := Host.shrui main_v285 main_v289
  let main_v291 : IVec S128x100000 32 := ori main_v288 main_v290
  let main_v292 : IVec S128x100000 32 := xori main_v286 main_v291
  let main_v293 : IVec S128x100000 32 := addi main_v286 main_v292
  let main_c_93 : IVec S_ 32 := constantI S_ 32 6#32
  let main_v294 : IVec S128x100000 32 := broadcastInDim S128x100000 ![] bcast_S_S128x100000 main_c_93
  let main_v295 : IVec S128x100000 32 := Host.shli main_v292 main_v294
  let main_c_94 : IVec S_ 32 := constantI S_ 32 26#32
  let main_v296 : IVec S128x100000 32 := broadcastInDim S128x100000 ![] bcast_S_S128x100000 main_c_94
  let main_v297 : IVec S128x100000 32 := Host.shrui main_v292 main_v296
  let main_v298 : IVec S128x100000 32 := ori main_v295 main_v297
  let main_v299 : IVec S128x100000 32 := xori main_v293 main_v298
  let main_c_95 : IVec S_ 32 := constantI S_ 32 64467757#32
  let main_v300 : IVec S128x100000 32 := broadcastInDim S128x100000 ![] bcast_S_S128x100000 main_c_95
  let main_v301 : IVec S128x100000 32 := addi main_v293 main_v300
  let main_c_96 : IVec S_ 32 := constantI S_ 32 2916123636#32
  let main_v302 : IVec S128x100000 32 := broadcastInDim S128x100000 ![] bcast_S_S128x100000 main_c_96
  let main_v303 : IVec S128x100000 32 := addi main_v299 main_v302
  let main_c_97 : IVec S_ 32 := constantI S_ 32 3#32
  let main_v304 : IVec S128x100000 32 := broadcastInDim S128x100000 ![] bcast_S_S128x100000 main_c_97
  let main_v305 : IVec S128x100000 32 := addi main_v303 main_v304
  let main_v306 : IVec S128x100000 32 := addi main_v301 main_v305
  let main_c_98 : IVec S_ 32 := constantI S_ 32 17#32
  fn_part17 (F := F) main_arg0 main_arg1 main_v195 main_v305 main_v306 main_c_98

def fn_part15 {F : FTy → Type} [FloatOps F] (main_arg0 : FVec F S2x128x100000 .f32) (main_arg1 : FVec F S128x200000 .f32) (main_v195 : FVec F S128x100000 .f32) (main_v267 : IVec S128x100000 32) (main_v269 : IVec S128x100000 32) (main_v270 : IVec S128x100000 32) : IVec S_ 1 :=
  let main_v271 : IVec S128x100000 32 := addi main_v269 main_v270
  let main_v272 : IVec S128x100000 32 := addi main_v267 main_v271
  let main_c_87 : IVec S_ 32 := constantI S_ 32 13#32
  let main_v273 : IVec S128x100000 32 := broadcastInDim S128x100000 ![] bcast_S_S128x100000 main_c_87
  let main_v274 : IVec S128x100000 32 := Host.shli main_v271 main_v273
  let main_c_88 : IVec S_ 32 := constantI S_ 32 19#32
  let main_v275 : IVec S128x100000 32 := broadcastInDim S128x100000 ![] bcast_S_S128x100000 main_c_88
  let main_v276 : IVec S128x100000 32 := Host.shrui main_v271 main_v275
  let main_v277 : IVec S128x100000 32 := ori main_v274 main_v276
  let main_v278 : IVec S128x100000 32 := xori main_v272 main_v277
  let main_v279 : IVec S128x100000 32 := addi main_v272 main_v278
  let main_c_89 : IVec S_ 32 := constantI S_ 32 15#32
  let main_v280 : IVec S128x100000 32 := broadcastInDim S128x100000 ![] bcast_S_S128x100000 main_c_89
  let main_v281 : IVec S128x100000 32 := Host.shli main_v278 main_v280
  let main_c_90 : IVec S_ 32 := constantI S_ 32 17#32
  let main_v282 : IVec S128x100000 32 := broadcastInDim S128x100000 ![] bcast_S_S128x100000 main_c_90
  let main_v283 : IVec S128x100000 32 := Host.shrui main_v278 main_v282
  let main_v284 : IVec S128x100000 32 := ori main_v281 main_v283
  let main_v285 : IVec S128x100000 32 := xori main_v279 main_v284
  let main_v286 : IVec S128x100000 32 := addi main_v279 main_v285
  let main_c_91 : IVec S_ 32 := constantI S_ 32 26#32
  let main_v287 : IVec S128x100000 32 := broadcastInDim S128x100000 ![] bcast_S_S128x100000 main_c_91
  let main_v288 : IVec S128x100000 32 := Host.shli main_v285 main_v287
  let main_c_92 : IVec S_ 32 := constantI S_ 32 6#32
  fn_part16 (F := F) main_arg0 main_arg1 main_v195 main_v285 main_v286 main_v288 main_c_92

def fn_part14 {F : FTy → Type} [FloatOps F] (main_arg0 : FVec F S2x128x100000 .f32) (main_arg1 : FVec F S128x200000 .f32) (main_v195 : FVec F S128x100000 .f32) (main_v251 : IVec S128x100000 32) (main_v252 : IVec S128x100000 32) (main_c_80 : IVec S_ 32) : IVec S_ 1 :=
  let main_v253 : IVec S128x100000 32 := broadcastInDim S128x100000 ![] bcast_S_S128x100000 main_c_80
  let main_v254 : IVec S128x100000 32 := Host.shli main_v251 main_v253
  let main_c_81 : IVec S_ 32 := constantI S_ 32 16#32
  let main_v255 : IVec S128x100000 32 := broadcastInDim S128x100000 ![] bcast_S_S128x100000 main_c_81
  let main_v256 : IVec S128x100000 32 := Host.shrui main_v251 main_v255
  let main_v257 : IVec S128x100000 32 := ori main_v254 main_v256
  let main_v258 : IVec S128x100000 32 := xori main_v252 main_v257
  let main_v259 : IVec S128x100000 32 := addi main_v252 main_v258
  let main_c_82 : IVec S_ 32 := constantI S_ 32 24#32
  let main_v260 : IVec S128x100000 32 := broadcastInDim S128x100000 ![] bcast_S_S128x100000 main_c_82
  let main_v261 : IVec S128x100000 32 := Host.shli main_v258 main_v260
  let main_c_83 : IVec S_ 32 := constantI S_ 32 8#32
  let main_v262 : IVec S128x100000 32 := broadcastInDim S128x100000 ![] bcast_S_S128x100000 main_c_83
  let main_v263 : IVec S128x100000 32 := Host.shrui main_v258 main_v262
  let main_v264 : IVec S128x100000 32 := ori main_v261 main_v263
  let main_v265 : IVec S128x100000 32 := xori main_v259 main_v264
  let main_c_84 : IVec S_ 32 := constantI S_ 32 3050711811#32
  let main_v266 : IVec S128x100000 32 := broadcastInDim S128x100000 ![] bcast_S_S128x100000 main_c_84
  let main_v267 : IVec S128x100000 32 := addi main_v259 main_v266
  let main_c_85 : IVec S_ 32 := constantI S_ 32 64467757#32
  let main_v268 : IVec S128x100000 32 := broadcastInDim S128x100000 ![] bcast_S_S128x100000 main_c_85
  let main_v269 : IVec S128x100000 32 := addi main_v265 main_v268
  let main_c_86 : IVec S_ 32 := constantI S_ 32 2#32
  let main_v270 : IVec S128x100000 32 := broadcastInDim S128x100000 ![] bcast_S_S128x100000 main_c_86
  fn_part15 (F := F) main_arg0 main_arg1 main_v195 main_v267 main_v269 main_v270

def fn_part13 {F : FTy → Type} [FloatOps F] (main_arg0 : FVec F S2x128x100000 .f32) (main_arg1 : FVec F S128x200000 .f32) (main_v195 : FVec F S128x100000 .f32) (main_v231 : IVec S128x100000 32) (main_v233 : IVec S128x100000 32) (main_v234 : IVec S128x100000 32) : IVec S_ 1 :=
  let main_v235 : IVec S128x100000 32 := addi main_v231 main_v234
  let main_c_75 : IVec S_ 32 := constantI S_ 32 1#32
  let main_v236 : IVec S128x100000 32 := broadcastInDim S128x100000 ![] bcast_S_S128x100000 main_c_75
  let main_v237 : IVec S128x100000 32 := addi main_v235 main_v236
  let main_v238 : IVec S128x100000 32 := addi main_v233 main_v237
  let main_c_76 : IVec S_ 32 := constantI S_ 32 17#32
  let main_v239 : IVec S128x100000 32 := broadcastInDim S128x100000 ![] bcast_S_S128x100000 main_c_76
  let main_v240 : IVec S128x100000 32 := Host.shli main_v237 main_v239
  let main_c_77 : IVec S_ 32 := constantI S_ 32 15#32
  let main_v241 : IVec S128x100000 32 := broadcastInDim S128x100000 ![] bcast_S_S128x100000 main_c_77
  let main_v242 : IVec S128x100000 32 := Host.shrui main_v237 main_v241
  let main_v243 : IVec S128x100000 32 := ori main_v240 main_v242
  let main_v244 : IVec S128x100000 32 := xori main_v238 main_v243
  let main_v245 : IVec S128x100000 32 := addi main_v238 main_v244
  let main_c_78 : IVec S_ 32 := constantI S_ 32 29#32
  let main_v246 : IVec S128x100000 32 := broadcastInDim S128x100000 ![] bcast_S_S128x100000 main_c_78
  let main_v247 : IVec S128x100000 32 := Host.shli main_v244 main_v246
  let main_c_79 : IVec S_ 32 := constantI S_ 32 3#32
  let main_v248 : IVec S128x100000 32 := broadcastInDim S128x100000 ![] bcast_S_S128x100000 main_c_79
  let main_v249 : IVec S128x100000 32 := Host.shrui main_v244 main_v248
  let main_v250 : IVec S128x100000 32 := ori main_v247 main_v249
  let main_v251 : IVec S128x100000 32 := xori main_v245 main_v250
  let main_v252 : IVec S128x100000 32 := addi main_v245 main_v251
  let main_c_80 : IVec S_ 32 := constantI S_ 32 16#32
  fn_part14 (F := F) main_arg0 main_arg1 main_v195 main_v251 main_v252 main_c_80

def fn_part12 {F : FTy → Type} [FloatOps F] (main_arg0 : FVec F S2x128x100000 .f32) (main_arg1 : FVec F S128x200000 .f32) (main_v195 : FVec F S128x100000 .f32) (main_v211 : IVec S128x100000 32) (main_v216 : IVec S128x100000 32) : IVec S_ 1 :=
  let main_v217 : IVec S128x100000 32 := xori main_v211 main_v216
  let main_v218 : IVec S128x100000 32 := addi main_v211 main_v217
  let main_c_69 : IVec S_ 32 := constantI S_ 32 26#32
  let main_v219 : IVec S128x100000 32 := broadcastInDim S128x100000 ![] bcast_S_S128x100000 main_c_69
  let main_v220 : IVec S128x100000 32 := Host.shli main_v217 main_v219
  let main_c_70 : IVec S_ 32 := constantI S_ 32 6#32
  let main_v221 : IVec S128x100000 32 := broadcastInDim S128x100000 ![] bcast_S_S128x100000 main_c_70
  let main_v222 : IVec S128x100000 32 := Host.shrui main_v217 main_v221
  let main_v223 : IVec S128x100000 32 := ori main_v220 main_v222
  let main_v224 : IVec S128x100000 32 := xori main_v218 main_v223
  let main_v225 : IVec S128x100000 32 := addi main_v218 main_v224
  let main_c_71 : IVec S_ 32 := constantI S_ 32 6#32
  let main_v226 : IVec S128x100000 32 := broadcastInDim S128x100000 ![] bcast_S_S128x100000 main_c_71
  let main_v227 : IVec S128x100000 32 := Host.shli main_v224 main_v226
  let main_c_72 : IVec S_ 32 := constantI S_ 32 26#32
  let main_v228 : IVec S128x100000 32 := broadcastInDim S128x100000 ![] bcast_S_S128x100000 main_c_72
  let main_v229 : IVec S128x100000 32 := Host.shrui main_v224 main_v228
  let main_v230 : IVec S128x100000 32 := ori main_v227 main_v229
  let main_v231 : IVec S128x100000 32 := xori main_v225 main_v230
  let main_c_73 : IVec S_ 32 := constantI S_ 32 2916123636#32
  let main_v232 : IVec S128x100000 32 := broadcastInDim S128x100000 ![] bcast_S_S128x100000 main_c_73
  let main_v233 : IVec S128x100000 32 := addi main_v225 main_v232
  let main_c_74 : IVec S_ 32 := constantI S_ 32 3050711811#32
  let main_v234 : IVec S128x100000 32 := broadcastInDim S128x100000 ![] bcast_S_S128x100000 main_c_74
  fn_part13 (F := F) main_arg0 main_arg1 main_v195 main_v231 main_v233 main_v234

def fn_part11 {F : FTy → Type} [FloatOps F] (main_arg0 : FVec F S2x128x100000 .f32) (main_arg1 : FVec F S128x200000 .f32) (main_v195 : FVec F S128x100000 .f32) (main_v196 : IVec S128x100000 32) (main_v197 : IVec S128x100000 32) (main_c_63 : IVec S_ 32) : IVec S_ 1 :=
  let main_v198 : IVec S128x100000 32 := broadcastInDim S128x100000 ![] bcast_S_S128x100000 main_c_63
  let main_v199 : IVec S128x100000 32 := muli main_v197 main_v198
  let main_v200 : IVec S128x100000 32 := iotaInDim S128x100000 32 1
  let main_v201 : IVec S128x100000 32 := addi main_v199 main_v200
  let main_c_64 : IVec S_ 32 := constantI S_ 32 2916123636#32
  let main_v202 : IVec S128x100000 32 := broadcastInDim S128x100000 ![] bcast_S_S128x100000 main_c_64
  let main_v203 : IVec S128x100000 32 := addi main_v201 main_v202
  let main_v204 : IVec S128x100000 32 := addi main_v196 main_v203
  let main_c_65 : IVec S_ 32 := constantI S_ 32 13#32
  let main_v205 : IVec S128x100000 32 := broadcastInDim S128x100000 ![] bcast_S_S128x100000 main_c_65
  let main_v206 : IVec S128x100000 32 := Host.shli main_v203 main_v205
  let main_c_66 : IVec S_ 32 := constantI S_ 32 19#32
  let main_v207 : IVec S128x100000 32 := broadcastInDim S128x100000 ![] bcast_S_S128x100000 main_c_66
  let main_v208 : IVec S128x100000 32 := Host.shrui main_v203 main_v207
  let main_v209 : IVec S128x100000 32 := ori main_v206 main_v208
  let main_v210 : IVec S128x100000 32 := xori main_v204 main_v209
  let main_v211 : IVec S128x100000 32 := addi main_v204 main_v210
  let main_c_67 : IVec S_ 32 := constantI S_ 32 15#32
  let main_v212 : IVec S128x100000 32 := broadcastInDim S128x100000 ![] bcast_S_S128x100000 main_c_67
  let main_v213 : IVec S128x100000 32 := Host.shli main_v210 main_v212
  let main_c_68 : IVec S_ 32 := constantI S_ 32 17#32
  let main_v214 : IVec S128x100000 32 := broadcastInDim S128x100000 ![] bcast_S_S128x100000 main_c_68
  let main_v215 : IVec S128x100000 32 := Host.shrui main_v210 main_v214
  let main_v216 : IVec S128x100000 32 := ori main_v213 main_v215
  fn_part12 (F := F) main_arg0 main_arg1 main_v195 main_v211 main_v216

def fn_part10 {F : FTy → Type} [FloatOps F] (main_arg0 : FVec F S2x128x100000 .f32) (main_arg1 : FVec F S128x200000 .f32) (main_v180 : IVec S128x100000 32) : IVec S_ 1 :=
  let main_c_58 : IVec S_ 32 := constantI S_ 32 1065353216#32
  let main_v181 : IVec S128x100000 32 := broadcastInDim S128x100000 ![] bcast_S_S128x100000 main_c_58
  let main_v182 : IVec S128x100000 32 := ori main_v180 main_v181
  let main_v183 : FVec F S128x100000 .f32 := bitcastToFloat .f32 main_v182
  let main_cst : FVec F S_ .f32 := constant S_ .f32 0x3F800000#32
  let main_v184 : FVec F S128x100000 .f32 := broadcastInDim S128x100000 ![] bcast_S_S128x100000 main_cst
  let main_v185 : FVec F S128x100000 .f32 := subf main_v183 main_v184
  let main_cst_59 : FVec F S_ .f32 := constant S_ .f32 0x3F800000#32
  let main_v186 : FVec F S128x100000 .f32 := broadcastInDim S128x100000 ![] bcast_S_S128x100000 main_cst_59
  let main_v187 : FVec F S128x100000 .f32 := mulf main_v185 main_v186
  let main_cst_60 : FVec F S_ .f32 := constant S_ .f32 0x00800000#32
  let main_v188 : FVec F S128x100000 .f32 := broadcastInDim S128x100000 ![] bcast_S_S128x100000 main_cst_60
  let main_v189 : FVec F S128x100000 .f32 := addf main_v187 main_v188
  let main_cst_61 : FVec F S_ .f32 := constant S_ .f32 0x00800000#32
  let main_v190 : FVec F S128x100000 .f32 := broadcastInDim S128x100000 ![] bcast_S_S128x100000 main_cst_61
  let main_v191 : FVec F S128x100000 .f32 := maximumf main_v190 main_v189
  let main_v192 : FVec F S128x100000 .f32 := Host.log main_v191
  let main_v193 : FVec F S128x100000 .f32 := Host.negf main_v192
  let main_v194 : FVec F S128x100000 .f32 := Host.log main_v193
  let main_v195 : FVec F S128x100000 .f32 := Host.negf main_v194
  let main_c_62 : IVec S_ 32 := constantI S_ 32 64467757#32
  let main_v196 : IVec S128x100000 32 := broadcastInDim S128x100000 ![] bcast_S_S128x100000 main_c_62
  let main_v197 : IVec S128x100000 32 := iotaInDim S128x100000 32 0
  let main_c_63 : IVec S_ 32 := constantI S_ 32 100000#32
  fn_part11 (F := F) main_arg0 main_arg1 main_v195 main_v196 main_v197 main_c_63

def fn_part9 {F : FTy → Type} [FloatOps F] (main_arg0 : FVec F S2x128x100000 .f32) (main_arg1 : FVec F S128x200000 .f32) (main_v158 : IVec S128x100000 32) (main_v160 : IVec S128x100000 32) (main_v162 : IVec S128x100000 32) : IVec S_ 1 :=
  let main_v163 : IVec S128x100000 32 := ori main_v160 main_v162
  let main_v164 : IVec S128x100000 32 := xori main_v158 main_v163
  let main_v165 : IVec S128x100000 32 := addi main_v158 main_v164
  let main_c_52 : IVec S_ 32 := constantI S_ 32 6#32
  let main_v166 : IVec S128x100000 32 := broadcastInDim S128x100000 ![] bcast_S_S128x100000 main_c_52
  let main_v167 : IVec S128x100000 32 := Host.shli main_v164 main_v166
  let main_c_53 : IVec S_ 32 := constantI S_ 32 26#32
  let main_v168 : IVec S128x100000 32 := broadcastInDim S128x100000 ![] bcast_S_S128x100000 main_c_53
  let main_v169 : IVec S128x100000 32 := Host.shrui main_v164 main_v168
  let main_v170 : IVec S128x100000 32 := ori main_v167 main_v169
  let main_v171 : IVec S128x100000 32 := xori main_v165 main_v170
  let main_c_54 : IVec S_ 32 := constantI S_ 32 1724713080#32
  let main_v172 : IVec S128x100000 32 := broadcastInDim S128x100000 ![] bcast_S_S128x100000 main_c_54
  let main_v173 : IVec S128x100000 32 := addi main_v165 main_v172
  let main_c_55 : IVec S_ 32 := constantI S_ 32 1832780943#32
  let main_v174 : IVec S128x100000 32 := broadcastInDim S128x100000 ![] bcast_S_S128x100000 main_c_55
  let main_v175 : IVec S128x100000 32 := addi main_v171 main_v174
  let main_c_56 : IVec S_ 32 := constantI S_ 32 5#32
  let main_v176 : IVec S128x100000 32 := broadcastInDim S128x100000 ![] bcast_S_S128x100000 main_c_56
  let main_v177 : IVec S128x100000 32 := addi main_v175 main_v176
  let main_v178 : IVec S128x100000 32 := xori main_v173 main_v177
  let main_c_57 : IVec S_ 32 := constantI S_ 32 9#32
  let main_v179 : IVec S128x100000 32 := broadcastInDim S128x100000 ![] bcast_S_S128x100000 main_c_57
  let main_v180 : IVec S128x100000 32 := Host.shrui main_v178 main_v179
  fn_part10 (F := F) main_arg0 main_arg1 main_v180

def fn_part8 {F : FTy → Type} [FloatOps F] (main_arg0 : FVec F S2x128x100000 .f32) (main_arg1 : FVec F S128x200000 .f32) (main_v143 : IVec S128x100000 32) (main_v144 : IVec S128x100000 32) : IVec S_ 1 :=
  let main_c_46 : IVec S_ 32 := constantI S_ 32 13#32
  let main_v145 : IVec S128x100000 32 := broadcastInDim S128x100000 ![] bcast_S_S128x100000 main_c_46
  let main_v146 : IVec S128x100000 32 := Host.shli main_v143 main_v145
  let main_c_47 : IVec S_ 32 := constantI S_ 32 19#32
  let main_v147 : IVec S128x100000 32 := broadcastInDim S128x100000 ![] bcast_S_S128x100000 main_c_47
  let main_v148 : IVec S128x100000 32 := Host.shrui main_v143 main_v147
  let main_v149 : IVec S128x100000 32 := ori main_v146 main_v148
  let main_v150 : IVec S128x100000 32 := xori main_v144 main_v149
  let main_v151 : IVec S128x100000 32 := addi main_v144 main_v150
  let main_c_48 : IVec S_ 32 := constantI S_ 32 15#32
  let main_v152 : IVec S128x100000 32 := broadcastInDim S128x100000 ![] bcast_S_S128x100000 main_c_48
  let main_v153 : IVec S128x100000 32 := Host.shli main_v150 main_v152
  let main_c_49 : IVec S_ 32 := constantI S_ 32 17#32
  let main_v154 : IVec S128x100000 32 := broadcastInDim S128x100000 ![] bcast_S_S128x100000 main_c_49
  let main_v155 : IVec S128x100000 32 := Host.shrui main_v150 main_v154
  let main_v156 : IVec S128x100000 32 := ori main_v153 main_v155
  let main_v157 : IVec S128x100000 32 := xori main_v151 main_v156
  let main_v158 : IVec S128x100000 32 := addi main_v151 main_v157
  let main_c_50 : IVec S_ 32 := constantI S_ 32 26#32
  let main_v159 : IVec S128x100000 32 := broadcastInDim S128x100000 ![] bcast_S_S128x100000 main_c_50
  let main_v160 : IVec S128x100000 32 := Host.shli main_v157 main_v159
  let main_c_51 : IVec S_ 32 := constantI S_ 32 6#32
  let main_v161 : IVec S128x100000 32 := broadcastInDim S128x100000 ![] bcast_S_S128x100000 main_c_51
  let main_v162 : IVec S128x100000 32 := Host.shrui main_v157 main_v161
  fn_part9 (F := F) main_arg0 main_arg1 main_v158 main_v160 main_v162

def fn_part7 {F : FTy → Type} [FloatOps F] (main_arg0 : FVec F S2x128x100000 .f32) (main_arg1 : FVec F S128x200000 .f32) (main_v123 : IVec S128x100000 32) (main_v124 : IVec S128x100000 32) (main_v126 : IVec S128x100000 32) : IVec S_ 1 :=
  let main_c_40 : IVec S_ 32 := constantI S_ 32 16#32
  let main_v127 : IVec S128x100000 32 := broadcastInDim S128x100000 ![] bcast_S_S128x100000 main_c_40
  let main_v128 : IVec S128x100000 32 := Host.shrui main_v123 main_v127
  let main_v129 : IVec S128x100000 32 := ori main_v126 main_v128
  let main_v130 : IVec S128x100000 32 := xori main_v124 main_v129
  let main_v131 : IVec S128x100000 32 := addi main_v124 main_v130
  let main_c_41 : IVec S_ 32 := constantI S_ 32 24#32
  let main_v132 : IVec S128x100000 32 := broadcastInDim S128x100000 ![] bcast_S_S128x100000 main_c_41
  let main_v133 : IVec S128x100000 32 := Host.shli main_v130 main_v132
  let main_c_42 : IVec S_ 32 := constantI S_ 32 8#32
  let main_v134 : IVec S128x100000 32 := broadcastInDim S128x100000 ![] bcast_S_S128x100000 main_c_42
  let main_v135 : IVec S128x100000 32 := Host.shrui main_v130 main_v134
  let main_v136 : IVec S128x100000 32 := ori main_v133 main_v135
  let main_v137 : IVec S128x100000 32 := xori main_v131 main_v136
  let main_c_43 : IVec S_ 32 := constantI S_ 32 270669613#32
  let main_v138 : IVec S128x100000 32 := broadcastInDim S128x100000 ![] bcast_S_S128x100000 main_c_43
  let main_v139 : IVec S128x100000 32 := addi main_v131 main_v138
  let main_c_44 : IVec S_ 32 := constantI S_ 32 1724713080#32
  let main_v140 : IVec S128x100000 32 := broadcastInDim S128x100000 ![] bcast_S_S128x100000 main_c_44
  let main_v141 : IVec S128x100000 32 := addi main_v137 main_v140
  let main_c_45 : IVec S_ 32 := constantI S_ 32 4#32
  let main_v142 : IVec S128x100000 32 := broadcastInDim S128x100000 ![] bcast_S_S128x100000 main_c_45
  let main_v143 : IVec S128x100000 32 := addi main_v141 main_v142
  let main_v144 : IVec S128x100000 32 := addi main_v139 main_v143
  fn_part8 (F := F) main_arg0 main_arg1 main_v143 main_v144

def fn_part6 {F : FTy → Type} [FloatOps F] (main_arg0 : FVec F S2x128x100000 .f32) (main_arg1 : FVec F S128x200000 .f32) (main_v105 : IVec S128x100000 32) (main_v107 : IVec S128x100000 32) (main_c_34 : IVec S_ 32) : IVec S_ 1 :=
  let main_v108 : IVec S128x100000 32 := broadcastInDim S128x100000 ![] bcast_S_S128x100000 main_c_34
  let main_v109 : IVec S128x100000 32 := addi main_v107 main_v108
  let main_v110 : IVec S128x100000 32 := addi main_v105 main_v109
  let main_c_35 : IVec S_ 32 := constantI S_ 32 17#32
  let main_v111 : IVec S128x100000 32 := broadcastInDim S128x100000 ![] bcast_S_S128x100000 main_c_35
  let main_v112 : IVec S128x100000 32 := Host.shli main_v109 main_v111
  let main_c_36 : IVec S_ 32 := constantI S_ 32 15#32
  let main_v113 : IVec S128x100000 32 := broadcastInDim S128x100000 ![] bcast_S_S128x100000 main_c_36
  let main_v114 : IVec S128x100000 32 := Host.shrui main_v109 main_v113
  let main_v115 : IVec S128x100000 32 := ori main_v112 main_v114
  let main_v116 : IVec S128x100000 32 := xori main_v110 main_v115
  let main_v117 : IVec S128x100000 32 := addi main_v110 main_v116
  let main_c_37 : IVec S_ 32 := constantI S_ 32 29#32
  let main_v118 : IVec S128x100000 32 := broadcastInDim S128x100000 ![] bcast_S_S128x100000 main_c_37
  let main_v119 : IVec S128x100000 32 := Host.shli main_v116 main_v118
  let main_c_38 : IVec S_ 32 := constantI S_ 32 3#32
  let main_v120 : IVec S128x100000 32 := broadcastInDim S128x100000 ![] bcast_S_S128x100000 main_c_38
  let main_v121 : IVec S128x100000 32 := Host.shrui main_v116 main_v120
  let main_v122 : IVec S128x100000 32 := ori main_v119 main_v121
  let main_v123 : IVec S128x100000 32 := xori main_v117 main_v122
  let main_v124 : IVec S128x100000 32 := addi main_v117 main_v123
  let main_c_39 : IVec S_ 32 := constantI S_ 32 16#32
  let main_v125 : IVec S128x100000 32 := broadcastInDim S128x100000 ![] bcast_S_S128x100000 main_c_39
  let main_v126 : IVec S128x100000 32 := Host.shli main_v123 main_v125
  fn_part7 (F := F) main_arg0 main_arg1 main_v123 main_v124 main_v126

def fn_part5 {F : FTy → Type} [FloatOps F] (main_arg0 : FVec F S2x128x100000 .f32) (main_arg1 : FVec F S128x200000 .f32) (main_v89 : IVec S128x100000 32) (main_v90 : IVec S128x100000 32) : IVec S_ 1 :=
  let main_c_28 : IVec S_ 32 := constantI S_ 32 26#32
  let main_v91 : IVec S128x100000 32 := broadcastInDim S128x100000 ![] bcast_S_S128x100000 main_c_28
  let main_v92 : IVec S128x100000 32 := Host.shli main_v89 main_v91
  let main_c_29 : IVec S_ 32 := constantI S_ 32 6#32
  let main_v93 : IVec S128x100000 32 := broadcastInDim S128x100000 ![] bcast_S_S128x100000 main_c_29
  let main_v94 : IVec S128x100000 32 := Host.shrui main_v89 main_v93
  let main_v95 : IVec S128x100000 32 := ori main_v92 main_v94
  let main_v96 : IVec S128x100000 32 := xori main_v90 main_v95
  let main_v97 : IVec S128x100000 32 := addi main_v90 main_v96
  let main_c_30 : IVec S_ 32 := constantI S_ 32 6#32
  let main_v98 : IVec S128x100000 32 := broadcastInDim S128x100000 ![] bcast_S_S128x100000 main_c_30
  let main_v99 : IVec S128x100000 32 := Host.shli main_v96 main_v98
  let main_c_31 : IVec S_ 32 := constantI S_ 32 26#32
  let main_v100 : IVec S128x100000 32 := broadcastInDim S128x100000 ![] bcast_S_S128x100000 main_c_31
  let main_v101 : IVec S128x100000 32 := Host.shrui main_v96 main_v100
  let main_v102 : IVec S128x100000 32 := ori main_v99 main_v101
  let main_v103 : IVec S128x100000 32 := xori main_v97 main_v102
  let main_c_32 : IVec S_ 32 := constantI S_ 32 1832780943#32
  let main_v104 : IVec S128x100000 32 := broadcastInDim S128x100000 ![] bcast_S_S128x100000 main_c_32
  let main_v105 : IVec S128x100000 32 := addi main_v97 main_v104
  let main_c_33 : IVec S_ 32 := constantI S_ 32 270669613#32
  let main_v106 : IVec S128x100000 32 := broadcastInDim S128x100000 ![] bcast_S_S128x100000 main_c_33
  let main_v107 : IVec S128x100000 32 := addi main_v103 main_v106
  let main_c_34 : IVec S_ 32 := constantI S_ 32 3#32
  fn_part6 (F := F) main_arg0 main_arg1 main_v105 main_v107 main_c_34

def fn_part4 {F : FTy → Type} [FloatOps F] (main_arg0 : FVec F S2x128x100000 .f32) (main_arg1 : FVec F S128x200000 .f32) (main_v69 : IVec S128x100000 32) (main_v71 : IVec S128x100000 32) (main_c_22 : IVec S_ 32) : IVec S_ 1 :=
  let main_v72 : IVec S128x100000 32 := broadcastInDim S128x100000 ![] bcast_S_S128x100000 main_c_22
  let main_v73 : IVec S128x100000 32 := addi main_v69 main_v72
  let main_c_23 : IVec S_ 32 := constantI S_ 32 2#32
  let main_v74 : IVec S128x100000 32 := broadcastInDim S128x100000 ![] bcast_S_S128x100000 main_c_23
  let main_v75 : IVec S128x100000 32 := addi main_v73 main_v74
  let main_v76 : IVec S128x100000 32 := addi main_v71 main_v75
  let main_c_24 : IVec S_ 32 := constantI S_ 32 13#32
  let main_v77 : IVec S128x100000 32 := broadcastInDim S128x100000 ![] bcast_S_S128x100000 main_c_24
  let main_v78 : IVec S128x100000 32 := Host.shli main_v75 main_v77
  let main_c_25 : IVec S_ 32 := constantI S_ 32 19#32
  let main_v79 : IVec S128x100000 32 := broadcastInDim S128x100000 ![] bcast_S_S128x100000 main_c_25
  let main_v80 : IVec S128x100000 32 := Host.shrui main_v75 main_v79
  let main_v81 : IVec S128x100000 32 := ori main_v78 main_v80
  let main_v82 : IVec S128x100000 32 := xori main_v76 main_v81
  let main_v83 : IVec S128x100000 32 := addi main_v76 main_v82
  let main_c_26 : IVec S_ 32 := constantI S_ 32 15#32
  let main_v84 : IVec S128x100000 32 := broadcastInDim S128x100000 ![] bcast_S_S128x100000 main_c_26
  let main_v85 : IVec S128x100000 32 := Host.shli main_v82 main_v84
  let main_c_27 : IVec S_ 32 := constantI S_ 32 17#32
  let main_v86 : IVec S128x100000 32 := broadcastInDim S128x100000 ![] bcast_S_S128x100000 main_c_27
  let main_v87 : IVec S128x100000 32 := Host.shrui main_v82 main_v86
  let main_v88 : IVec S128x100000 32 := ori main_v85 main_v87
  let main_v89 : IVec S128x100000 32 := xori main_v83 main_v88
  let main_v90 : IVec S128x100000 32 := addi main_v83 main_v89
  fn_part5 (F := F) main_arg0 main_arg1 main_v89 main_v90

def fn_part3 {F : FTy → Type} [FloatOps F] (main_arg0 : FVec F S2x128x100000 .f32) (main_arg1 : FVec F S128x200000 .f32) (main_v49 : IVec S128x100000 32) (main_v51 : IVec S128x100000 32) (main_v53 : IVec S128x100000 32) : IVec S_ 1 :=
  let main_v54 : IVec S128x100000 32 := ori main_v51 main_v53
  let main_v55 : IVec S128x100000 32 := xori main_v49 main_v54
  let main_v56 : IVec S128x100000 32 := addi main_v49 main_v55
  let main_c_17 : IVec S_ 32 := constantI S_ 32 16#32
  let main_v57 : IVec S128x100000 32 := broadcastInDim S128x100000 ![] bcast_S_S128x100000 main_c_17
  let main_v58 : IVec S128x100000 32 := Host.shli main_v55 main_v57
  let main_c_18 : IVec S_ 32 := constantI S_ 32 16#32
  let main_v59 : IVec S128x100000 32 := broadcastInDim S128x100000 ![] bcast_S_S128x100000 main_c_18
  let main_v60 : IVec S128x100000 32 := Host.shrui main_v55 main_v59
  let main_v61 : IVec S128x100000 32 := ori main_v58 main_v60
  let main_v62 : IVec S128x100000 32 := xori main_v56 main_v61
  let main_v63 : IVec S128x100000 32 := addi main_v56 main_v62
  let main_c_19 : IVec S_ 32 := constantI S_ 32 24#32
  let main_v64 : IVec S128x100000 32 := broadcastInDim S128x100000 ![] bcast_S_S128x100000 main_c_19
  let main_v65 : IVec S128x100000 32 := Host.shli main_v62 main_v64
  let main_c_20 : IVec S_ 32 := constantI S_ 32 8#32
  let main_v66 : IVec S128x100000 32 := broadcastInDim S128x100000 ![] bcast_S_S128x100000 main_c_20
  let main_v67 : IVec S128x100000 32 := Host.shrui main_v62 main_v66
  let main_v68 : IVec S128x100000 32 := ori main_v65 main_v67
  let main_v69 : IVec S128x100000 32 := xori main_v63 main_v68
  let main_c_21 : IVec S_ 32 := constantI S_ 32 1724713080#32
  let main_v70 : IVec S128x100000 32 := broadcastInDim S128x100000 ![] bcast_S_S128x100000 main_c_21
  let main_v71 : IVec S128x100000 32 := addi main_v63 main_v70
  let main_c_22 : IVec S_ 32 := constantI S_ 32 1832780943#32
  fn_part4 (F := F) main_arg0 main_arg1 main_v69 main_v71 main_c_22

def fn_part2 {F : FTy → Type} [FloatOps F] (main_arg0 : FVec F S2x128x100000 .f32) (main_arg1 : FVec F S128x200000 .f32) (main_v29 : IVec S128x100000 32) (main_v35 : IVec S128x100000 32) (main_c_10 : IVec S_ 32) : IVec S_ 1 :=
  let main_v36 : IVec S128x100000 32 := broadcastInDim S128x100000 ![] bcast_S_S128x100000 main_c_10
  let main_v37 : IVec S128x100000 32 := addi main_v29 main_v36
  let main_c_11 : IVec S_ 32 := constantI S_ 32 1724713080#32
  let main_v38 : IVec S128x100000 32 := broadcastInDim S128x100000 ![] bcast_S_S128x100000 main_c_11
  let main_v39 : IVec S128x100000 32 := addi main_v35 main_v38
  let main_c_12 : IVec S_ 32 := constantI S_ 32 1#32
  let main_v40 : IVec S128x100000 32 := broadcastInDim S128x100000 ![] bcast_S_S128x100000 main_c_12
  let main_v41 : IVec S128x100000 32 := addi main_v39 main_v40
  let main_v42 : IVec S128x100000 32 := addi main_v37 main_v41
  let main_c_13 : IVec S_ 32 := constantI S_ 32 17#32
  let main_v43 : IVec S128x100000 32 := broadcastInDim S128x100000 ![] bcast_S_S128x100000 main_c_13
  let main_v44 : IVec S128x100000 32 := Host.shli main_v41 main_v43
  let main_c_14 : IVec S_ 32 := constantI S_ 32 15#32
  let main_v45 : IVec S128x100000 32 := broadcastInDim S128x100000 ![] bcast_S_S128x100000 main_c_14
  let main_v46 : IVec S128x100000 32 := Host.shrui main_v41 main_v45
  let main_v47 : IVec S128x100000 32 := ori main_v44 main_v46
  let main_v48 : IVec S128x100000 32 := xori main_v42 main_v47
  let main_v49 : IVec S128x100000 32 := addi main_v42 main_v48
  let main_c_15 : IVec S_ 32 := constantI S_ 32 29#32
  let main_v50 : IVec S128x100000 32 := broadcastInDim S128x100000 ![] bcast_S_S128x100000 main_c_15
  let main_v51 : IVec S128x100000 32 := Host.shli main_v48 main_v50
  let main_c_16 : IVec S_ 32 := constantI S_ 32 3#32
  let main_v52 : IVec S128x100000 32 := broadcastInDim S128x100000 ![] bcast_S_S128x100000 main_c_16
  let main_v53 : IVec S128x100000 32 := Host.shrui main_v48 main_v52
  fn_part3 (F := F) main_arg0 main_arg1 main_v49 main_v51 main_v53

def fn_part1 {F : FTy → Type} [FloatOps F] (main_arg0 : FVec F S2x128x100000 .f32) (main_arg1 : FVec F S128x200000 .f32) (main_v14 : IVec S128x100000 32) (main_v15 : IVec S128x100000 32) (main_v17 : IVec S128x100000 32) : IVec S_ 1 :=
  let main_c_5 : IVec S_ 32 := constantI S_ 32 17#32
  let main_v18 : IVec S128x100000 32 := broadcastInDim S128x100000 ![] bcast_S_S128x100000 main_c_5
  let main_v19 : IVec S128x100000 32 := Host.shrui main_v14 main_v18
  let main_v20 : IVec S128x100000 32 := ori main_v17 main_v19
  let main_v21 : IVec S128x100000 32 := xori main_v15 main_v20
  let main_v22 : IVec S128x100000 32 := addi main_v15 main_v21
  let main_c_6 : IVec S_ 32 := constantI S_ 32 26#32
  let main_v23 : IVec S128x100000 32 := broadcastInDim S128x100000 ![] bcast_S_S128x100000 main_c_6
  let main_v24 : IVec S128x100000 32 := Host.shli main_v21 main_v23
  let main_c_7 : IVec S_ 32 := constantI S_ 32 6#32
  let main_v25 : IVec S128x100000 32 := broadcastInDim S128x100000 ![] bcast_S_S128x100000 main_c_7
  let main_v26 : IVec S128x100000 32 := Host.shrui main_v21 main_v25
  let main_v27 : IVec S128x100000 32 := ori main_v24 main_v26
  let main_v28 : IVec S128x100000 32 := xori main_v22 main_v27
  let main_v29 : IVec S128x100000 32 := addi main_v22 main_v28
  let main_c_8 : IVec S_ 32 := constantI S_ 32 6#32
  let main_v30 : IVec S128x100000 32 := broadcastInDim S128x100000 ![] bcast_S_S128x100000 main_c_8
  let main_v31 : IVec S128x100000 32 := Host.shli main_v28 main_v30
  let main_c_9 : IVec S_ 32 := constantI S_ 32 26#32
  let main_v32 : IVec S128x100000 32 := broadcastInDim S128x100000 ![] bcast_S_S128x100000 main_c_9
  let main_v33 : IVec S128x100000 32 := Host.shrui main_v28 main_v32
  let main_v34 : IVec S128x100000 32 := ori main_v31 main_v33
  let main_v35 : IVec S128x100000 32 := xori main_v29 main_v34
  let main_c_10 : IVec S_ 32 := constantI S_ 32 270669613#32
  fn_part2 (F := F) main_arg0 main_arg1 main_v29 main_v35 main_c_10

def fn {F : FTy → Type} [FloatOps F] (main_arg0 : FVec F S2x128x100000 .f32) (main_arg1 : FVec F S128x200000 .f32) : IVec S_ 1 :=
  let main_c : IVec S_ 32 := constantI S_ 32 1832780943#32
  let main_v0 : IVec S128x100000 32 := broadcastInDim S128x100000 ![] bcast_S_S128x100000 main_c
  let main_v1 : IVec S128x100000 32 := iotaInDim S128x100000 32 0
  let main_c_0 : IVec S_ 32 := constantI S_ 32 100000#32
  let main_v2 : IVec S128x100000 32 := broadcastInDim S128x100000 ![] bcast_S_S128x100000 main_c_0
  let main_v3 : IVec S128x100000 32 := muli main_v1 main_v2
  let main_v4 : IVec S128x100000 32 := iotaInDim S128x100000 32 1
  let main_v5 : IVec S128x100000 32 := addi main_v3 main_v4
  let main_c_1 : IVec S_ 32 := constantI S_ 32 270669613#32
  let main_v6 : IVec S128x100000 32 := broadcastInDim S128x100000 ![] bcast_S_S128x100000 main_c_1
  let main_v7 : IVec S128x100000 32 := addi main_v5 main_v6
  let main_v8 : IVec S128x100000 32 := addi main_v0 main_v7
  let main_c_2 : IVec S_ 32 := constantI S_ 32 13#32
  let main_v9 : IVec S128x100000 32 := broadcastInDim S128x100000 ![] bcast_S_S128x100000 main_c_2
  let main_v10 : IVec S128x100000 32 := Host.shli main_v7 main_v9
  let main_c_3 : IVec S_ 32 := constantI S_ 32 19#32
  let main_v11 : IVec S128x100000 32 := broadcastInDim S128x100000 ![] bcast_S_S128x100000 main_c_3
  let main_v12 : IVec S128x100000 32 := Host.shrui main_v7 main_v11
  let main_v13 : IVec S128x100000 32 := ori main_v10 main_v12
  let main_v14 : IVec S128x100000 32 := xori main_v8 main_v13
  let main_v15 : IVec S128x100000 32 := addi main_v8 main_v14
  let main_c_4 : IVec S_ 32 := constantI S_ 32 15#32
  let main_v16 : IVec S128x100000 32 := broadcastInDim S128x100000 ![] bcast_S_S128x100000 main_c_4
  let main_v17 : IVec S128x100000 32 := Host.shli main_v14 main_v16
  fn_part1 (F := F) main_arg0 main_arg1 main_v14 main_v15 main_v17
-- ==== Kernel.lean ====
abbrev S2x128x100000 : Shape := ⟨3, ![2, 128, 100000]⟩
abbrev S128x200000 : Shape := ⟨2, ![128, 200000]⟩
abbrev S12800000 : Shape := ⟨1, ![12800000]⟩
abbrev S_ : Shape := ⟨0, ![]⟩
abbrev S128x100000 : Shape := ⟨2, ![128, 100000]⟩
abbrev S1x128x100000 : Shape := ⟨3, ![1, 128, 100000]⟩
abbrev S128x2 : Shape := ⟨2, ![128, 2]⟩
abbrev S1x8x100000 : Shape := ⟨3, ![1, 8, 100000]⟩
abbrev S8x200000 : Shape := ⟨2, ![8, 200000]⟩
abbrev S8x2 : Shape := ⟨2, ![8, 2]⟩
abbrev S8x100000 : Shape := ⟨2, ![8, 100000]⟩
abbrev S8 : Shape := ⟨1, ![8]⟩
abbrev S8x1 : Shape := ⟨2, ![8, 1]⟩

abbrev nBuf : Space → Nat
  | .hbm => 493
  | .vmem => 12
  | .smem => 0
  | _ => 0

abbrev hbmTy0_0 (i : Nat) : BufTy := match i % 128 with
  | 0 => ⟨S2x128x100000, .f32⟩
  | 1 => ⟨S128x200000, .f32⟩
  | 2 => ⟨S12800000, .i32⟩
  | 3 => ⟨S_, .i32⟩
  | 4 => ⟨S12800000, .i32⟩
  | 5 => ⟨S_, .i32⟩
  | 6 => ⟨S12800000, .i32⟩
  | 7 => ⟨S12800000, .i32⟩
  | 8 => ⟨S_, .i32⟩
  | 9 => ⟨S12800000, .i32⟩
  | 10 => ⟨S12800000, .i32⟩
  | 11 => ⟨S12800000, .i32⟩
  | 12 => ⟨S_, .i32⟩
  | 13 => ⟨S12800000, .i32⟩
  | 14 => ⟨S12800000, .i32⟩
  | 15 => ⟨S_, .i32⟩
  | 16 => ⟨S12800000, .i32⟩
  | 17 => ⟨S12800000, .i32⟩
  | 18 => ⟨S12800000, .i32⟩
  | 19 => ⟨S12800000, .i32⟩
  | 20 => ⟨S12800000, .i32⟩
  | 21 => ⟨S_, .i32⟩
  | 22 => ⟨S12800000, .i32⟩
  | 23 => ⟨S12800000, .i32⟩
  | 24 => ⟨S_, .i32⟩
  | 25 => ⟨S12800000, .i32⟩
  | 26 => ⟨S12800000, .i32⟩
  | 27 => ⟨S12800000, .i32⟩
  | 28 => ⟨S12800000, .i32⟩
  | 29 => ⟨S12800000, .i32⟩
  | 30 => ⟨S_, .i32⟩
  | 31 => ⟨S12800000, .i32⟩
  | 32 => ⟨S12800000, .i32⟩
  | 33 => ⟨S_, .i32⟩
  | 34 => ⟨S12800000, .i32⟩
  | 35 => ⟨S12800000, .i32⟩
  | 36 => ⟨S12800000, .i32⟩
  | 37 => ⟨S12800000, .i32⟩
  | 38 => ⟨S12800000, .i32⟩
  | 39 => ⟨S_, .i32⟩
  | 40 => ⟨S12800000, .i32⟩
  | 41 => ⟨S12800000, .i32⟩
  | 42 => ⟨S_, .i32⟩
  | 43 => ⟨S12800000, .i32⟩
  | 44 => ⟨S12800000, .i32⟩
  | 45 => ⟨S12800000, .i32⟩
  | 46 => ⟨S12800000, .i32⟩
  | 47 => ⟨S_, .i32⟩
  | 48 => ⟨S12800000, .i32⟩
  | 49 => ⟨S12800000, .i32⟩
  | 50 => ⟨S_, .i32⟩
  | 51 => ⟨S12800000, .i32⟩
  | 52 => ⟨S12800000, .i32⟩
  | 53 => ⟨S12800000, .i32⟩
  | 54 => ⟨S_, .i32⟩
  | 55 => ⟨S12800000, .i32⟩
  | 56 => ⟨S12800000, .i32⟩
  | 57 => ⟨S_, .i32⟩
  | 58 => ⟨S12800000, .i32⟩
  | 59 => ⟨S12800000, .i32⟩
  | 60 => ⟨S12800000, .i32⟩
  | 61 => ⟨S12800000, .i32⟩
  | 62 => ⟨S12800000, .i32⟩
  | 63 => ⟨S_, .i32⟩
  | 64 => ⟨S12800000, .i32⟩
  | 65 => ⟨S12800000, .i32⟩
  | 66 => ⟨S_, .i32⟩
  | 67 => ⟨S12800000, .i32⟩
  | 68 => ⟨S12800000, .i32⟩
  | 69 => ⟨S12800000, .i32⟩
  | 70 => ⟨S12800000, .i32⟩
  | 71 => ⟨S12800000, .i32⟩
  | 72 => ⟨S_, .i32⟩
  | 73 => ⟨S12800000, .i32⟩
  | 74 => ⟨S12800000, .i32⟩
  | 75 => ⟨S_, .i32⟩
  | 76 => ⟨S12800000, .i32⟩
  | 77 => ⟨S12800000, .i32⟩
  | 78 => ⟨S12800000, .i32⟩
  | 79 => ⟨S12800000, .i32⟩
  | 80 => ⟨S12800000, .i32⟩
  | 81 => ⟨S_, .i32⟩
  | 82 => ⟨S12800000, .i32⟩
  | 83 => ⟨S12800000, .i32⟩
  | 84 => ⟨S_, .i32⟩
  | 85 => ⟨S12800000, .i32⟩
  | 86 => ⟨S12800000, .i32⟩
  | 87 => ⟨S12800000, .i32⟩
  | 88 => ⟨S12800000, .i32⟩
  | 89 => ⟨S_, .i32⟩
  | 90 => ⟨S12800000, .i32⟩
  | 91 => ⟨S12800000, .i32⟩
  | 92 => ⟨S_, .i32⟩
  | 93 => ⟨S12800000, .i32⟩
  | 94 => ⟨S12800000, .i32⟩
  | 95 => ⟨S12800000, .i32⟩
  | 96 => ⟨S_, .i32⟩
  | 97 => ⟨S12800000, .i32⟩
  | 98 => ⟨S12800000, .i32⟩
  | 99 => ⟨S_, .i32⟩
  | 100 => ⟨S12800000, .i32⟩
  | 101 => ⟨S12800000, .i32⟩
  | 102 => ⟨S12800000, .i32⟩
  | 103 => ⟨S12800000, .i32⟩
  | 104 => ⟨S12800000, .i32⟩
  | 105 => ⟨S_, .i32⟩
  | 106 => ⟨S12800000, .i32⟩
  | 107 => ⟨S12800000, .i32⟩
  | 108 => ⟨S_, .i32⟩
  | 109 => ⟨S12800000, .i32⟩
  | 110 => ⟨S12800000, .i32⟩
  | 111 => ⟨S12800000, .i32⟩
  | 112 => ⟨S12800000, .i32⟩
  | 113 => ⟨S12800000, .i32⟩
  | 114 => ⟨S_, .i32⟩
  | 115 => ⟨S12800000, .i32⟩
  | 116 => ⟨S12800000, .i32⟩
  | 117 => ⟨S_, .i32⟩
  | 118 => ⟨S12800000, .i32⟩
  | 119 => ⟨S12800000, .i32⟩
  | 120 => ⟨S12800000, .i32⟩
  | 121 => ⟨S12800000, .i32⟩
  | 122 => ⟨S12800000, .i32⟩
  | 123 => ⟨S_, .i32⟩
  | 124 => ⟨S12800000, .i32⟩
  | 125 => ⟨S12800000, .i32⟩
  | 126 => ⟨S_, .i32⟩
  | 127 => ⟨S12800000, .i32⟩
  | _ => ⟨S2x128x100000, .f32⟩

abbrev hbmTy0_1 (i : Nat) : BufTy := match i % 128 with
  | 0 => ⟨S12800000, .i32⟩
  | 1 => ⟨S12800000, .i32⟩
  | 2 => ⟨S12800000, .i32⟩
  | 3 => ⟨S_, .i32⟩
  | 4 => ⟨S12800000, .i32⟩
  | 5 => ⟨S12800000, .i32⟩
  | 6 => ⟨S_, .i32⟩
  | 7 => ⟨S12800000, .i32⟩
  | 8 => ⟨S12800000, .i32⟩
  | 9 => ⟨S12800000, .i32⟩
  | 10 => ⟨S_, .i32⟩
  | 11 => ⟨S12800000, .i32⟩
  | 12 => ⟨S12800000, .i32⟩
  | 13 => ⟨S_, .i32⟩
  | 14 => ⟨S12800000, .i32⟩
  | 15 => ⟨S12800000, .i32⟩
  | 16 => ⟨S12800000, .i32⟩
  | 17 => ⟨S12800000, .i32⟩
  | 18 => ⟨S12800000, .i32⟩
  | 19 => ⟨S_, .i32⟩
  | 20 => ⟨S12800000, .i32⟩
  | 21 => ⟨S12800000, .i32⟩
  | 22 => ⟨S_, .i32⟩
  | 23 => ⟨S12800000, .i32⟩
  | 24 => ⟨S12800000, .i32⟩
  | 25 => ⟨S12800000, .i32⟩
  | 26 => ⟨S12800000, .i32⟩
  | 27 => ⟨S12800000, .i32⟩
  | 28 => ⟨S_, .i32⟩
  | 29 => ⟨S12800000, .i32⟩
  | 30 => ⟨S12800000, .i32⟩
  | 31 => ⟨S_, .i32⟩
  | 32 => ⟨S12800000, .i32⟩
  | 33 => ⟨S12800000, .i32⟩
  | 34 => ⟨S12800000, .i32⟩
  | 35 => ⟨S12800000, .i32⟩
  | 36 => ⟨S12800000, .i32⟩
  | 37 => ⟨S_, .i32⟩
  | 38 => ⟨S12800000, .i32⟩
  | 39 => ⟨S12800000, .i32⟩
  | 40 => ⟨S_, .i32⟩
  | 41 => ⟨S12800000, .i32⟩
  | 42 => ⟨S12800000, .i32⟩
  | 43 => ⟨S12800000, .i32⟩
  | 44 => ⟨S12800000, .i32⟩
  | 45 => ⟨S_, .i32⟩
  | 46 => ⟨S12800000, .i32⟩
  | 47 => ⟨S12800000, .i32⟩
  | 48 => ⟨S_, .i32⟩
  | 49 => ⟨S12800000, .i32⟩
  | 50 => ⟨S12800000, .i32⟩
  | 51 => ⟨S12800000, .i32⟩
  | 52 => ⟨S_, .i32⟩
  | 53 => ⟨S12800000, .i32⟩
  | 54 => ⟨S12800000, .i32⟩
  | 55 => ⟨S_, .i32⟩
  | 56 => ⟨S12800000, .i32⟩
  | 57 => ⟨S12800000, .i32⟩
  | 58 => ⟨S12800000, .i32⟩
  | 59 => ⟨S12800000, .i32⟩
  | 60 => ⟨S12800000, .i32⟩
  | 61 => ⟨S_, .i32⟩
  | 62 => ⟨S12800000, .i32⟩
  | 63 => ⟨S12800000, .i32⟩
  | 64 => ⟨S_, .i32⟩
  | 65 => ⟨S12800000, .i32⟩
  | 66 => ⟨S12800000, .i32⟩
  | 67 => ⟨S12800000, .i32⟩
  | 68 => ⟨S12800000, .i32⟩
  | 69 => ⟨S12800000, .i32⟩
  | 70 => ⟨S_, .i32⟩
  | 71 => ⟨S12800000, .i32⟩
  | 72 => ⟨S12800000, .i32⟩
  | 73 => ⟨S_, .i32⟩
  | 74 => ⟨S12800000, .i32⟩
  | 75 => ⟨S12800000, .i32⟩
  | 76 => ⟨S12800000, .i32⟩
  | 77 => ⟨S12800000, .i32⟩
  | 78 => ⟨S12800000, .i32⟩
  | 79 => ⟨S_, .i32⟩
  | 80 => ⟨S12800000, .i32⟩
  | 81 => ⟨S12800000, .i32⟩
  | 82 => ⟨S_, .i32⟩
  | 83 => ⟨S12800000, .i32⟩
  | 84 => ⟨S12800000, .i32⟩
  | 85 => ⟨S12800000, .i32⟩
  | 86 => ⟨S12800000, .i32⟩
  | 87 => ⟨S_, .i32⟩
  | 88 => ⟨S12800000, .i32⟩
  | 89 => ⟨S12800000, .i32⟩
  | 90 => ⟨S_, .i32⟩
  | 91 => ⟨S12800000, .i32⟩
  | 92 => ⟨S12800000, .i32⟩
  | 93 => ⟨S12800000, .i32⟩
  | 94 => ⟨S_, .i32⟩
  | 95 => ⟨S12800000, .i32⟩
  | 96 => ⟨S12800000, .i32⟩
  | 97 => ⟨S_, .i32⟩
  | 98 => ⟨S12800000, .i32⟩
  | 99 => ⟨S12800000, .i32⟩
  | 100 => ⟨S12800000, .f32⟩
  | 101 => ⟨S_, .f32⟩
  | 102 => ⟨S12800000, .f32⟩
  | 103 => ⟨S12800000, .f32⟩
  | 104 => ⟨S_, .f32⟩
  | 105 => ⟨S12800000, .f32⟩
  | 106 => ⟨S12800000, .f32⟩
  | 107 => ⟨S_, .f32⟩
  | 108 => ⟨S12800000, .f32⟩
  | 109 => ⟨S12800000, .f32⟩
  | 110 => ⟨S_, .f32⟩
  | 111 => ⟨S12800000, .f32⟩
  | 112 => ⟨S12800000, .f32⟩
  | 113 => ⟨S12800000, .f32⟩
  | 114 => ⟨S12800000, .f32⟩
  | 115 => ⟨S12800000, .f32⟩
  | 116 => ⟨S12800000, .f32⟩
  | 117 => ⟨S128x100000, .f32⟩
  | 118 => ⟨S_, .i32⟩
  | 119 => ⟨S12800000, .i32⟩
  | 120 => ⟨S12800000, .i32⟩
  | 121 => ⟨S_, .i32⟩
  | 122 => ⟨S12800000, .i32⟩
  | 123 => ⟨S12800000, .i32⟩
  | 124 => ⟨S12800000, .i32⟩
  | 125 => ⟨S_, .i32⟩
  | 126 => ⟨S12800000, .i32⟩
  | 127 => ⟨S12800000, .i32⟩
  | _ => ⟨S2x128x100000, .f32⟩

abbrev hbmTy0_2 (i : Nat) : BufTy := match i % 128 with
  | 0 => ⟨S_, .i32⟩
  | 1 => ⟨S12800000, .i32⟩
  | 2 => ⟨S12800000, .i32⟩
  | 3 => ⟨S12800000, .i32⟩
  | 4 => ⟨S12800000, .i32⟩
  | 5 => ⟨S12800000, .i32⟩
  | 6 => ⟨S_, .i32⟩
  | 7 => ⟨S12800000, .i32⟩
  | 8 => ⟨S12800000, .i32⟩
  | 9 => ⟨S_, .i32⟩
  | 10 => ⟨S12800000, .i32⟩
  | 11 => ⟨S12800000, .i32⟩
  | 12 => ⟨S12800000, .i32⟩
  | 13 => ⟨S12800000, .i32⟩
  | 14 => ⟨S12800000, .i32⟩
  | 15 => ⟨S_, .i32⟩
  | 16 => ⟨S12800000, .i32⟩
  | 17 => ⟨S12800000, .i32⟩
  | 18 => ⟨S_, .i32⟩
  | 19 => ⟨S12800000, .i32⟩
  | 20 => ⟨S12800000, .i32⟩
  | 21 => ⟨S12800000, .i32⟩
  | 22 => ⟨S12800000, .i32⟩
  | 23 => ⟨S12800000, .i32⟩
  | 24 => ⟨S_, .i32⟩
  | 25 => ⟨S12800000, .i32⟩
  | 26 => ⟨S12800000, .i32⟩
  | 27 => ⟨S_, .i32⟩
  | 28 => ⟨S12800000, .i32⟩
  | 29 => ⟨S12800000, .i32⟩
  | 30 => ⟨S12800000, .i32⟩
  | 31 => ⟨S12800000, .i32⟩
  | 32 => ⟨S_, .i32⟩
  | 33 => ⟨S12800000, .i32⟩
  | 34 => ⟨S12800000, .i32⟩
  | 35 => ⟨S_, .i32⟩
  | 36 => ⟨S12800000, .i32⟩
  | 37 => ⟨S12800000, .i32⟩
  | 38 => ⟨S12800000, .i32⟩
  | 39 => ⟨S_, .i32⟩
  | 40 => ⟨S12800000, .i32⟩
  | 41 => ⟨S12800000, .i32⟩
  | 42 => ⟨S_, .i32⟩
  | 43 => ⟨S12800000, .i32⟩
  | 44 => ⟨S12800000, .i32⟩
  | 45 => ⟨S12800000, .i32⟩
  | 46 => ⟨S12800000, .i32⟩
  | 47 => ⟨S12800000, .i32⟩
  | 48 => ⟨S_, .i32⟩
  | 49 => ⟨S12800000, .i32⟩
  | 50 => ⟨S12800000, .i32⟩
  | 51 => ⟨S_, .i32⟩
  | 52 => ⟨S12800000, .i32⟩
  | 53 => ⟨S12800000, .i32⟩
  | 54 => ⟨S12800000, .i32⟩
  | 55 => ⟨S12800000, .i32⟩
  | 56 => ⟨S12800000, .i32⟩
  | 57 => ⟨S_, .i32⟩
  | 58 => ⟨S12800000, .i32⟩
  | 59 => ⟨S12800000, .i32⟩
  | 60 => ⟨S_, .i32⟩
  | 61 => ⟨S12800000, .i32⟩
  | 62 => ⟨S12800000, .i32⟩
  | 63 => ⟨S12800000, .i32⟩
  | 64 => ⟨S12800000, .i32⟩
  | 65 => ⟨S12800000, .i32⟩
  | 66 => ⟨S_, .i32⟩
  | 67 => ⟨S12800000, .i32⟩
  | 68 => ⟨S12800000, .i32⟩
  | 69 => ⟨S_, .i32⟩
  | 70 => ⟨S12800000, .i32⟩
  | 71 => ⟨S12800000, .i32⟩
  | 72 => ⟨S12800000, .i32⟩
  | 73 => ⟨S12800000, .i32⟩
  | 74 => ⟨S_, .i32⟩
  | 75 => ⟨S12800000, .i32⟩
  | 76 => ⟨S12800000, .i32⟩
  | 77 => ⟨S_, .i32⟩
  | 78 => ⟨S12800000, .i32⟩
  | 79 => ⟨S12800000, .i32⟩
  | 80 => ⟨S12800000, .i32⟩
  | 81 => ⟨S_, .i32⟩
  | 82 => ⟨S12800000, .i32⟩
  | 83 => ⟨S12800000, .i32⟩
  | 84 => ⟨S_, .i32⟩
  | 85 => ⟨S12800000, .i32⟩
  | 86 => ⟨S12800000, .i32⟩
  | 87 => ⟨S12800000, .i32⟩
  | 88 => ⟨S12800000, .i32⟩
  | 89 => ⟨S12800000, .i32⟩
  | 90 => ⟨S_, .i32⟩
  | 91 => ⟨S12800000, .i32⟩
  | 92 => ⟨S12800000, .i32⟩
  | 93 => ⟨S_, .i32⟩
  | 94 => ⟨S12800000, .i32⟩
  | 95 => ⟨S12800000, .i32⟩
  | 96 => ⟨S12800000, .i32⟩
  | 97 => ⟨S12800000, .i32⟩
  | 98 => ⟨S12800000, .i32⟩
  | 99 => ⟨S_, .i32⟩
  | 100 => ⟨S12800000, .i32⟩
  | 101 => ⟨S12800000, .i32⟩
  | 102 => ⟨S_, .i32⟩
  | 103 => ⟨S12800000, .i32⟩
  | 104 => ⟨S12800000, .i32⟩
  | 105 => ⟨S12800000, .i32⟩
  | 106 => ⟨S12800000, .i32⟩
  | 107 => ⟨S12800000, .i32⟩
  | 108 => ⟨S_, .i32⟩
  | 109 => ⟨S12800000, .i32⟩
  | 110 => ⟨S12800000, .i32⟩
  | 111 => ⟨S_, .i32⟩
  | 112 => ⟨S12800000, .i32⟩
  | 113 => ⟨S12800000, .i32⟩
  | 114 => ⟨S12800000, .i32⟩
  | 115 => ⟨S12800000, .i32⟩
  | 116 => ⟨S_, .i32⟩
  | 117 => ⟨S12800000, .i32⟩
  | 118 => ⟨S12800000, .i32⟩
  | 119 => ⟨S_, .i32⟩
  | 120 => ⟨S12800000, .i32⟩
  | 121 => ⟨S12800000, .i32⟩
  | 122 => ⟨S12800000, .i32⟩
  | 123 => ⟨S_, .i32⟩
  | 124 => ⟨S12800000, .i32⟩
  | 125 => ⟨S12800000, .i32⟩
  | 126 => ⟨S_, .i32⟩
  | 127 => ⟨S12800000, .i32⟩
  | _ => ⟨S2x128x100000, .f32⟩

abbrev hbmTy0_3 (i : Nat) : BufTy := match i % 128 with
  | 0 => ⟨S12800000, .i32⟩
  | 1 => ⟨S12800000, .i32⟩
  | 2 => ⟨S12800000, .i32⟩
  | 3 => ⟨S12800000, .i32⟩
  | 4 => ⟨S_, .i32⟩
  | 5 => ⟨S12800000, .i32⟩
  | 6 => ⟨S12800000, .i32⟩
  | 7 => ⟨S_, .i32⟩
  | 8 => ⟨S12800000, .i32⟩
  | 9 => ⟨S12800000, .i32⟩
  | 10 => ⟨S12800000, .i32⟩
  | 11 => ⟨S12800000, .i32⟩
  | 12 => ⟨S12800000, .i32⟩
  | 13 => ⟨S_, .i32⟩
  | 14 => ⟨S12800000, .i32⟩
  | 15 => ⟨S12800000, .i32⟩
  | 16 => ⟨S_, .i32⟩
  | 17 => ⟨S12800000, .i32⟩
  | 18 => ⟨S12800000, .i32⟩
  | 19 => ⟨S12800000, .i32⟩
  | 20 => ⟨S12800000, .i32⟩
  | 21 => ⟨S12800000, .i32⟩
  | 22 => ⟨S_, .i32⟩
  | 23 => ⟨S12800000, .i32⟩
  | 24 => ⟨S12800000, .i32⟩
  | 25 => ⟨S_, .i32⟩
  | 26 => ⟨S12800000, .i32⟩
  | 27 => ⟨S12800000, .i32⟩
  | 28 => ⟨S12800000, .i32⟩
  | 29 => ⟨S12800000, .i32⟩
  | 30 => ⟨S_, .i32⟩
  | 31 => ⟨S12800000, .i32⟩
  | 32 => ⟨S12800000, .i32⟩
  | 33 => ⟨S_, .i32⟩
  | 34 => ⟨S12800000, .i32⟩
  | 35 => ⟨S12800000, .i32⟩
  | 36 => ⟨S12800000, .i32⟩
  | 37 => ⟨S_, .i32⟩
  | 38 => ⟨S12800000, .i32⟩
  | 39 => ⟨S12800000, .i32⟩
  | 40 => ⟨S_, .i32⟩
  | 41 => ⟨S12800000, .i32⟩
  | 42 => ⟨S12800000, .i32⟩
  | 43 => ⟨S12800000, .i32⟩
  | 44 => ⟨S12800000, .i32⟩
  | 45 => ⟨S12800000, .i32⟩
  | 46 => ⟨S_, .i32⟩
  | 47 => ⟨S12800000, .i32⟩
  | 48 => ⟨S12800000, .i32⟩
  | 49 => ⟨S_, .i32⟩
  | 50 => ⟨S12800000, .i32⟩
  | 51 => ⟨S12800000, .i32⟩
  | 52 => ⟨S12800000, .i32⟩
  | 53 => ⟨S12800000, .i32⟩
  | 54 => ⟨S12800000, .i32⟩
  | 55 => ⟨S_, .i32⟩
  | 56 => ⟨S12800000, .i32⟩
  | 57 => ⟨S12800000, .i32⟩
  | 58 => ⟨S_, .i32⟩
  | 59 => ⟨S12800000, .i32⟩
  | 60 => ⟨S12800000, .i32⟩
  | 61 => ⟨S12800000, .i32⟩
  | 62 => ⟨S12800000, .i32⟩
  | 63 => ⟨S12800000, .i32⟩
  | 64 => ⟨S_, .i32⟩
  | 65 => ⟨S12800000, .i32⟩
  | 66 => ⟨S12800000, .i32⟩
  | 67 => ⟨S_, .i32⟩
  | 68 => ⟨S12800000, .i32⟩
  | 69 => ⟨S12800000, .i32⟩
  | 70 => ⟨S12800000, .i32⟩
  | 71 => ⟨S12800000, .i32⟩
  | 72 => ⟨S_, .i32⟩
  | 73 => ⟨S12800000, .i32⟩
  | 74 => ⟨S12800000, .i32⟩
  | 75 => ⟨S_, .i32⟩
  | 76 => ⟨S12800000, .i32⟩
  | 77 => ⟨S12800000, .i32⟩
  | 78 => ⟨S12800000, .i32⟩
  | 79 => ⟨S_, .i32⟩
  | 80 => ⟨S12800000, .i32⟩
  | 81 => ⟨S12800000, .i32⟩
  | 82 => ⟨S_, .i32⟩
  | 83 => ⟨S12800000, .i32⟩
  | 84 => ⟨S12800000, .i32⟩
  | 85 => ⟨S12800000, .f32⟩
  | 86 => ⟨S_, .f32⟩
  | 87 => ⟨S12800000, .f32⟩
  | 88 => ⟨S12800000, .f32⟩
  | 89 => ⟨S_, .f32⟩
  | 90 => ⟨S12800000, .f32⟩
  | 91 => ⟨S12800000, .f32⟩
  | 92 => ⟨S_, .f32⟩
  | 93 => ⟨S12800000, .f32⟩
  | 94 => ⟨S12800000, .f32⟩
  | 95 => ⟨S_, .f32⟩
  | 96 => ⟨S12800000, .f32⟩
  | 97 => ⟨S12800000, .f32⟩
  | 98 => ⟨S12800000, .f32⟩
  | 99 => ⟨S12800000, .f32⟩
  | 100 => ⟨S12800000, .f32⟩
  | 101 => ⟨S12800000, .f32⟩
  | 102 => ⟨S128x100000, .f32⟩
  | 103 => ⟨S1x128x100000, .f32⟩
  | 104 => ⟨S1x128x100000, .f32⟩
  | 105 => ⟨S2x128x100000, .f32⟩
  | 106 => ⟨S128x2, .i32⟩
  | 107 => ⟨S128x200000, .f32⟩
  | 108 => ⟨S128x200000, .f32⟩
  | _ => ⟨S2x128x100000, .f32⟩

abbrev hbmTy (i : Nat) : BufTy := match i / 128 with
  | 0 => hbmTy0_0 i
  | 1 => hbmTy0_1 i
  | 2 => hbmTy0_2 i
  | 3 => hbmTy0_3 i
  | _ => ⟨S2x128x100000, .f32⟩

abbrev bufTy : (tb : Table) → Fin (tcTables nBuf tb) → BufTy
  | .hbm, ⟨i, _⟩ => hbmTy i
  | .local _ .vmem, ⟨0, _⟩ => ⟨S1x8x100000, .f32⟩
  | .local _ .vmem, ⟨1, _⟩ => ⟨S1x8x100000, .f32⟩
  | .local _ .vmem, ⟨2, _⟩ => ⟨S1x8x100000, .f32⟩
  | .local _ .vmem, ⟨3, _⟩ => ⟨S1x8x100000, .f32⟩
  | .local _ .vmem, ⟨4, _⟩ => ⟨S8x200000, .f32⟩
  | .local _ .vmem, ⟨5, _⟩ => ⟨S8x200000, .f32⟩
  | .local _ .vmem, ⟨6, _⟩ => ⟨S8x2, .i32⟩
  | .local _ .vmem, ⟨7, _⟩ => ⟨S8x2, .i32⟩
  | .local _ .vmem, ⟨8, _⟩ => ⟨S8x200000, .f32⟩
  | .local _ .vmem, ⟨9, _⟩ => ⟨S8x200000, .f32⟩
  | .local _ .vmem, ⟨10, _⟩ => ⟨S8x200000, .f32⟩
  | .local _ .vmem, ⟨11, _⟩ => ⟨S8x200000, .f32⟩
  | _, _ => ⟨S2x128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_8 : Ref sig .tc := ⟨.hbm, 39, rfl⟩
abbrev main_v28 : Ref sig .tc := ⟨.hbm, 40, rfl⟩
abbrev main_v29 : Ref sig .tc := ⟨.hbm, 41, rfl⟩
abbrev main_c_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_10 : Ref sig .tc := ⟨.hbm, 47, rfl⟩
abbrev main_v34 : Ref sig .tc := ⟨.hbm, 48, rfl⟩
abbrev main_v35 : Ref sig .tc := ⟨.hbm, 49, rfl⟩
abbrev main_c_11 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_12 : Ref sig .tc := ⟨.hbm, 54, rfl⟩
abbrev main_v39 : Ref sig .tc := ⟨.hbm, 55, rfl⟩
abbrev main_v40 : Ref sig .tc := ⟨.hbm, 56, rfl⟩
abbrev main_c_13 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_14 : Ref sig .tc := ⟨.hbm, 63, rfl⟩
abbrev main_v46 : Ref sig .tc := ⟨.hbm, 64, rfl⟩
abbrev main_v47 : Ref sig .tc := ⟨.hbm, 65, rfl⟩
abbrev main_c_15 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_16 : Ref sig .tc := ⟨.hbm, 72, rfl⟩
abbrev main_v53 : Ref sig .tc := ⟨.hbm, 73, rfl⟩
abbrev main_v54 : Ref sig .tc := ⟨.hbm, 74, rfl⟩
abbrev main_c_17 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_18 : Ref sig .tc := ⟨.hbm, 81, rfl⟩
abbrev main_v60 : Ref sig .tc := ⟨.hbm, 82, rfl⟩
abbrev main_v61 : Ref sig .tc := ⟨.hbm, 83, rfl⟩
abbrev main_c_19 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_20 : Ref sig .tc := ⟨.hbm, 89, rfl⟩
abbrev main_v66 : Ref sig .tc := ⟨.hbm, 90, rfl⟩
abbrev main_v67 : Ref sig .tc := ⟨.hbm, 91, rfl⟩
abbrev main_c_21 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_22 : Ref sig .tc := ⟨.hbm, 96, rfl⟩
abbrev main_v71 : Ref sig .tc := ⟨.hbm, 97, rfl⟩
abbrev main_v72 : Ref sig .tc := ⟨.hbm, 98, rfl⟩
abbrev main_c_23 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_24 : Ref sig .tc := ⟨.hbm, 105, rfl⟩
abbrev main_v78 : Ref sig .tc := ⟨.hbm, 106, rfl⟩
abbrev main_v79 : Ref sig .tc := ⟨.hbm, 107, rfl⟩
abbrev main_c_25 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_26 : Ref sig .tc := ⟨.hbm, 114, rfl⟩
abbrev main_v85 : Ref sig .tc := ⟨.hbm, 115, rfl⟩
abbrev main_v86 : Ref sig .tc := ⟨.hbm, 116, rfl⟩
abbrev main_c_27 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_28 : Ref sig .tc := ⟨.hbm, 123, rfl⟩
abbrev main_v92 : Ref sig .tc := ⟨.hbm, 124, rfl⟩
abbrev main_v93 : Ref sig .tc := ⟨.hbm, 125, rfl⟩
abbrev main_c_29 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_30 : Ref sig .tc := ⟨.hbm, 131, rfl⟩
abbrev main_v98 : Ref sig .tc := ⟨.hbm, 132, rfl⟩
abbrev main_v99 : Ref sig .tc := ⟨.hbm, 133, rfl⟩
abbrev main_c_31 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_32 : Ref sig .tc := ⟨.hbm, 138, rfl⟩
abbrev main_v103 : Ref sig .tc := ⟨.hbm, 139, rfl⟩
abbrev main_v104 : Ref sig .tc := ⟨.hbm, 140, rfl⟩
abbrev main_c_33 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_34 : Ref sig .tc := ⟨.hbm, 147, rfl⟩
abbrev main_v110 : Ref sig .tc := ⟨.hbm, 148, rfl⟩
abbrev main_v111 : Ref sig .tc := ⟨.hbm, 149, rfl⟩
abbrev main_c_35 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_36 : Ref sig .tc := ⟨.hbm, 156, rfl⟩
abbrev main_v117 : Ref sig .tc := ⟨.hbm, 157, rfl⟩
abbrev main_v118 : Ref sig .tc := ⟨.hbm, 158, rfl⟩
abbrev main_c_37 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_38 : Ref sig .tc := ⟨.hbm, 165, rfl⟩
abbrev main_v124 : Ref sig .tc := ⟨.hbm, 166, rfl⟩
abbrev main_v125 : Ref sig .tc := ⟨.hbm, 167, rfl⟩
abbrev main_c_39 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_c_40 : Ref sig .tc := ⟨.hbm, 173, rfl⟩
abbrev main_v130 : Ref sig .tc := ⟨.hbm, 174, rfl⟩
abbrev main_v131 : Ref sig .tc := ⟨.hbm, 175, rfl⟩
abbrev main_c_41 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_42 : Ref sig .tc := ⟨.hbm, 180, rfl⟩
abbrev main_v135 : Ref sig .tc := ⟨.hbm, 181, rfl⟩
abbrev main_v136 : Ref sig .tc := ⟨.hbm, 182, rfl⟩
abbrev main_c_43 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_44 : Ref sig .tc := ⟨.hbm, 189, rfl⟩
abbrev main_v142 : Ref sig .tc := ⟨.hbm, 190, rfl⟩
abbrev main_v143 : Ref sig .tc := ⟨.hbm, 191, rfl⟩
abbrev main_c_45 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_c_46 : Ref sig .tc := ⟨.hbm, 198, rfl⟩
abbrev main_v149 : Ref sig .tc := ⟨.hbm, 199, rfl⟩
abbrev main_v150 : Ref sig .tc := ⟨.hbm, 200, rfl⟩
abbrev main_c_47 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_48 : Ref sig .tc := ⟨.hbm, 207, rfl⟩
abbrev main_v156 : Ref sig .tc := ⟨.hbm, 208, rfl⟩
abbrev main_v157 : Ref sig .tc := ⟨.hbm, 209, rfl⟩
abbrev main_c_49 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_c_50 : Ref sig .tc := ⟨.hbm, 215, rfl⟩
abbrev main_v162 : Ref sig .tc := ⟨.hbm, 216, rfl⟩
abbrev main_v163 : Ref sig .tc := ⟨.hbm, 217, rfl⟩
abbrev main_c_51 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_c_52 : Ref sig .tc := ⟨.hbm, 222, rfl⟩
abbrev main_v167 : Ref sig .tc := ⟨.hbm, 223, rfl⟩
abbrev main_v168 : Ref sig .tc := ⟨.hbm, 224, rfl⟩
abbrev main_c_53 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_cst : Ref sig .tc := ⟨.hbm, 229, rfl⟩
abbrev main_v172 : Ref sig .tc := ⟨.hbm, 230, rfl⟩
abbrev main_v173 : Ref sig .tc := ⟨.hbm, 231, rfl⟩
abbrev main_cst_54 : Ref sig .tc := ⟨.hbm, 232, rfl⟩
abbrev main_v174 : Ref sig .tc := ⟨.hbm, 233, rfl⟩
abbrev main_v175 : Ref sig .tc := ⟨.hbm, 234, rfl⟩
abbrev main_cst_55 : Ref sig .tc := ⟨.hbm, 235, rfl⟩
abbrev main_v176 : Ref sig .tc := ⟨.hbm, 236, rfl⟩
abbrev main_v177 : Ref sig .tc := ⟨.hbm, 237, rfl⟩
abbrev main_cst_56 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_c_57 : Ref sig .tc := ⟨.hbm, 246, rfl⟩
abbrev main_v185 : Ref sig .tc := ⟨.hbm, 247, rfl⟩
abbrev main_v186 : Ref sig .tc := ⟨.hbm, 248, rfl⟩
abbrev main_c_58 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_c_59 : Ref sig .tc := ⟨.hbm, 253, rfl⟩
abbrev main_v190 : Ref sig .tc := ⟨.hbm, 254, rfl⟩
abbrev main_v191 : Ref sig .tc := ⟨.hbm, 255, rfl⟩
abbrev main_c_60 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_c_61 : Ref sig .tc := ⟨.hbm, 262, rfl⟩
abbrev main_v197 : Ref sig .tc := ⟨.hbm, 263, rfl⟩
abbrev main_v198 : Ref sig .tc := ⟨.hbm, 264, rfl⟩
abbrev main_c_62 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_c_63 : Ref sig .tc := ⟨.hbm, 271, rfl⟩
abbrev main_v204 : Ref sig .tc := ⟨.hbm, 272, rfl⟩
abbrev main_v205 : Ref sig .tc := ⟨.hbm, 273, rfl⟩
abbrev main_c_64 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_c_65 : Ref sig .tc := ⟨.hbm, 280, rfl⟩
abbrev main_v211 : Ref sig .tc := ⟨.hbm, 281, rfl⟩
abbrev main_v212 : Ref sig .tc := ⟨.hbm, 282, rfl⟩
abbrev main_c_66 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_c_67 : Ref sig .tc := ⟨.hbm, 288, rfl⟩
abbrev main_v217 : Ref sig .tc := ⟨.hbm, 289, rfl⟩
abbrev main_v218 : Ref sig .tc := ⟨.hbm, 290, rfl⟩
abbrev main_c_68 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_c_69 : Ref sig .tc := ⟨.hbm, 295, rfl⟩
abbrev main_v222 : Ref sig .tc := ⟨.hbm, 296, rfl⟩
abbrev main_v223 : Ref sig .tc := ⟨.hbm, 297, rfl⟩
abbrev main_c_70 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_c_71 : Ref sig .tc := ⟨.hbm, 304, rfl⟩
abbrev main_v229 : Ref sig .tc := ⟨.hbm, 305, rfl⟩
abbrev main_v230 : Ref sig .tc := ⟨.hbm, 306, rfl⟩
abbrev main_c_72 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_c_73 : Ref sig .tc := ⟨.hbm, 313, rfl⟩
abbrev main_v236 : Ref sig .tc := ⟨.hbm, 314, rfl⟩
abbrev main_v237 : Ref sig .tc := ⟨.hbm, 315, rfl⟩
abbrev main_c_74 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_c_75 : Ref sig .tc := ⟨.hbm, 322, rfl⟩
abbrev main_v243 : Ref sig .tc := ⟨.hbm, 323, rfl⟩
abbrev main_v244 : Ref sig .tc := ⟨.hbm, 324, rfl⟩
abbrev main_c_76 : Ref sig .tc := ⟨.hbm, 325, rfl⟩
abbrev main_v245 : Ref sig .tc := ⟨.hbm, 326, rfl⟩
abbrev main_v246 : Ref sig .tc := ⟨.hbm, 327, rfl⟩
abbrev main_v247 : Ref sig .tc := ⟨.hbm, 328, rfl⟩
abbrev main_v248 : Ref sig .tc := ⟨.hbm, 329, rfl⟩
abbrev main_c_77 : Ref sig .tc := ⟨.hbm, 330, rfl⟩
abbrev main_v249 : Ref sig .tc := ⟨.hbm, 331, rfl⟩
abbrev main_v250 : Ref sig .tc := ⟨.hbm, 332, rfl⟩
abbrev main_c_78 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_c_79 : Ref sig .tc := ⟨.hbm, 337, rfl⟩
abbrev main_v254 : Ref sig .tc := ⟨.hbm, 338, rfl⟩
abbrev main_v255 : Ref sig .tc := ⟨.hbm, 339, rfl⟩
abbrev main_c_80 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_c_81 : Ref sig .tc := ⟨.hbm, 346, rfl⟩
abbrev main_v261 : Ref sig .tc := ⟨.hbm, 347, rfl⟩
abbrev main_v262 : Ref sig .tc := ⟨.hbm, 348, rfl⟩
abbrev main_c_82 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_c_83 : Ref sig .tc := ⟨.hbm, 355, rfl⟩
abbrev main_v268 : Ref sig .tc := ⟨.hbm, 356, rfl⟩
abbrev main_v269 : Ref sig .tc := ⟨.hbm, 357, rfl⟩
abbrev main_c_84 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_c_85 : Ref sig .tc := ⟨.hbm, 364, rfl⟩
abbrev main_v275 : Ref sig .tc := ⟨.hbm, 365, rfl⟩
abbrev main_v276 : Ref sig .tc := ⟨.hbm, 366, rfl⟩
abbrev main_c_86 : Ref sig .tc := ⟨.hbm, 367, rfl⟩
abbrev main_v277 : Ref sig .tc := ⟨.hbm, 368, rfl⟩
abbrev main_v278 : Ref sig .tc := ⟨.hbm, 369, rfl⟩
abbrev main_v279 : Ref sig .tc := ⟨.hbm, 370, rfl⟩
abbrev main_v280 : Ref sig .tc := ⟨.hbm, 371, rfl⟩
abbrev main_c_87 : Ref sig .tc := ⟨.hbm, 372, rfl⟩
abbrev main_v281 : Ref sig .tc := ⟨.hbm, 373, rfl⟩
abbrev main_v282 : Ref sig .tc := ⟨.hbm, 374, rfl⟩
abbrev main_c_88 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_c_89 : Ref sig .tc := ⟨.hbm, 379, rfl⟩
abbrev main_v286 : Ref sig .tc := ⟨.hbm, 380, rfl⟩
abbrev main_v287 : Ref sig .tc := ⟨.hbm, 381, rfl⟩
abbrev main_c_90 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_c_91 : Ref sig .tc := ⟨.hbm, 388, rfl⟩
abbrev main_v293 : Ref sig .tc := ⟨.hbm, 389, rfl⟩
abbrev main_v294 : Ref sig .tc := ⟨.hbm, 390, rfl⟩
abbrev main_c_92 : Ref sig .tc := ⟨.hbm, 391, rfl⟩
abbrev main_v295 : Ref sig .tc := ⟨.hbm, 392, rfl⟩
abbrev main_v296 : Ref sig .tc := ⟨.hbm, 393, rfl⟩
abbrev main_v297 : Ref sig .tc := ⟨.hbm, 394, rfl⟩
abbrev main_v298 : Ref sig .tc := ⟨.hbm, 395, rfl⟩
abbrev main_v299 : Ref sig .tc := ⟨.hbm, 396, rfl⟩
abbrev main_c_93 : Ref sig .tc := ⟨.hbm, 397, rfl⟩
abbrev main_v300 : Ref sig .tc := ⟨.hbm, 398, rfl⟩
abbrev main_v301 : Ref sig .tc := ⟨.hbm, 399, rfl⟩
abbrev main_c_94 : Ref sig .tc := ⟨.hbm, 400, rfl⟩
abbrev main_v302 : Ref sig .tc := ⟨.hbm, 401, rfl⟩
abbrev main_v303 : Ref sig .tc := ⟨.hbm, 402, rfl⟩
abbrev main_v304 : Ref sig .tc := ⟨.hbm, 403, rfl⟩
abbrev main_v305 : Ref sig .tc := ⟨.hbm, 404, rfl⟩
abbrev main_v306 : Ref sig .tc := ⟨.hbm, 405, rfl⟩
abbrev main_c_95 : Ref sig .tc := ⟨.hbm, 406, rfl⟩
abbrev main_v307 : Ref sig .tc := ⟨.hbm, 407, rfl⟩
abbrev main_v308 : Ref sig .tc := ⟨.hbm, 408, rfl⟩
abbrev main_c_96 : Ref sig .tc := ⟨.hbm, 409, rfl⟩
abbrev main_v309 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_c_97 : Ref sig .tc := ⟨.hbm, 414, rfl⟩
abbrev main_v313 : Ref sig .tc := ⟨.hbm, 415, rfl⟩
abbrev main_v314 : Ref sig .tc := ⟨.hbm, 416, rfl⟩
abbrev main_c_98 : Ref sig .tc := ⟨.hbm, 417, rfl⟩
abbrev main_v315 : Ref sig .tc := ⟨.hbm, 418, rfl⟩
abbrev main_v316 : Ref sig .tc := ⟨.hbm, 419, rfl⟩
abbrev main_v317 : Ref sig .tc := ⟨.hbm, 420, rfl⟩
abbrev main_c_99 : Ref sig .tc := ⟨.hbm, 421, rfl⟩
abbrev main_v318 : Ref sig .tc := ⟨.hbm, 422, rfl⟩
abbrev main_v319 : Ref sig .tc := ⟨.hbm, 423, rfl⟩
abbrev main_c_100 : Ref sig .tc := ⟨.hbm, 424, rfl⟩
abbrev main_v320 : Ref sig .tc := ⟨.hbm, 425, rfl⟩
abbrev main_v321 : Ref sig .tc := ⟨.hbm, 426, rfl⟩
abbrev main_v322 : Ref sig .tc := ⟨.hbm, 427, rfl⟩
abbrev main_v323 : Ref sig .tc := ⟨.hbm, 428, rfl⟩
abbrev main_v324 : Ref sig .tc := ⟨.hbm, 429, rfl⟩
abbrev main_c_101 : Ref sig .tc := ⟨.hbm, 430, rfl⟩
abbrev main_v325 : Ref sig .tc := ⟨.hbm, 431, rfl⟩
abbrev main_v326 : Ref sig .tc := ⟨.hbm, 432, rfl⟩
abbrev main_c_102 : Ref sig .tc := ⟨.hbm, 433, rfl⟩
abbrev main_v327 : Ref sig .tc := ⟨.hbm, 434, rfl⟩
abbrev main_v328 : Ref sig .tc := ⟨.hbm, 435, rfl⟩
abbrev main_v329 : Ref sig .tc := ⟨.hbm, 436, rfl⟩
abbrev main_v330 : Ref sig .tc := ⟨.hbm, 437, rfl⟩
abbrev main_v331 : Ref sig .tc := ⟨.hbm, 438, rfl⟩
abbrev main_c_103 : Ref sig .tc := ⟨.hbm, 439, rfl⟩
abbrev main_v332 : Ref sig .tc := ⟨.hbm, 440, rfl⟩
abbrev main_v333 : Ref sig .tc := ⟨.hbm, 441, rfl⟩
abbrev main_c_104 : Ref sig .tc := ⟨.hbm, 442, rfl⟩
abbrev main_v334 : Ref sig .tc := ⟨.hbm, 443, rfl⟩
abbrev main_v335 : Ref sig .tc := ⟨.hbm, 444, rfl⟩
abbrev main_v336 : Ref sig .tc := ⟨.hbm, 445, rfl⟩
abbrev main_v337 : Ref sig .tc := ⟨.hbm, 446, rfl⟩
abbrev main_v338 : Ref sig .tc := ⟨.hbm, 447, rfl⟩
abbrev main_c_105 : Ref sig .tc := ⟨.hbm, 448, rfl⟩
abbrev main_v339 : Ref sig .tc := ⟨.hbm, 449, rfl⟩
abbrev main_v340 : Ref sig .tc := ⟨.hbm, 450, rfl⟩
abbrev main_c_106 : Ref sig .tc := ⟨.hbm, 451, rfl⟩
abbrev main_v341 : Ref sig .tc := ⟨.hbm, 452, rfl⟩
abbrev main_v342 : Ref sig .tc := ⟨.hbm, 453, rfl⟩
abbrev main_v343 : Ref sig .tc := ⟨.hbm, 454, rfl⟩
abbrev main_v344 : Ref sig .tc := ⟨.hbm, 455, rfl⟩
abbrev main_c_107 : Ref sig .tc := ⟨.hbm, 456, rfl⟩
abbrev main_v345 : Ref sig .tc := ⟨.hbm, 457, rfl⟩
abbrev main_v346 : Ref sig .tc := ⟨.hbm, 458, rfl⟩
abbrev main_c_108 : Ref sig .tc := ⟨.hbm, 459, rfl⟩
abbrev main_v347 : Ref sig .tc := ⟨.hbm, 460, rfl⟩
abbrev main_v348 : Ref sig .tc := ⟨.hbm, 461, rfl⟩
abbrev main_v349 : Ref sig .tc := ⟨.hbm, 462, rfl⟩
abbrev main_c_109 : Ref sig .tc := ⟨.hbm, 463, rfl⟩
abbrev main_v350 : Ref sig .tc := ⟨.hbm, 464, rfl⟩
abbrev main_v351 : Ref sig .tc := ⟨.hbm, 465, rfl⟩
abbrev main_c_110 : Ref sig .tc := ⟨.hbm, 466, rfl⟩
abbrev main_v352 : Ref sig .tc := ⟨.hbm, 467, rfl⟩
abbrev main_v353 : Ref sig .tc := ⟨.hbm, 468, rfl⟩
abbrev main_v354 : Ref sig .tc := ⟨.hbm, 469, rfl⟩
abbrev main_cst_111 : Ref sig .tc := ⟨.hbm, 470, rfl⟩
abbrev main_v355 : Ref sig .tc := ⟨.hbm, 471, rfl⟩
abbrev main_v356 : Ref sig .tc := ⟨.hbm, 472, rfl⟩
abbrev main_cst_112 : Ref sig .tc := ⟨.hbm, 473, rfl⟩
abbrev main_v357 : Ref sig .tc := ⟨.hbm, 474, rfl⟩
abbrev main_v358 : Ref sig .tc := ⟨.hbm, 475, rfl⟩
abbrev main_cst_113 : Ref sig .tc := ⟨.hbm, 476, rfl⟩
abbrev main_v359 : Ref sig .tc := ⟨.hbm, 477, rfl⟩
abbrev main_v360 : Ref sig .tc := ⟨.hbm, 478, rfl⟩
abbrev main_cst_114 : Ref sig .tc := ⟨.hbm, 479, rfl⟩
abbrev main_v361 : Ref sig .tc := ⟨.hbm, 480, rfl⟩
abbrev main_v362 : Ref sig .tc := ⟨.hbm, 481, rfl⟩
abbrev main_v363 : Ref sig .tc := ⟨.hbm, 482, rfl⟩
abbrev main_v364 : Ref sig .tc := ⟨.hbm, 483, rfl⟩
abbrev main_v365 : Ref sig .tc := ⟨.hbm, 484, rfl⟩
abbrev main_v366 : Ref sig .tc := ⟨.hbm, 485, rfl⟩
abbrev main_v367 : Ref sig .tc := ⟨.hbm, 486, rfl⟩
abbrev main_v368 : Ref sig .tc := ⟨.hbm, 487, rfl⟩
abbrev main_v369 : Ref sig .tc := ⟨.hbm, 488, rfl⟩
abbrev main_v370 : Ref sig .tc := ⟨.hbm, 489, rfl⟩
abbrev main_v371_0 : Ref sig .tc := ⟨.hbm, 490, rfl⟩
abbrev main_v371_1 : Ref sig .tc := ⟨.hbm, 491, rfl⟩
abbrev main_v371_2 : Ref sig .tc := ⟨.hbm, 492, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x200000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x200000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x200000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x128x100000 : Shape := ⟨3, ![2, 128, 100000]⟩
abbrev S128x200000 : Shape := ⟨2, ![128, 200000]⟩
abbrev S_ : Shape := ⟨0, ![]⟩
abbrev S128x100000 : Shape := ⟨2, ![128, 100000]⟩
abbrev S1x128x100000 : Shape := ⟨3, ![1, 128, 100000]⟩
abbrev S128 : Shape := ⟨1, ![128]⟩
abbrev S128x1 : Shape := ⟨2, ![128, 1]⟩
abbrev S128x2 : Shape := ⟨2, ![128, 2]⟩

abbrev nBuf : Space → Nat
  | .hbm => 599
  | .vmem => 0
  | .smem => 0
  | _ => 0

abbrev hbmTy0_0 (i : Nat) : BufTy := match i % 128 with
  | 0 => ⟨S2x128x100000, .f32⟩
  | 1 => ⟨S128x200000, .f32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S_, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S128x100000, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S2x128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S128x100000, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S128x100000, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S128x100000, .f32⟩
  | 118 => ⟨S_, .f32⟩
  | 119 => ⟨S128x100000, .f32⟩
  | 120 => ⟨S128x100000, .f32⟩
  | 121 => ⟨S_, .f32⟩
  | 122 => ⟨S128x100000, .f32⟩
  | 123 => ⟨S128x100000, .f32⟩
  | 124 => ⟨S_, .f32⟩
  | 125 => ⟨S128x100000, .f32⟩
  | 126 => ⟨S128x100000, .f32⟩
  | 127 => ⟨S_, .f32⟩
  | _ => ⟨S2x128x100000, .f32⟩

abbrev hbmTy0_2 (i : Nat) : BufTy := match i % 128 with
  | 0 => ⟨S128x100000, .f32⟩
  | 1 => ⟨S128x100000, .f32⟩
  | 2 => ⟨S128x100000, .f32⟩
  | 3 => ⟨S128x100000, .f32⟩
  | 4 => ⟨S128x100000, .f32⟩
  | 5 => ⟨S128x100000, .f32⟩
  | 6 => ⟨S_, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S128x100000, .i32⟩
  | 18 => ⟨S_, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S128x100000, .i32⟩
  | 34 => ⟨S128x100000, .i32⟩
  | 35 => ⟨S128x100000, .i32⟩
  | 36 => ⟨S_, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S128x100000, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S128x100000, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S2x128x100000, .f32⟩

abbrev hbmTy0_3 (i : Nat) : BufTy := match i % 128 with
  | 0 => ⟨S128x100000, .i32⟩
  | 1 => ⟨S_, .i32⟩
  | 2 => ⟨S128x100000, .i32⟩
  | 3 => ⟨S128x100000, .i32⟩
  | 4 => ⟨S128x100000, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S_, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .f32⟩
  | 122 => ⟨S_, .f32⟩
  | 123 => ⟨S128x100000, .f32⟩
  | 124 => ⟨S128x100000, .f32⟩
  | 125 => ⟨S_, .f32⟩
  | 126 => ⟨S128x100000, .f32⟩
  | 127 => ⟨S128x100000, .f32⟩
  | _ => ⟨S2x128x100000, .f32⟩

abbrev hbmTy0_4 (i : Nat) : BufTy := match i % 128 with
  | 0 => ⟨S_, .f32⟩
  | 1 => ⟨S128x100000, .f32⟩
  | 2 => ⟨S128x100000, .f32⟩
  | 3 => ⟨S_, .f32⟩
  | 4 => ⟨S128x100000, .f32⟩
  | 5 => ⟨S128x100000, .f32⟩
  | 6 => ⟨S128x100000, .f32⟩
  | 7 => ⟨S128x100000, .f32⟩
  | 8 => ⟨S128x100000, .f32⟩
  | 9 => ⟨S128x100000, .f32⟩
  | 10 => ⟨S128x100000, .f32⟩
  | 11 => ⟨S128x100000, .f32⟩
  | 12 => ⟨S1x128x100000, .f32⟩
  | 13 => ⟨S128x100000, .f32⟩
  | 14 => ⟨S_, .f32⟩
  | 15 => ⟨S128, .f32⟩
  | 16 => ⟨S_, .f32⟩
  | 17 => ⟨S128, .f32⟩
  | 18 => ⟨S128, .f32⟩
  | 19 => ⟨S128x1, .f32⟩
  | 20 => ⟨S128x100000, .f32⟩
  | 21 => ⟨S128x100000, .f32⟩
  | 22 => ⟨S128x100000, .f32⟩
  | 23 => ⟨S_, .f32⟩
  | 24 => ⟨S128, .f32⟩
  | 25 => ⟨S128x1, .f32⟩
  | 26 => ⟨S128x100000, .f32⟩
  | 27 => ⟨S128x100000, .f32⟩
  | 28 => ⟨S_, .f32⟩
  | 29 => ⟨S128x100000, .f32⟩
  | 30 => ⟨S128x100000, .f32⟩
  | 31 => ⟨S128x100000, .f32⟩
  | 32 => ⟨S1x128x100000, .f32⟩
  | 33 => ⟨S128x100000, .f32⟩
  | 34 => ⟨S_, .f32⟩
  | 35 => ⟨S128, .f32⟩
  | 36 => ⟨S_, .f32⟩
  | 37 => ⟨S128, .f32⟩
  | 38 => ⟨S128, .f32⟩
  | 39 => ⟨S128x1, .f32⟩
  | 40 => ⟨S128x100000, .f32⟩
  | 41 => ⟨S128x100000, .f32⟩
  | 42 => ⟨S128x100000, .f32⟩
  | 43 => ⟨S_, .f32⟩
  | 44 => ⟨S128, .f32⟩
  | 45 => ⟨S128x1, .f32⟩
  | 46 => ⟨S128x100000, .f32⟩
  | 47 => ⟨S128x100000, .f32⟩
  | 48 => ⟨S_, .f32⟩
  | 49 => ⟨S128x100000, .f32⟩
  | 50 => ⟨S128x100000, .f32⟩
  | 51 => ⟨S128x100000, .f32⟩
  | 52 => ⟨S_, .f32⟩
  | 53 => ⟨S128, .f32⟩
  | 54 => ⟨S128x1, .f32⟩
  | 55 => ⟨S128x100000, .f32⟩
  | 56 => ⟨S128x100000, .f32⟩
  | 57 => ⟨S_, .f32⟩
  | 58 => ⟨S128, .f32⟩
  | 59 => ⟨S128x1, .f32⟩
  | 60 => ⟨S128x100000, .f32⟩
  | 61 => ⟨S128x100000, .f32⟩
  | 62 => ⟨S_, .f32⟩
  | 63 => ⟨S128x100000, .f32⟩
  | 64 => ⟨S128x100000, .f32⟩
  | 65 => ⟨S128x100000, .f32⟩
  | 66 => ⟨S_, .f32⟩
  | 67 => ⟨S128x100000, .f32⟩
  | 68 => ⟨S128x100000, .f32⟩
  | 69 => ⟨S128x100000, .f32⟩
  | 70 => ⟨S128x100000, .f32⟩
  | 71 => ⟨S128x100000, .i32⟩
  | 72 => ⟨S_, .f32⟩
  | 73 => ⟨S_, .i32⟩
  | 74 => ⟨S128, .f32⟩
  | 75 => ⟨S128, .i32⟩
  | 76 => ⟨S128x1, .i32⟩
  | 77 => ⟨S128x100000, .f32⟩
  | 78 => ⟨S128x100000, .i32⟩
  | 79 => ⟨S_, .f32⟩
  | 80 => ⟨S_, .i32⟩
  | 81 => ⟨S128, .f32⟩
  | 82 => ⟨S128, .i32⟩
  | 83 => ⟨S128x1, .i32⟩
  | 84 => ⟨S128x2, .i32⟩
  | 85 => ⟨S128x200000, .f32⟩
  | 86 => ⟨S128x200000, .f32⟩
  | _ => ⟨S2x128x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x128x100000, .f32⟩

abbrev bufTy : (tb : Table) → Fin (tcTables nBuf tb) → BufTy
  | .hbm, ⟨i, _⟩ => hbmTy i
  | _, _ => ⟨S2x128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_6 : Ref sig .tc := ⟨.hbm, 32, rfl⟩
abbrev main_v23 : Ref sig .tc := ⟨.hbm, 33, rfl⟩
abbrev main_v24 : Ref sig .tc := ⟨.hbm, 34, rfl⟩
abbrev main_c_7 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_8 : Ref sig .tc := ⟨.hbm, 41, rfl⟩
abbrev main_v30 : Ref sig .tc := ⟨.hbm, 42, rfl⟩
abbrev main_v31 : Ref sig .tc := ⟨.hbm, 43, rfl⟩
abbrev main_c_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_10 : Ref sig .tc := ⟨.hbm, 49, rfl⟩
abbrev main_v36 : Ref sig .tc := ⟨.hbm, 50, rfl⟩
abbrev main_v37 : Ref sig .tc := ⟨.hbm, 51, rfl⟩
abbrev main_c_11 : Ref sig .tc := ⟨.hbm, 52, rfl⟩
abbrev main_v38 : Ref sig .tc := ⟨.hbm, 53, rfl⟩
abbrev main_v39 : Ref sig .tc := ⟨.hbm, 54, rfl⟩
abbrev main_c_12 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_13 : Ref sig .tc := ⟨.hbm, 59, rfl⟩
abbrev main_v43 : Ref sig .tc := ⟨.hbm, 60, rfl⟩
abbrev main_v44 : Ref sig .tc := ⟨.hbm, 61, rfl⟩
abbrev main_c_14 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_15 : Ref sig .tc := ⟨.hbm, 68, rfl⟩
abbrev main_v50 : Ref sig .tc := ⟨.hbm, 69, rfl⟩
abbrev main_v51 : Ref sig .tc := ⟨.hbm, 70, rfl⟩
abbrev main_c_16 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_17 : Ref sig .tc := ⟨.hbm, 77, rfl⟩
abbrev main_v57 : Ref sig .tc := ⟨.hbm, 78, rfl⟩
abbrev main_v58 : Ref sig .tc := ⟨.hbm, 79, rfl⟩
abbrev main_c_18 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_19 : Ref sig .tc := ⟨.hbm, 86, rfl⟩
abbrev main_v64 : Ref sig .tc := ⟨.hbm, 87, rfl⟩
abbrev main_v65 : Ref sig .tc := ⟨.hbm, 88, rfl⟩
abbrev main_c_20 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_21 : Ref sig .tc := ⟨.hbm, 94, rfl⟩
abbrev main_v70 : Ref sig .tc := ⟨.hbm, 95, rfl⟩
abbrev main_v71 : Ref sig .tc := ⟨.hbm, 96, rfl⟩
abbrev main_c_22 : Ref sig .tc := ⟨.hbm, 97, rfl⟩
abbrev main_v72 : Ref sig .tc := ⟨.hbm, 98, rfl⟩
abbrev main_v73 : Ref sig .tc := ⟨.hbm, 99, rfl⟩
abbrev main_c_23 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_24 : Ref sig .tc := ⟨.hbm, 104, rfl⟩
abbrev main_v77 : Ref sig .tc := ⟨.hbm, 105, rfl⟩
abbrev main_v78 : Ref sig .tc := ⟨.hbm, 106, rfl⟩
abbrev main_c_25 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_26 : Ref sig .tc := ⟨.hbm, 113, rfl⟩
abbrev main_v84 : Ref sig .tc := ⟨.hbm, 114, rfl⟩
abbrev main_v85 : Ref sig .tc := ⟨.hbm, 115, rfl⟩
abbrev main_c_27 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_28 : Ref sig .tc := ⟨.hbm, 122, rfl⟩
abbrev main_v91 : Ref sig .tc := ⟨.hbm, 123, rfl⟩
abbrev main_v92 : Ref sig .tc := ⟨.hbm, 124, rfl⟩
abbrev main_c_29 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_30 : Ref sig .tc := ⟨.hbm, 131, rfl⟩
abbrev main_v98 : Ref sig .tc := ⟨.hbm, 132, rfl⟩
abbrev main_v99 : Ref sig .tc := ⟨.hbm, 133, rfl⟩
abbrev main_c_31 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_32 : Ref sig .tc := ⟨.hbm, 139, rfl⟩
abbrev main_v104 : Ref sig .tc := ⟨.hbm, 140, rfl⟩
abbrev main_v105 : Ref sig .tc := ⟨.hbm, 141, rfl⟩
abbrev main_c_33 : Ref sig .tc := ⟨.hbm, 142, rfl⟩
abbrev main_v106 : Ref sig .tc := ⟨.hbm, 143, rfl⟩
abbrev main_v107 : Ref sig .tc := ⟨.hbm, 144, rfl⟩
abbrev main_c_34 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_35 : Ref sig .tc := ⟨.hbm, 149, rfl⟩
abbrev main_v111 : Ref sig .tc := ⟨.hbm, 150, rfl⟩
abbrev main_v112 : Ref sig .tc := ⟨.hbm, 151, rfl⟩
abbrev main_c_36 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_37 : Ref sig .tc := ⟨.hbm, 158, rfl⟩
abbrev main_v118 : Ref sig .tc := ⟨.hbm, 159, rfl⟩
abbrev main_v119 : Ref sig .tc := ⟨.hbm, 160, rfl⟩
abbrev main_c_38 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_39 : Ref sig .tc := ⟨.hbm, 167, rfl⟩
abbrev main_v125 : Ref sig .tc := ⟨.hbm, 168, rfl⟩
abbrev main_v126 : Ref sig .tc := ⟨.hbm, 169, rfl⟩
abbrev main_c_40 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_41 : Ref sig .tc := ⟨.hbm, 176, rfl⟩
abbrev main_v132 : Ref sig .tc := ⟨.hbm, 177, rfl⟩
abbrev main_v133 : Ref sig .tc := ⟨.hbm, 178, rfl⟩
abbrev main_c_42 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_c_43 : Ref sig .tc := ⟨.hbm, 184, rfl⟩
abbrev main_v138 : Ref sig .tc := ⟨.hbm, 185, rfl⟩
abbrev main_v139 : Ref sig .tc := ⟨.hbm, 186, rfl⟩
abbrev main_c_44 : Ref sig .tc := ⟨.hbm, 187, rfl⟩
abbrev main_v140 : Ref sig .tc := ⟨.hbm, 188, rfl⟩
abbrev main_v141 : Ref sig .tc := ⟨.hbm, 189, rfl⟩
abbrev main_c_45 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_c_46 : Ref sig .tc := ⟨.hbm, 194, rfl⟩
abbrev main_v145 : Ref sig .tc := ⟨.hbm, 195, rfl⟩
abbrev main_v146 : Ref sig .tc := ⟨.hbm, 196, rfl⟩
abbrev main_c_47 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_c_48 : Ref sig .tc := ⟨.hbm, 203, rfl⟩
abbrev main_v152 : Ref sig .tc := ⟨.hbm, 204, rfl⟩
abbrev main_v153 : Ref sig .tc := ⟨.hbm, 205, rfl⟩
abbrev main_c_49 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_c_50 : Ref sig .tc := ⟨.hbm, 212, rfl⟩
abbrev main_v159 : Ref sig .tc := ⟨.hbm, 213, rfl⟩
abbrev main_v160 : Ref sig .tc := ⟨.hbm, 214, rfl⟩
abbrev main_c_51 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_c_52 : Ref sig .tc := ⟨.hbm, 221, rfl⟩
abbrev main_v166 : Ref sig .tc := ⟨.hbm, 222, rfl⟩
abbrev main_v167 : Ref sig .tc := ⟨.hbm, 223, rfl⟩
abbrev main_c_53 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_c_54 : Ref sig .tc := ⟨.hbm, 229, rfl⟩
abbrev main_v172 : Ref sig .tc := ⟨.hbm, 230, rfl⟩
abbrev main_v173 : Ref sig .tc := ⟨.hbm, 231, rfl⟩
abbrev main_c_55 : Ref sig .tc := ⟨.hbm, 232, rfl⟩
abbrev main_v174 : Ref sig .tc := ⟨.hbm, 233, rfl⟩
abbrev main_v175 : Ref sig .tc := ⟨.hbm, 234, rfl⟩
abbrev main_c_56 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_c_57 : Ref sig .tc := ⟨.hbm, 239, rfl⟩
abbrev main_v179 : Ref sig .tc := ⟨.hbm, 240, rfl⟩
abbrev main_v180 : Ref sig .tc := ⟨.hbm, 241, rfl⟩
abbrev main_c_58 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_cst : Ref sig .tc := ⟨.hbm, 246, rfl⟩
abbrev main_v184 : Ref sig .tc := ⟨.hbm, 247, rfl⟩
abbrev main_v185 : Ref sig .tc := ⟨.hbm, 248, rfl⟩
abbrev main_cst_59 : Ref sig .tc := ⟨.hbm, 249, rfl⟩
abbrev main_v186 : Ref sig .tc := ⟨.hbm, 250, rfl⟩
abbrev main_v187 : Ref sig .tc := ⟨.hbm, 251, rfl⟩
abbrev main_cst_60 : Ref sig .tc := ⟨.hbm, 252, rfl⟩
abbrev main_v188 : Ref sig .tc := ⟨.hbm, 253, rfl⟩
abbrev main_v189 : Ref sig .tc := ⟨.hbm, 254, rfl⟩
abbrev main_cst_61 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_c_62 : Ref sig .tc := ⟨.hbm, 262, rfl⟩
abbrev main_v196 : Ref sig .tc := ⟨.hbm, 263, rfl⟩
abbrev main_v197 : Ref sig .tc := ⟨.hbm, 264, rfl⟩
abbrev main_c_63 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_c_64 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_c_65 : Ref sig .tc := ⟨.hbm, 274, rfl⟩
abbrev main_v205 : Ref sig .tc := ⟨.hbm, 275, rfl⟩
abbrev main_v206 : Ref sig .tc := ⟨.hbm, 276, rfl⟩
abbrev main_c_66 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_c_67 : Ref sig .tc := ⟨.hbm, 283, rfl⟩
abbrev main_v212 : Ref sig .tc := ⟨.hbm, 284, rfl⟩
abbrev main_v213 : Ref sig .tc := ⟨.hbm, 285, rfl⟩
abbrev main_c_68 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_c_69 : Ref sig .tc := ⟨.hbm, 292, rfl⟩
abbrev main_v219 : Ref sig .tc := ⟨.hbm, 293, rfl⟩
abbrev main_v220 : Ref sig .tc := ⟨.hbm, 294, rfl⟩
abbrev main_c_70 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_c_71 : Ref sig .tc := ⟨.hbm, 301, rfl⟩
abbrev main_v226 : Ref sig .tc := ⟨.hbm, 302, rfl⟩
abbrev main_v227 : Ref sig .tc := ⟨.hbm, 303, rfl⟩
abbrev main_c_72 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_c_73 : Ref sig .tc := ⟨.hbm, 309, rfl⟩
abbrev main_v232 : Ref sig .tc := ⟨.hbm, 310, rfl⟩
abbrev main_v233 : Ref sig .tc := ⟨.hbm, 311, rfl⟩
abbrev main_c_74 : Ref sig .tc := ⟨.hbm, 312, rfl⟩
abbrev main_v234 : Ref sig .tc := ⟨.hbm, 313, rfl⟩
abbrev main_v235 : Ref sig .tc := ⟨.hbm, 314, rfl⟩
abbrev main_c_75 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_c_76 : Ref sig .tc := ⟨.hbm, 319, rfl⟩
abbrev main_v239 : Ref sig .tc := ⟨.hbm, 320, rfl⟩
abbrev main_v240 : Ref sig .tc := ⟨.hbm, 321, rfl⟩
abbrev main_c_77 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_c_78 : Ref sig .tc := ⟨.hbm, 328, rfl⟩
abbrev main_v246 : Ref sig .tc := ⟨.hbm, 329, rfl⟩
abbrev main_v247 : Ref sig .tc := ⟨.hbm, 330, rfl⟩
abbrev main_c_79 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_c_80 : Ref sig .tc := ⟨.hbm, 337, rfl⟩
abbrev main_v253 : Ref sig .tc := ⟨.hbm, 338, rfl⟩
abbrev main_v254 : Ref sig .tc := ⟨.hbm, 339, rfl⟩
abbrev main_c_81 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_c_82 : Ref sig .tc := ⟨.hbm, 346, rfl⟩
abbrev main_v260 : Ref sig .tc := ⟨.hbm, 347, rfl⟩
abbrev main_v261 : Ref sig .tc := ⟨.hbm, 348, rfl⟩
abbrev main_c_83 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_c_84 : Ref sig .tc := ⟨.hbm, 354, rfl⟩
abbrev main_v266 : Ref sig .tc := ⟨.hbm, 355, rfl⟩
abbrev main_v267 : Ref sig .tc := ⟨.hbm, 356, rfl⟩
abbrev main_c_85 : Ref sig .tc := ⟨.hbm, 357, rfl⟩
abbrev main_v268 : Ref sig .tc := ⟨.hbm, 358, rfl⟩
abbrev main_v269 : Ref sig .tc := ⟨.hbm, 359, rfl⟩
abbrev main_c_86 : Ref sig .tc := ⟨.hbm, 360, rfl⟩
abbrev main_v270 : Ref sig .tc := ⟨.hbm, 361, rfl⟩
abbrev main_v271 : Ref sig .tc := ⟨.hbm, 362, rfl⟩
abbrev main_v272 : Ref sig .tc := ⟨.hbm, 363, rfl⟩
abbrev main_c_87 : Ref sig .tc := ⟨.hbm, 364, rfl⟩
abbrev main_v273 : Ref sig .tc := ⟨.hbm, 365, rfl⟩
abbrev main_v274 : Ref sig .tc := ⟨.hbm, 366, rfl⟩
abbrev main_c_88 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_c_89 : Ref sig .tc := ⟨.hbm, 373, rfl⟩
abbrev main_v280 : Ref sig .tc := ⟨.hbm, 374, rfl⟩
abbrev main_v281 : Ref sig .tc := ⟨.hbm, 375, rfl⟩
abbrev main_c_90 : Ref sig .tc := ⟨.hbm, 376, rfl⟩
abbrev main_v282 : Ref sig .tc := ⟨.hbm, 377, rfl⟩
abbrev main_v283 : Ref sig .tc := ⟨.hbm, 378, rfl⟩
abbrev main_v284 : Ref sig .tc := ⟨.hbm, 379, rfl⟩
abbrev main_v285 : Ref sig .tc := ⟨.hbm, 380, rfl⟩
abbrev main_v286 : Ref sig .tc := ⟨.hbm, 381, rfl⟩
abbrev main_c_91 : Ref sig .tc := ⟨.hbm, 382, rfl⟩
abbrev main_v287 : Ref sig .tc := ⟨.hbm, 383, rfl⟩
abbrev main_v288 : Ref sig .tc := ⟨.hbm, 384, rfl⟩
abbrev main_c_92 : Ref sig .tc := ⟨.hbm, 385, rfl⟩
abbrev main_v289 : Ref sig .tc := ⟨.hbm, 386, rfl⟩
abbrev main_v290 : Ref sig .tc := ⟨.hbm, 387, rfl⟩
abbrev main_v291 : Ref sig .tc := ⟨.hbm, 388, rfl⟩
abbrev main_v292 : Ref sig .tc := ⟨.hbm, 389, rfl⟩
abbrev main_v293 : Ref sig .tc := ⟨.hbm, 390, rfl⟩
abbrev main_c_93 : Ref sig .tc := ⟨.hbm, 391, rfl⟩
abbrev main_v294 : Ref sig .tc := ⟨.hbm, 392, rfl⟩
abbrev main_v295 : Ref sig .tc := ⟨.hbm, 393, rfl⟩
abbrev main_c_94 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_v299 : Ref sig .tc := ⟨.hbm, 398, rfl⟩
abbrev main_c_95 : Ref sig .tc := ⟨.hbm, 399, rfl⟩
abbrev main_v300 : Ref sig .tc := ⟨.hbm, 400, rfl⟩
abbrev main_v301 : Ref sig .tc := ⟨.hbm, 401, rfl⟩
abbrev main_c_96 : Ref sig .tc := ⟨.hbm, 402, rfl⟩
abbrev main_v302 : Ref sig .tc := ⟨.hbm, 403, rfl⟩
abbrev main_v303 : Ref sig .tc := ⟨.hbm, 404, rfl⟩
abbrev main_c_97 : Ref sig .tc := ⟨.hbm, 405, rfl⟩
abbrev main_v304 : Ref sig .tc := ⟨.hbm, 406, rfl⟩
abbrev main_v305 : Ref sig .tc := ⟨.hbm, 407, rfl⟩
abbrev main_v306 : Ref sig .tc := ⟨.hbm, 408, rfl⟩
abbrev main_c_98 : Ref sig .tc := ⟨.hbm, 409, rfl⟩
abbrev main_v307 : Ref sig .tc := ⟨.hbm, 410, rfl⟩
abbrev main_v308 : Ref sig .tc := ⟨.hbm, 411, rfl⟩
abbrev main_c_99 : Ref sig .tc := ⟨.hbm, 412, rfl⟩
abbrev main_v309 : Ref sig .tc := ⟨.hbm, 413, rfl⟩
abbrev main_v310 : Ref sig .tc := ⟨.hbm, 414, rfl⟩
abbrev main_v311 : Ref sig .tc := ⟨.hbm, 415, rfl⟩
abbrev main_v312 : Ref sig .tc := ⟨.hbm, 416, rfl⟩
abbrev main_v313 : Ref sig .tc := ⟨.hbm, 417, rfl⟩
abbrev main_c_100 : Ref sig .tc := ⟨.hbm, 418, rfl⟩
abbrev main_v314 : Ref sig .tc := ⟨.hbm, 419, rfl⟩
abbrev main_v315 : Ref sig .tc := ⟨.hbm, 420, rfl⟩
abbrev main_c_101 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_v320 : Ref sig .tc := ⟨.hbm, 426, rfl⟩
abbrev main_c_102 : Ref sig .tc := ⟨.hbm, 427, rfl⟩
abbrev main_v321 : Ref sig .tc := ⟨.hbm, 428, rfl⟩
abbrev main_v322 : Ref sig .tc := ⟨.hbm, 429, rfl⟩
abbrev main_c_103 : Ref sig .tc := ⟨.hbm, 430, rfl⟩
abbrev main_v323 : Ref sig .tc := ⟨.hbm, 431, rfl⟩
abbrev main_v324 : Ref sig .tc := ⟨.hbm, 432, rfl⟩
abbrev main_v325 : Ref sig .tc := ⟨.hbm, 433, rfl⟩
abbrev main_v326 : Ref sig .tc := ⟨.hbm, 434, rfl⟩
abbrev main_v327 : Ref sig .tc := ⟨.hbm, 435, rfl⟩
abbrev main_c_104 : Ref sig .tc := ⟨.hbm, 436, rfl⟩
abbrev main_v328 : Ref sig .tc := ⟨.hbm, 437, rfl⟩
abbrev main_v329 : Ref sig .tc := ⟨.hbm, 438, rfl⟩
abbrev main_c_105 : Ref sig .tc := ⟨.hbm, 439, rfl⟩
abbrev main_v330 : Ref sig .tc := ⟨.hbm, 440, rfl⟩
abbrev main_v331 : Ref sig .tc := ⟨.hbm, 441, rfl⟩
abbrev main_v332 : Ref sig .tc := ⟨.hbm, 442, rfl⟩
abbrev main_v333 : Ref sig .tc := ⟨.hbm, 443, rfl⟩
abbrev main_c_106 : Ref sig .tc := ⟨.hbm, 444, rfl⟩
abbrev main_v334 : Ref sig .tc := ⟨.hbm, 445, rfl⟩
abbrev main_v335 : Ref sig .tc := ⟨.hbm, 446, rfl⟩
abbrev main_c_107 : Ref sig .tc := ⟨.hbm, 447, rfl⟩
abbrev main_v336 : Ref sig .tc := ⟨.hbm, 448, rfl⟩
abbrev main_v337 : Ref sig .tc := ⟨.hbm, 449, rfl⟩
abbrev main_c_108 : Ref sig .tc := ⟨.hbm, 450, rfl⟩
abbrev main_v338 : Ref sig .tc := ⟨.hbm, 451, rfl⟩
abbrev main_v339 : Ref sig .tc := ⟨.hbm, 452, rfl⟩
abbrev main_v340 : Ref sig .tc := ⟨.hbm, 453, rfl⟩
abbrev main_c_109 : Ref sig .tc := ⟨.hbm, 454, rfl⟩
abbrev main_v341 : Ref sig .tc := ⟨.hbm, 455, rfl⟩
abbrev main_v342 : Ref sig .tc := ⟨.hbm, 456, rfl⟩
abbrev main_c_110 : Ref sig .tc := ⟨.hbm, 457, rfl⟩
abbrev main_v343 : Ref sig .tc := ⟨.hbm, 458, rfl⟩
abbrev main_v344 : Ref sig .tc := ⟨.hbm, 459, rfl⟩
abbrev main_v345 : Ref sig .tc := ⟨.hbm, 460, rfl⟩
abbrev main_v346 : Ref sig .tc := ⟨.hbm, 461, rfl⟩
abbrev main_v347 : Ref sig .tc := ⟨.hbm, 462, rfl⟩
abbrev main_c_111 : Ref sig .tc := ⟨.hbm, 463, rfl⟩
abbrev main_v348 : Ref sig .tc := ⟨.hbm, 464, rfl⟩
abbrev main_v349 : Ref sig .tc := ⟨.hbm, 465, rfl⟩
abbrev main_c_112 : Ref sig .tc := ⟨.hbm, 466, rfl⟩
abbrev main_v350 : Ref sig .tc := ⟨.hbm, 467, rfl⟩
abbrev main_v351 : Ref sig .tc := ⟨.hbm, 468, rfl⟩
abbrev main_v352 : Ref sig .tc := ⟨.hbm, 469, rfl⟩
abbrev main_v353 : Ref sig .tc := ⟨.hbm, 470, rfl⟩
abbrev main_v354 : Ref sig .tc := ⟨.hbm, 471, rfl⟩
abbrev main_c_113 : Ref sig .tc := ⟨.hbm, 472, rfl⟩
abbrev main_v355 : Ref sig .tc := ⟨.hbm, 473, rfl⟩
abbrev main_v356 : Ref sig .tc := ⟨.hbm, 474, rfl⟩
abbrev main_c_114 : Ref sig .tc := ⟨.hbm, 475, rfl⟩
abbrev main_v357 : Ref sig .tc := ⟨.hbm, 476, rfl⟩
abbrev main_v358 : Ref sig .tc := ⟨.hbm, 477, rfl⟩
abbrev main_v359 : Ref sig .tc := ⟨.hbm, 478, rfl⟩
abbrev main_v360 : Ref sig .tc := ⟨.hbm, 479, rfl⟩
abbrev main_v361 : Ref sig .tc := ⟨.hbm, 480, rfl⟩
abbrev main_c_115 : Ref sig .tc := ⟨.hbm, 481, rfl⟩
abbrev main_v362 : Ref sig .tc := ⟨.hbm, 482, rfl⟩
abbrev main_v363 : Ref sig .tc := ⟨.hbm, 483, rfl⟩
abbrev main_c_116 : Ref sig .tc := ⟨.hbm, 484, rfl⟩
abbrev main_v364 : Ref sig .tc := ⟨.hbm, 485, rfl⟩
abbrev main_v365 : Ref sig .tc := ⟨.hbm, 486, rfl⟩
abbrev main_v366 : Ref sig .tc := ⟨.hbm, 487, rfl⟩
abbrev main_v367 : Ref sig .tc := ⟨.hbm, 488, rfl⟩
abbrev main_c_117 : Ref sig .tc := ⟨.hbm, 489, rfl⟩
abbrev main_v368 : Ref sig .tc := ⟨.hbm, 490, rfl⟩
abbrev main_v369 : Ref sig .tc := ⟨.hbm, 491, rfl⟩
abbrev main_c_118 : Ref sig .tc := ⟨.hbm, 492, rfl⟩
abbrev main_v370 : Ref sig .tc := ⟨.hbm, 493, rfl⟩
abbrev main_v371 : Ref sig .tc := ⟨.hbm, 494, rfl⟩
abbrev main_c_119 : Ref sig .tc := ⟨.hbm, 495, rfl⟩
abbrev main_v372 : Ref sig .tc := ⟨.hbm, 496, rfl⟩
abbrev main_v373 : Ref sig .tc := ⟨.hbm, 497, rfl⟩
abbrev main_v374 : Ref sig .tc := ⟨.hbm, 498, rfl⟩
abbrev main_c_120 : Ref sig .tc := ⟨.hbm, 499, rfl⟩
abbrev main_v375 : Ref sig .tc := ⟨.hbm, 500, rfl⟩
abbrev main_v376 : Ref sig .tc := ⟨.hbm, 501, rfl⟩
abbrev main_c_121 : Ref sig .tc := ⟨.hbm, 502, rfl⟩
abbrev main_v377 : Ref sig .tc := ⟨.hbm, 503, rfl⟩
abbrev main_v378 : Ref sig .tc := ⟨.hbm, 504, rfl⟩
abbrev main_v379 : Ref sig .tc := ⟨.hbm, 505, rfl⟩
abbrev main_cst_122 : Ref sig .tc := ⟨.hbm, 506, rfl⟩
abbrev main_v380 : Ref sig .tc := ⟨.hbm, 507, rfl⟩
abbrev main_v381 : Ref sig .tc := ⟨.hbm, 508, rfl⟩
abbrev main_cst_123 : Ref sig .tc := ⟨.hbm, 509, rfl⟩
abbrev main_v382 : Ref sig .tc := ⟨.hbm, 510, rfl⟩
abbrev main_v383 : Ref sig .tc := ⟨.hbm, 511, rfl⟩
abbrev main_cst_124 : Ref sig .tc := ⟨.hbm, 512, rfl⟩
abbrev main_v384 : Ref sig .tc := ⟨.hbm, 513, rfl⟩
abbrev main_v385 : Ref sig .tc := ⟨.hbm, 514, rfl⟩
abbrev main_cst_125 : Ref sig .tc := ⟨.hbm, 515, rfl⟩
abbrev main_v386 : Ref sig .tc := ⟨.hbm, 516, rfl⟩
abbrev main_v387 : Ref sig .tc := ⟨.hbm, 517, rfl⟩
abbrev main_v388 : Ref sig .tc := ⟨.hbm, 518, rfl⟩
abbrev main_v389 : Ref sig .tc := ⟨.hbm, 519, rfl⟩
abbrev main_v390 : Ref sig .tc := ⟨.hbm, 520, rfl⟩
abbrev main_v391 : Ref sig .tc := ⟨.hbm, 521, rfl⟩
abbrev main_v392 : Ref sig .tc := ⟨.hbm, 522, rfl⟩
abbrev main_v393 : Ref sig .tc := ⟨.hbm, 523, rfl⟩
abbrev main_v394 : Ref sig .tc := ⟨.hbm, 524, rfl⟩
abbrev main_v395 : Ref sig .tc := ⟨.hbm, 525, rfl⟩
abbrev main_cst_126 : Ref sig .tc := ⟨.hbm, 526, rfl⟩
abbrev main_v396 : Ref sig .tc := ⟨.hbm, 527, rfl⟩
abbrev main_cst_127 : Ref sig .tc := ⟨.hbm, 528, rfl⟩
abbrev main_v397 : Ref sig .tc := ⟨.hbm, 529, rfl⟩
abbrev main_v398 : Ref sig .tc := ⟨.hbm, 530, rfl⟩
abbrev main_v399 : Ref sig .tc := ⟨.hbm, 531, rfl⟩
abbrev main_v400 : Ref sig .tc := ⟨.hbm, 532, rfl⟩
abbrev main_v401 : Ref sig .tc := ⟨.hbm, 533, rfl⟩
abbrev main_v402 : Ref sig .tc := ⟨.hbm, 534, rfl⟩
abbrev main_cst_128 : Ref sig .tc := ⟨.hbm, 535, rfl⟩
abbrev main_v403 : Ref sig .tc := ⟨.hbm, 536, rfl⟩
abbrev main_v404 : Ref sig .tc := ⟨.hbm, 537, rfl⟩
abbrev main_v405 : Ref sig .tc := ⟨.hbm, 538, rfl⟩
abbrev main_v406 : Ref sig .tc := ⟨.hbm, 539, rfl⟩
abbrev main_cst_129 : Ref sig .tc := ⟨.hbm, 540, rfl⟩
abbrev main_v407 : Ref sig .tc := ⟨.hbm, 541, rfl⟩
abbrev main_v408 : Ref sig .tc := ⟨.hbm, 542, rfl⟩
abbrev main_v409 : Ref sig .tc := ⟨.hbm, 543, rfl⟩
abbrev main_v410 : Ref sig .tc := ⟨.hbm, 544, rfl⟩
abbrev main_v411 : Ref sig .tc := ⟨.hbm, 545, rfl⟩
abbrev main_cst_130 : Ref sig .tc := ⟨.hbm, 546, rfl⟩
abbrev main_v412 : Ref sig .tc := ⟨.hbm, 547, rfl⟩
abbrev main_cst_131 : Ref sig .tc := ⟨.hbm, 548, rfl⟩
abbrev main_v413 : Ref sig .tc := ⟨.hbm, 549, rfl⟩
abbrev main_v414 : Ref sig .tc := ⟨.hbm, 550, rfl⟩
abbrev main_v415 : Ref sig .tc := ⟨.hbm, 551, rfl⟩
abbrev main_v416 : Ref sig .tc := ⟨.hbm, 552, rfl⟩
abbrev main_v417 : Ref sig .tc := ⟨.hbm, 553, rfl⟩
abbrev main_v418 : Ref sig .tc := ⟨.hbm, 554, rfl⟩
abbrev main_cst_132 : Ref sig .tc := ⟨.hbm, 555, rfl⟩
abbrev main_v419 : Ref sig .tc := ⟨.hbm, 556, rfl⟩
abbrev main_v420 : Ref sig .tc := ⟨.hbm, 557, rfl⟩
abbrev main_v421 : Ref sig .tc := ⟨.hbm, 558, rfl⟩
abbrev main_v422 : Ref sig .tc := ⟨.hbm, 559, rfl⟩
abbrev main_cst_133 : Ref sig .tc := ⟨.hbm, 560, rfl⟩
abbrev main_v423 : Ref sig .tc := ⟨.hbm, 561, rfl⟩
abbrev main_v424 : Ref sig .tc := ⟨.hbm, 562, rfl⟩
abbrev main_v425 : Ref sig .tc := ⟨.hbm, 563, rfl⟩
abbrev main_cst_134 : Ref sig .tc := ⟨.hbm, 564, rfl⟩
abbrev main_v426 : Ref sig .tc := ⟨.hbm, 565, rfl⟩
abbrev main_v427 : Ref sig .tc := ⟨.hbm, 566, rfl⟩
abbrev main_v428 : Ref sig .tc := ⟨.hbm, 567, rfl⟩
abbrev main_v429 : Ref sig .tc := ⟨.hbm, 568, rfl⟩
abbrev main_cst_135 : Ref sig .tc := ⟨.hbm, 569, rfl⟩
abbrev main_v430 : Ref sig .tc := ⟨.hbm, 570, rfl⟩
abbrev main_v431 : Ref sig .tc := ⟨.hbm, 571, rfl⟩
abbrev main_v432 : Ref sig .tc := ⟨.hbm, 572, rfl⟩
abbrev main_v433 : Ref sig .tc := ⟨.hbm, 573, rfl⟩
abbrev main_cst_136 : Ref sig .tc := ⟨.hbm, 574, rfl⟩
abbrev main_v434 : Ref sig .tc := ⟨.hbm, 575, rfl⟩
abbrev main_v435 : Ref sig .tc := ⟨.hbm, 576, rfl⟩
abbrev main_v436 : Ref sig .tc := ⟨.hbm, 577, rfl⟩
abbrev main_cst_137 : Ref sig .tc := ⟨.hbm, 578, rfl⟩
abbrev main_v437 : Ref sig .tc := ⟨.hbm, 579, rfl⟩
abbrev main_v438 : Ref sig .tc := ⟨.hbm, 580, rfl⟩
abbrev main_v439 : Ref sig .tc := ⟨.hbm, 581, rfl⟩
abbrev main_v440 : Ref sig .tc := ⟨.hbm, 582, rfl⟩
abbrev main_call0_v0 : Ref sig .tc := ⟨.hbm, 583, rfl⟩
abbrev main_call0_cst : Ref sig .tc := ⟨.hbm, 584, rfl⟩
abbrev main_call0_c : Ref sig .tc := ⟨.hbm, 585, rfl⟩
abbrev main_call0_v1_0 : Ref sig .tc := ⟨.hbm, 586, rfl⟩
abbrev main_v441 : Ref sig .tc := ⟨.hbm, 587, rfl⟩
abbrev main_v442 : Ref sig .tc := ⟨.hbm, 588, rfl⟩
abbrev main_v443 : Ref sig .tc := ⟨.hbm, 589, rfl⟩
abbrev main_call1_v0 : Ref sig .tc := ⟨.hbm, 590, rfl⟩
abbrev main_call1_cst : Ref sig .tc := ⟨.hbm, 591, rfl⟩
abbrev main_call1_c : Ref sig .tc := ⟨.hbm, 592, rfl⟩
abbrev main_call1_v1_0 : Ref sig .tc := ⟨.hbm, 593, rfl⟩
abbrev main_v444 : Ref sig .tc := ⟨.hbm, 594, rfl⟩
abbrev main_v445 : Ref sig .tc := ⟨.hbm, 595, rfl⟩
abbrev main_v446 : Ref sig .tc := ⟨.hbm, 596, rfl⟩
abbrev main_v447 : Ref sig .tc := ⟨.hbm, 597, rfl⟩
abbrev main_v448 : Ref sig .tc := ⟨.hbm, 598, rfl⟩

abbrev nD : Nat := 1
abbrev τ : Topo := Topo.v7x

variable {F : FTy → Type} [FloatOps F]
-- ==== Proof.Ssa.lean ====
/-
  Straight lines of host operations in single-assignment form: every operation of the line writes one buffer of the
  main memory space, and the buffers are numbered in the order of the operations. The contents after the whole line
  then satisfy one equation per operation: the buffer an operation writes holds the operation's function of the
  buffers it reads, all of them read after the whole line.
-/
module

public import Idealize.ShloMosaic.Lib.StableHlo.Run

@[expose] public section

namespace Cert.Ssa

open Idealize.ShloMosaic Idealize.ShloMosaic.StableHlo

noncomputable section

variable {τ : Topo} {sig : RefSig} {Val : EltTy → Type}

/-- The operations of the line write the main-memory buffers `k`, `k + 1`, … in this order, one buffer each. -/
def Chain : ℕ → List (HloOp τ sig Val) → Prop
  | _, [] => True
  | k, op :: l => (∃ r : Ref sig .tc, op.writes = {Proc.devRef .tc r} ∧ r.space = .hbm ∧ r.idx.val = k) ∧ Chain (k + 1) l

/-- A chain of two pieces. -/
theorem Chain.append : ∀ {k : ℕ} {l₁ l₂ : List (HloOp τ sig Val)}, Chain k l₁ → Chain (k + l₁.length) l₂ → Chain k (l₁ ++ l₂)
  | _, [], _, _, h₂ => h₂
  | k, op :: l, l₂, h₁, h₂ => ⟨h₁.1, Chain.append h₁.2 (by
      rw [List.length_cons, Nat.add_comm l.length 1, ← Nat.add_assoc] at h₂; exact h₂)⟩

/-- A buffer numbered below the chain's first is left as it was. -/
theorem after_below : ∀ {k : ℕ} {ops : List (HloOp τ sig Val)}, Chain k ops → ∀ (V : Valuation τ sig Val) (r : Ref sig .tc),
    r.space = .hbm → r.idx.val < k → after ops V (Proc.devRef .tc r) = V (Proc.devRef .tc r)
  | _, [], _, _, _, _, _ => rfl
  | k, op :: l, h, V, r, hs, hr => by
      obtain ⟨⟨y, hw, _, hi⟩, hl⟩ := h
      rw [after_cons, after_below hl (op.result V) r hs (Nat.lt_succ_of_lt hr)]
      refine HloOp.result_of_not_mem _ _ ?_
      rw [hw, Finset.mem_singleton]
      refine devRef_ne_of_ne fun e => ?_
      rw [e, hi] at hr
      exact Nat.lt_irrefl _ hr

/-- The equations of a piece of the line whose first operation writes buffer `k`, at contents `W`: the operation at
    position `i` leaves in the buffer it writes its result over some contents which agree with `W` on every buffer
    numbered below. -/
def Eqs (W : Valuation τ sig Val) (k : ℕ) (ops : List (HloOp τ sig Val)) : Prop :=
  ∀ (i : ℕ) (op : HloOp τ sig Val), ops[i]? = some op → ∃ U : Valuation τ sig Val,
    (∀ r : Ref sig .tc, op.writes = {Proc.devRef .tc r} → W (Proc.devRef .tc r) = op.result U (Proc.devRef .tc r))
      ∧ ∀ r : Ref sig .tc, r.space = .hbm → r.idx.val < k + i → U (Proc.devRef .tc r) = W (Proc.devRef .tc r)

/-- The contents after a chain satisfy its equations. -/
theorem eqs_of_chain : ∀ {k : ℕ} {ops : List (HloOp τ sig Val)}, Chain k ops → ∀ V : Valuation τ sig Val,
    Eqs (after ops V) k ops
  | _, [], _, _ => fun _ _ h => by simp at h
  | k, op :: l, hc, V => fun i o h => by
      obtain ⟨⟨y, hw, hs, hi⟩, hl⟩ := hc
      cases i with
      | zero =>
        rw [List.getElem?_cons_zero, Option.some.injEq] at h
        subst h
        refine ⟨V, fun r hr => ?_, fun r hrs hr => ?_⟩
        · have e : Proc.devRef (τ := τ) .tc y = Proc.devRef .tc r := Finset.singleton_injective (hw.symm.trans hr)
          have e' : y = r := by by_contra hne; exact devRef_ne_of_ne hne e
          subst e'
          rw [after_cons, after_below hl _ _ hs (by omega)]
        · exact (after_below (k := k) (ops := op :: l) ⟨⟨y, hw, hs, hi⟩, hl⟩ V r hrs (by omega)).symm
      | succ i =>
        rw [List.getElem?_cons_succ] at h
        obtain ⟨U, h₁, h₂⟩ := eqs_of_chain hl (op.result V) i o h
        refine ⟨U, fun r hr => ?_, fun r hrs hr => ?_⟩
        · rw [after_cons]; exact h₁ r hr
        · rw [after_cons]; exact h₂ r hrs (by omega)

/-- The equations of the first piece of two. -/
theorem Eqs.left {W : Valuation τ sig Val} {k : ℕ} {l₁ l₂ : List (HloOp τ sig Val)} (h : Eqs W k (l₁ ++ l₂)) : Eqs W k l₁ :=
  fun i op hi => h i op (by
    have hlt : i < l₁.length := by
      by_contra hn
      rw [List.getElem?_eq_none (by omega)] at hi
      cases hi
    rw [List.getElem?_append_left hlt]; exact hi)

/-- The equations of the second piece of two. -/
theorem Eqs.right {W : Valuation τ sig Val} {k : ℕ} {l₁ l₂ : List (HloOp τ sig Val)} (h : Eqs W k (l₁ ++ l₂)) :
    Eqs W (k + l₁.length) l₂ := fun i op hi => by
  obtain ⟨U, h₁, h₂⟩ := h (l₁.length + i) op (by
    rw [List.getElem?_append_right (by omega), Nat.add_sub_cancel_left]; exact hi)
  exact ⟨U, h₁, fun r hr hlt => h₂ r hr (by omega)⟩

section Ops

variable {W : Valuation τ sig Val} {k : ℕ} {ops : List (HloOp τ sig Val)} (E : Eqs W k ops) {x y a b c e : Ref sig .tc} (i : ℕ)

include E

/-- The equation of an operation without operands. -/
theorem Eqs.nul {v : y.ty.Contents Val} {hy} (h : ops[i]? = some (nullary y v hy)) : W (Proc.devRef .tc y) = v := by
  obtain ⟨U, h₁, h₂⟩ := E i _ h
  rw [h₁ y rfl, nullary_result]

/-- The equation of an operation of one operand. -/
theorem Eqs.un {f : x.ty.Contents Val → y.ty.Contents Val} {hx hy} (h : ops[i]? = some (unary x y f hx hy))
    (hx' : x.space = .hbm ∧ x.idx.val < k + i) : W (Proc.devRef .tc y) = f (W (Proc.devRef .tc x)) := by
  obtain ⟨U, h₁, h₂⟩ := E i _ h
  rw [h₁ y rfl, unary_result, h₂ x hx'.1 hx'.2]

/-- The equation of an operation of two operands. -/
theorem Eqs.bin {f : a.ty.Contents Val → b.ty.Contents Val → y.ty.Contents Val} {ha hb hy}
    (h : ops[i]? = some (binary a b y f ha hb hy)) (ha' : a.space = .hbm ∧ a.idx.val < k + i)
    (hb' : b.space = .hbm ∧ b.idx.val < k + i) :
    W (Proc.devRef .tc y) = f (W (Proc.devRef .tc a)) (W (Proc.devRef .tc b)) := by
  obtain ⟨U, h₁, h₂⟩ := E i _ h
  rw [h₁ y rfl, binary_result, h₂ a ha'.1 ha'.2, h₂ b hb'.1 hb'.2]

/-- The equation of an operation of four operands. -/
theorem Eqs.qua {f : a.ty.Contents Val → b.ty.Contents Val → c.ty.Contents Val → e.ty.Contents Val → y.ty.Contents Val}
    {ha hb hc he hy} (h : ops[i]? = some (quaternary a b c e y f ha hb hc he hy))
    (ha' : a.space = .hbm ∧ a.idx.val < k + i) (hb' : b.space = .hbm ∧ b.idx.val < k + i)
    (hc' : c.space = .hbm ∧ c.idx.val < k + i) (he' : e.space = .hbm ∧ e.idx.val < k + i) :
    W (Proc.devRef .tc y) = f (W (Proc.devRef .tc a)) (W (Proc.devRef .tc b)) (W (Proc.devRef .tc c)) (W (Proc.devRef .tc e)) := by
  obtain ⟨U, h₁, h₂⟩ := E i _ h
  rw [h₁ y rfl, quaternary_result, h₂ a ha'.1 ha'.2, h₂ b hb'.1 hb'.2, h₂ c hc'.1 hc'.2, h₂ e he'.1 he'.2]

/-- The equation of a reshape. -/
theorem Eqs.resh {he hn hx hy} (h : ops[i]? = some (reshape x y he hn hx hy)) (hx' : x.space = .hbm ∧ x.idx.val < k + i) :
    W (Proc.devRef .tc y) = fun j => he ▸ shapeCast y.ty.shape (W (Proc.devRef .tc x)) hn j := by
  obtain ⟨U, h₁, h₂⟩ := E i _ h
  rw [h₁ y rfl, reshape_result, h₂ x hx'.1 hx'.2]

end Ops

/-! ## One round of the counter-based word generator -/

/-- The rotate amounts as the two shift words `r` and `r'`: a round adds the second word to the first, rotates the
    second and exclusive-ors it with the sum. -/
def round (r r' : BitVec 32) (p : BitVec 32 × BitVec 32) : BitVec 32 × BitVec 32 :=
  (IntOp.addi p.1 p.2,
    IntOp.xori (IntOp.ori (IntOp.shli .host p.2 r) (IntOp.shrui .host p.2 r')) (IntOp.addi p.1 p.2))

/-- A key injection: the words `u` and `v` and the counter `n` are added. -/
def inject (u v n : BitVec 32) (p : BitVec 32 × BitVec 32) : BitVec 32 × BitVec 32 :=
  (IntOp.addi p.1 u, IntOp.addi (IntOp.addi p.2 v) n)

/-- Four rounds with the first set of rotate amounts. -/
def quadA (p : BitVec 32 × BitVec 32) : BitVec 32 × BitVec 32 :=
  round 6#32 26#32 (round 26#32 6#32 (round 15#32 17#32 (round 13#32 19#32 p)))

/-- Four rounds with the second set of rotate amounts. -/
def quadB (p : BitVec 32 × BitVec 32) : BitVec 32 × BitVec 32 :=
  round 24#32 8#32 (round 16#32 16#32 (round 29#32 3#32 (round 17#32 15#32 p)))

/-- The twenty rounds under the key words `k0`, `k1` and the third word `k2` of the key schedule. -/
def cipher (k0 k1 k2 : BitVec 32) (p : BitVec 32 × BitVec 32) : BitVec 32 × BitVec 32 :=
  inject k2 k0 5#32 (quadA (inject k1 k2 4#32 (quadB (inject k0 k1 3#32 (quadA (inject k2 k0 2#32 (quadB
    (inject k1 k2 1#32 (quadA p)))))))))

/-- The random word of counter `n`: the two words of the cipher of `(k0, n + k1)`, combined by exclusive or. -/
def draw (k0 k1 k2 n : BitVec 32) : BitVec 32 :=
  IntOp.xori (cipher k0 k1 k2 (k0, IntOp.addi n k1)).1 (cipher k0 k1 k2 (k0, IntOp.addi n k1)).2

section Vectors

variable {s s0 : Shape}

/-- A round over vectors of words, read at an index. -/
theorem round_at {d₁ d₂ : Fin s0.rank → Fin s.rank} {h₁ : s0.BroadcastsInDim s d₁} {h₂ : s0.BroadcastsInDim s d₂}
    {r r' : BitVec 32} {X Y X' B L B₂ R O Y' : IVec s 32} {C C₂ : IVec s0 32}
    (hX : X' = addi X Y) (hC : C = constantI s0 32 r) (hB : B = broadcastInDim s d₁ h₁ C) (hL : L = Host.shli Y B)
    (hC₂ : C₂ = constantI s0 32 r') (hB₂ : B₂ = broadcastInDim s d₂ h₂ C₂) (hR : R = Host.shrui Y B₂) (hO : O = ori L R)
    (hY : Y' = xori O X' ∨ Y' = xori X' O) (j : s.Idx) {p : BitVec 32 × BitVec 32} (hp : (X j, Y j) = p) :
    (X' j, Y' j) = round r r' p := by
  subst hX hC hB hL hC₂ hB₂ hR hO hp
  rcases hY with rfl | rfl
  · rfl
  · exact Prod.ext rfl (BitVec.xor_comm _ _)

/-- A key injection over vectors of words, read at an index: the second key word and the counter added as one word. -/
theorem inject_at {d₁ d₂ : Fin s0.rank → Fin s.rank} {h₁ : s0.BroadcastsInDim s d₁} {h₂ : s0.BroadcastsInDim s d₂}
    {u w : BitVec 32} (v n : BitVec 32) {X Y X' B B₂ Y' : IVec s 32} {C C₂ : IVec s0 32}
    (hC : C = constantI s0 32 u) (hB : B = broadcastInDim s d₁ h₁ C) (hX : X' = addi X B)
    (hC₂ : C₂ = constantI s0 32 w) (hB₂ : B₂ = broadcastInDim s d₂ h₂ C₂) (hY : Y' = addi Y B₂)
    (hw : w = v + n) (j : s.Idx) {p : BitVec 32 × BitVec 32} (hp : (X j, Y j) = p) :
    (X' j, Y' j) = inject u v n p := by
  subst hX hC hB hC₂ hB₂ hY hw hp
  exact Prod.ext rfl (BitVec.add_assoc _ _ _).symm

/-- A key injection over vectors of words, read at an index: the second key word and the counter added one by one. -/
theorem inject_at' {d₁ d₂ d₃ : Fin s0.rank → Fin s.rank} {h₁ : s0.BroadcastsInDim s d₁} {h₂ : s0.BroadcastsInDim s d₂}
    {h₃ : s0.BroadcastsInDim s d₃} {u v n : BitVec 32} {X Y X' B B₂ B₃ Y₁ Y' : IVec s 32} {C C₂ C₃ : IVec s0 32}
    (hC : C = constantI s0 32 u) (hB : B = broadcastInDim s d₁ h₁ C) (hX : X' = addi X B)
    (hC₂ : C₂ = constantI s0 32 v) (hB₂ : B₂ = broadcastInDim s d₂ h₂ C₂) (hY₁ : Y₁ = addi Y B₂)
    (hC₃ : C₃ = constantI s0 32 n) (hB₃ : B₃ = broadcastInDim s d₃ h₃ C₃) (hY : Y' = addi Y₁ B₃)
    (j : s.Idx) {p : BitVec 32 × BitVec 32} (hp : (X j, Y j) = p) :
    (X' j, Y' j) = inject u v n p := by
  subst hX hC hB hC₂ hB₂ hY₁ hC₃ hB₃ hY hp
  rfl

variable {F : FTy → Type} [FloatOps F]

/-- The noise value of a random word: its upper 23 bits as a fraction in `[1, 2)`, one taken off, scaled, moved and
    bounded below by the least normal number, and twice the negated logarithm of it. -/
def noise (w : BitVec 32) : F .f32 :=
  FloatOps.hostNegf (FloatOps.hostUnary .log (FloatOps.hostNegf (FloatOps.hostUnary .log
    (FloatOps.maximumf (FloatOps.ofBits .f32 0x00800000#32) (FloatOps.addf (FloatOps.mulf (FloatOps.subf
      (FloatOps.ofBits .f32 (IntOp.ori (IntOp.shrui .host w 9#32) 1065353216#32)) (FloatOps.ofBits .f32 0x3F800000#32))
      (FloatOps.ofBits .f32 0x3F800000#32)) (FloatOps.ofBits .f32 0x00800000#32))))))

/-- The noise value over vectors, read at an index. -/
theorem noise_at {d₁ d₂ d₃ d₄ d₅ d₆ : Fin s0.rank → Fin s.rank} {h₁ : s0.BroadcastsInDim s d₁} {h₂ : s0.BroadcastsInDim s d₂}
    {h₃ : s0.BroadcastsInDim s d₃} {h₄ : s0.BroadcastsInDim s d₄} {h₅ : s0.BroadcastsInDim s d₅} {h₆ : s0.BroadcastsInDim s d₆}
    {X Y Z B₁ T₁ B₂ T₂ : IVec s 32} {C₁ C₂ : IVec s0 32} {C₃ C₄ C₅ C₆ : FVec F s0 .f32}
    {T₃ B₃ T₄ B₄ T₅ B₅ T₆ B₆ T₇ T₈ T₉ T₁₀ T₁₁ : FVec F s .f32}
    (hZ : Z = xori X Y) (hC₁ : C₁ = constantI s0 32 9#32) (hB₁ : B₁ = broadcastInDim s d₁ h₁ C₁) (hT₁ : T₁ = Host.shrui Z B₁)
    (hC₂ : C₂ = constantI s0 32 1065353216#32) (hB₂ : B₂ = broadcastInDim s d₂ h₂ C₂) (hT₂ : T₂ = ori T₁ B₂)
    (hT₃ : T₃ = bitcastToFloat .f32 T₂)
    (hC₃ : C₃ = constant s0 .f32 0x3F800000#32) (hB₃ : B₃ = broadcastInDim s d₃ h₃ C₃) (hT₄ : T₄ = subf T₃ B₃)
    (hC₄ : C₄ = constant s0 .f32 0x3F800000#32) (hB₄ : B₄ = broadcastInDim s d₄ h₄ C₄) (hT₅ : T₅ = mulf T₄ B₄)
    (hC₅ : C₅ = constant s0 .f32 0x00800000#32) (hB₅ : B₅ = broadcastInDim s d₅ h₅ C₅) (hT₆ : T₆ = addf T₅ B₅)
    (hC₆ : C₆ = constant s0 .f32 0x00800000#32) (hB₆ : B₆ = broadcastInDim s d₆ h₆ C₆) (hT₇ : T₇ = maximumf B₆ T₆)
    (hT₈ : T₈ = Host.log T₇) (hT₉ : T₉ = Host.negf T₈) (hT₁₀ : T₁₀ = Host.log T₉) (hT₁₁ : T₁₁ = Host.negf T₁₀)
    (j : s.Idx) {p : BitVec 32 × BitVec 32} (hp : (X j, Y j) = p) :
    T₁₁ j = noise (IntOp.xori p.1 p.2) := by
  subst hZ hC₁ hB₁ hT₁ hC₂ hB₂ hT₂ hT₃ hC₃ hB₃ hT₄ hC₄ hB₄ hT₅ hC₅ hB₅ hT₆ hC₆ hB₆ hT₇ hT₈ hT₉ hT₁₀ hT₁₁ hp
  rfl

/-- The first pair of words over flat counters: the key's first word added to zero, and the counter plus its second. -/
theorem flat_start {d₀ d₁ d₂ : Fin s0.rank → Fin s.rank} {h₀ : s0.BroadcastsInDim s d₀} {h₁ : s0.BroadcastsInDim s d₁}
    {h₂ : s0.BroadcastsInDim s d₂} {k0 k1 : BitVec 32} {N Z B₁ X B₂ Y : IVec s 32} {C₀ C₁ C₂ : IVec s0 32}
    (hC₀ : C₀ = constantI s0 32 0#32) (hZ : Z = broadcastInDim s d₀ h₀ C₀)
    (hC₁ : C₁ = constantI s0 32 k0) (hB₁ : B₁ = broadcastInDim s d₁ h₁ C₁) (hX : X = addi Z B₁)
    (hC₂ : C₂ = constantI s0 32 k1) (hB₂ : B₂ = broadcastInDim s d₂ h₂ C₂) (hY : Y = addi N B₂) (j : s.Idx) :
    (X j, Y j) = (k0, IntOp.addi (N j) k1) := by
  subst hC₀ hZ hC₁ hB₁ hX hC₂ hB₂ hY
  exact Prod.ext (BitVec.zero_add _) rfl

/-- The first pair of words over two-axis counters: the key's first word, and row times width plus column plus the
    key's second word. -/
theorem grid_start {d₀ d₁ d₂ : Fin s0.rank → Fin s.rank} {h₀ : s0.BroadcastsInDim s d₀} {h₁ : s0.BroadcastsInDim s d₁}
    {h₂ : s0.BroadcastsInDim s d₂} {k0 k1 n : BitVec 32} {X I B₁ M J A B₂ Y : IVec s 32} {C₀ C₁ C₂ : IVec s0 32}
    (hC₀ : C₀ = constantI s0 32 k0) (hX : X = broadcastInDim s d₀ h₀ C₀)
    (hC₁ : C₁ = constantI s0 32 n) (hB₁ : B₁ = broadcastInDim s d₁ h₁ C₁) (hM : M = muli I B₁) (hA : A = addi M J)
    (hC₂ : C₂ = constantI s0 32 k1) (hB₂ : B₂ = broadcastInDim s d₂ h₂ C₂) (hY : Y = addi A B₂) (j : s.Idx) :
    (X j, Y j) = (k0, IntOp.addi (IntOp.addi (IntOp.muli (I j) n) (J j)) k1) := by
  subst hC₀ hX hC₁ hB₁ hM hA hC₂ hB₂ hY
  rfl

end Vectors

end

end Cert.Ssa

end
-- ==== Proof.KernelRun.lean ====
/-
  The kernel program at any values of the floats: every execution ends, with the arguments as they were and every counter
  at zero. Nothing is said here of what the outputs hold.
-/
module

public import proofs.«01_k».proof.Proof.Gen.Kernel.Launch
public import proofs.«01_k».proof.Proof.Gen.Kernel.Skeleton
public import proofs.«01_k».proof.Proof.Gen.Kernel.Points
public import proofs.«01_k».proof.Proof.Ssa
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo Cert.Ssa
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write consecutive buffers, from the first after the arguments. -/
theorem prefix_chain : Chain 2 (hostOps0 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- No host operation before the region writes `main_arg0`: the region finds it as launched. -/
theorem V_main_arg0 (c : Dev nD) : V m c main_arg0 = m ((c : Thread nD τ).loc main_arg0) :=
  Cert.Ssa.after_below prefix_chain (fun b => m (c, b)) main_arg0 rfl (by decide)
/-- No host operation before the region writes `main_arg1`: the region finds it as launched. -/
theorem V_main_arg1 (c : Dev nD) : V m c main_arg1 = m ((c : Thread nD τ).loc main_arg1) :=
  Cert.Ssa.after_below prefix_chain (fun b => m (c, b)) main_arg1 rfl (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 2 rfl).trans ((hA c 2).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 2) — by arithmetic of the point. -/
theorem hcond0_0 : ∀ t : Fin cfg0.N, cond0_0 (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — by arithmetic of the point. -/
theorem hcond0_1 : ∀ t : Fin cfg0.N, cond0_1 (grid0.coords t) ↔ t.val % 2 = 1 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x8x100000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x100000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x200000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x2 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x200000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x200000 .f32 := win0_5.stage (cfg0.slots t 5)
abbrev hs0_5 (t : Fin cfg0.N) : (ms0_5 t).IsWhole := hstage0_5 ((cfg0.slots t 5).cast nbuf0_5)

-- (the run's proof term is large: checking it walks past the default budget)
set_option maxHeartbeats 1000000 in
/-- The body's triple IN CASE A (`scf.if` 0 taken, `scf.if` 1 not taken: points 0, 2, … 30: 16 of 32): on whole staging memrefs — the inputs' at their contents,
    the FORGOTTEN outputs' (3, 4, 5) at anything, handed back at some contents nothing names —
    the body runs to the continuation holding the inputs' as they were: the printed functions are their skeletons (`Gen.*_eq_skeleton`),
    which `sl_exec` runs — each `scf.if` decided by the case's hypotheses `hc·`. -/
theorem kernelRun0_A (c : Dev nD) (i : grid0.Coords) (arg2 : Memref sig .tc .vmem S1x8x100000 .f32) (harg2 : arg2.IsWhole) (arg3 : Memref sig .tc .vmem S1x8x100000 .f32) (harg3 : arg3.IsWhole) (arg4 : Memref sig .tc .vmem S8x200000 .f32) (harg4 : arg4.IsWhole) (arg5 : Memref sig .tc .vmem S8x2 .i32) (harg5 : arg5.IsWhole) (arg6 : Memref sig .tc .vmem S8x200000 .f32) (harg6 : arg6.IsWhole) (arg7 : Memref sig .tc .vmem S8x200000 .f32) (harg7 : arg7.IsWhole) (hc0 : cond0_0 i) (hc1 : ¬cond0_1 i)
    (x0 : Vec F S1x8x100000 .f32) (x1 : Vec F S1x8x100000 .f32) (x2 : Vec F S8x200000 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__body i arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    iexists _, _; isplitr; swap; · iexact H5
    ipureintro; rfl

-- (the run's proof term is large: checking it walks past the default budget)
set_option maxHeartbeats 1000000 in
/-- The body's triple IN CASE B (`scf.if` 0 not taken, `scf.if` 1 taken: points 1, 3, … 31: 16 of 32): on whole staging memrefs — the inputs' at their contents,
    the FORGOTTEN outputs' (3, 4, 5) at anything, handed back at some contents nothing names —
    the body runs to the continuation holding the inputs' as they were: the printed functions are their skeletons (`Gen.*_eq_skeleton`),
    which `sl_exec` runs — each `scf.if` decided by the case's hypotheses `hc·`. -/
theorem kernelRun0_B (c : Dev nD) (i : grid0.Coords) (arg2 : Memref sig .tc .vmem S1x8x100000 .f32) (harg2 : arg2.IsWhole) (arg3 : Memref sig .tc .vmem S1x8x100000 .f32) (harg3 : arg3.IsWhole) (arg4 : Memref sig .tc .vmem S8x200000 .f32) (harg4 : arg4.IsWhole) (arg5 : Memref sig .tc .vmem S8x2 .i32) (harg5 : arg5.IsWhole) (arg6 : Memref sig .tc .vmem S8x200000 .f32) (harg6 : arg6.IsWhole) (arg7 : Memref sig .tc .vmem S8x200000 .f32) (harg7 : arg7.IsWhole) (hc0 : ¬cond0_0 i) (hc1 : cond0_1 i)
    (x0 : Vec F S1x8x100000 .f32) (x1 : Vec F S1x8x100000 .f32) (x2 : Vec F S8x200000 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__body i arg2 harg2 arg3 harg3 arg4 harg4 arg5 harg5 arg6 harg6 arg7 harg7) K := by
    intro E K
    simp only [cc0__body_eq_skeleton]; unfold cc0__body_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    iexists _, _; isplitr; swap; · iexact H5
    ipureintro; rfl

/-! ## The pipeline's proof data -/

/-- The output windows this certificate FORGETS (3, 4, 5): nothing reads what the kernel leaves in them, so nothing
    of it is named. -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) ((hcond0_1 t).mpr h1) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelRun

end
-- ==== Proof.KerNoise.lean ====
/-
  The two noise arrays of the kernel program's host prefix, read at a flat index: each is the noise value of the random
  word of the index.
-/
module

public import proofs.«01_k».proof.Proof.Gen.KernelIdeal.Launch
public import proofs.«01_k».proof.Proof.Ssa

@[expose] public section

set_option maxRecDepth 16384

noncomputable section

namespace Cert.Ker

open Cert.KernelIdeal Cert.KernelIdeal.Gen Idealize.ShloMosaic Idealize.ShloMosaic.TcCoe Idealize.ShloMosaic.StableHlo Cert.Ssa

variable {F : FTy → Type} [FloatOps F]

/-- The host operations write consecutive buffers, from the first after the arguments. -/
theorem prefix_chain : Chain 2 (hostOps0 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

set_option maxHeartbeats 1600000 in
/-- The flat noise of branch 0 at an index. -/
theorem flat_noise0 {W : Valuation τ sig (Elt F)} (E : Eqs W 2 hostOps0) (j : S12800000.Idx) :
    (W (Proc.devRef .tc main_v183) : FVec F S12800000 .f32) j = noise (draw 1832780943#32 270669613#32 1724713080#32 (iotaInDim S12800000 32 0 j)) := by
  have h : ((W (Proc.devRef .tc main_v3) : IVec S12800000 32) j, (W (Proc.devRef .tc main_v5) : IVec S12800000 32) j) = _ :=
    flat_start (s := S12800000) (s0 := S_) (E.nul 1 rfl) (E.un 2 rfl (by decide)) (E.nul 3 rfl) (E.un 4 rfl (by decide)) (E.bin 5 rfl (by decide) (by decide)) (E.nul 6 rfl) (E.un 7 rfl (by decide)) (E.bin 8 rfl (by decide) (by decide)) j
  rw [show (W (Proc.devRef .tc main_v0) : IVec S12800000 32) = iotaInDim S12800000 32 0 from (E.nul 0 rfl)] at h
  replace h : ((W (Proc.devRef .tc main_v6) : IVec S12800000 32) j, (W (Proc.devRef .tc main_v12) : IVec S12800000 32) j) = _ :=
    round_at (s := S12800000) (s0 := S_) (E.bin 9 rfl (by decide) (by decide)) (E.nul 10 rfl) (E.un 11 rfl (by decide)) (E.bin 12 rfl (by decide) (by decide)) (E.nul 13 rfl) (E.un 14 rfl (by decide)) (E.bin 15 rfl (by decide) (by decide)) (E.bin 16 rfl (by decide) (by decide)) (Or.inl (E.bin 17 rfl (by decide) (by decide))) j h
  replace h : ((W (Proc.devRef .tc main_v13) : IVec S12800000 32) j, (W (Proc.devRef .tc main_v19) : IVec S12800000 32) j) = _ :=
    round_at (s := S12800000) (s0 := S_) (E.bin 18 rfl (by decide) (by decide)) (E.nul 19 rfl) (E.un 20 rfl (by decide)) (E.bin 21 rfl (by decide) (by decide)) (E.nul 22 rfl) (E.un 23 rfl (by decide)) (E.bin 24 rfl (by decide) (by decide)) (E.bin 25 rfl (by decide) (by decide)) (Or.inl (E.bin 26 rfl (by decide) (by decide))) j h
  replace h : ((W (Proc.devRef .tc main_v20) : IVec S12800000 32) j, (W (Proc.devRef .tc main_v26) : IVec S12800000 32) j) = _ :=
    round_at (s := S12800000) (s0 := S_) (E.bin 27 rfl (by decide) (by decide)) (E.nul 28 rfl) (E.un 29 rfl (by decide)) (E.bin 30 rfl (by decide) (by decide)) (E.nul 31 rfl) (E.un 32 rfl (by decide)) (E.bin 33 rfl (by decide) (by decide)) (E.bin 34 rfl (by decide) (by decide)) (Or.inl (E.bin 35 rfl (by decide) (by decide))) j h
  replace h : ((W (Proc.devRef .tc main_v27) : IVec S12800000 32) j, (W (Proc.devRef .tc main_v33) : IVec S12800000 32) j) = _ :=
    round_at (s := S12800000) (s0 := S_) (E.bin 36 rfl (by decide) (by decide)) (E.nul 37 rfl) (E.un 38 rfl (by decide)) (E.bin 39 rfl (by decide) (by decide)) (E.nul 40 rfl) (E.un 41 rfl (by decide)) (E.bin 42 rfl (by decide) (by decide)) (E.bin 43 rfl (by decide) (by decide)) (Or.inl (E.bin 44 rfl (by decide) (by decide))) j h
  replace h : ((W (Proc.devRef .tc main_v35) : IVec S12800000 32) j, (W (Proc.devRef .tc main_v37) : IVec S12800000 32) j) = _ :=
    inject_at (s := S12800000) (s0 := S_) 1724713080#32 1#32 (E.nul 45 rfl) (E.un 46 rfl (by decide)) (E.bin 47 rfl (by decide) (by decide)) (E.nul 48 rfl) (E.un 49 rfl (by decide)) (E.bin 50 rfl (by decide) (by decide)) (by decide) j h
  replace h : ((W (Proc.devRef .tc main_v38) : IVec S12800000 32) j, (W (Proc.devRef .tc main_v44) : IVec S12800000 32) j) = _ :=
    round_at (s := S12800000) (s0 := S_) (E.bin 51 rfl (by decide) (by decide)) (E.nul 52 rfl) (E.un 53 rfl (by decide)) (E.bin 54 rfl (by decide) (by decide)) (E.nul 55 rfl) (E.un 56 rfl (by decide)) (E.bin 57 rfl (by decide) (by decide)) (E.bin 58 rfl (by decide) (by decide)) (Or.inl (E.bin 59 rfl (by decide) (by decide))) j h
  replace h : ((W (Proc.devRef .tc main_v45) : IVec S12800000 32) j, (W (Proc.devRef .tc main_v51) : IVec S12800000 32) j) = _ :=
    round_at (s := S12800000) (s0 := S_) (E.bin 60 rfl (by decide) (by decide)) (E.nul 61 rfl) (E.un 62 rfl (by decide)) (E.bin 63 rfl (by decide) (by decide)) (E.nul 64 rfl) (E.un 65 rfl (by decide)) (E.bin 66 rfl (by decide) (by decide)) (E.bin 67 rfl (by decide) (by decide)) (Or.inl (E.bin 68 rfl (by decide) (by decide))) j h
  replace h : ((W (Proc.devRef .tc main_v52) : IVec S12800000 32) j, (W (Proc.devRef .tc main_v58) : IVec S12800000 32) j) = _ :=
    round_at (s := S12800000) (s0 := S_) (E.bin 69 rfl (by decide) (by decide)) (E.nul 70 rfl) (E.un 71 rfl (by decide)) (E.bin 72 rfl (by decide) (by decide)) (E.nul 73 rfl) (E.un 74 rfl (by decide)) (E.bin 75 rfl (by decide) (by decide)) (E.bin 76 rfl (by decide) (by decide)) (Or.inl (E.bin 77 rfl (by decide) (by decide))) j h
  replace h : ((W (Proc.devRef .tc main_v59) : IVec S12800000 32) j, (W (Proc.devRef .tc main_v65) : IVec S12800000 32) j) = _ :=
    round_at (s := S12800000) (s0 := S_) (E.bin 78 rfl (by decide) (by decide)) (E.nul 79 rfl) (E.un 80 rfl (by decide)) (E.bin 81 rfl (by decide) (by decide)) (E.nul 82 rfl) (E.un 83 rfl (by decide)) (E.bin 84 rfl (by decide) (by decide)) (E.bin 85 rfl (by decide) (by decide)) (Or.inl (E.bin 86 rfl (by decide) (by decide))) j h
  replace h : ((W (Proc.devRef .tc main_v67) : IVec S12800000 32) j, (W (Proc.devRef .tc main_v69) : IVec S12800000 32) j) = _ :=
    inject_at (s := S12800000) (s0 := S_) 1832780943#32 2#32 (E.nul 87 rfl) (E.un 88 rfl (by decide)) (E.bin 89 rfl (by decide) (by decide)) (E.nul 90 rfl) (E.un 91 rfl (by decide)) (E.bin 92 rfl (by decide) (by decide)) (by decide) j h
  replace h : ((W (Proc.devRef .tc main_v70) : IVec S12800000 32) j, (W (Proc.devRef .tc main_v76) : IVec S12800000 32) j) = _ :=
    round_at (s := S12800000) (s0 := S_) (E.bin 93 rfl (by decide) (by decide)) (E.nul 94 rfl) (E.un 95 rfl (by decide)) (E.bin 96 rfl (by decide) (by decide)) (E.nul 97 rfl) (E.un 98 rfl (by decide)) (E.bin 99 rfl (by decide) (by decide)) (E.bin 100 rfl (by decide) (by decide)) (Or.inl (E.bin 101 rfl (by decide) (by decide))) j h
  replace h : ((W (Proc.devRef .tc main_v77) : IVec S12800000 32) j, (W (Proc.devRef .tc main_v83) : IVec S12800000 32) j) = _ :=
    round_at (s := S12800000) (s0 := S_) (E.bin 102 rfl (by decide) (by decide)) (E.nul 103 rfl) (E.un 104 rfl (by decide)) (E.bin 105 rfl (by decide) (by decide)) (E.nul 106 rfl) (E.un 107 rfl (by decide)) (E.bin 108 rfl (by decide) (by decide)) (E.bin 109 rfl (by decide) (by decide)) (Or.inl (E.bin 110 rfl (by decide) (by decide))) j h
  replace h : ((W (Proc.devRef .tc main_v84) : IVec S12800000 32) j, (W (Proc.devRef .tc main_v90) : IVec S12800000 32) j) = _ :=
    round_at (s := S12800000) (s0 := S_) (E.bin 111 rfl (by decide) (by decide)) (E.nul 112 rfl) (E.un 113 rfl (by decide)) (E.bin 114 rfl (by decide) (by decide)) (E.nul 115 rfl) (E.un 116 rfl (by decide)) (E.bin 117 rfl (by decide) (by decide)) (E.bin 118 rfl (by decide) (by decide)) (Or.inl (E.bin 119 rfl (by decide) (by decide))) j h
  replace h : ((W (Proc.devRef .tc main_v91) : IVec S12800000 32) j, (W (Proc.devRef .tc main_v97) : IVec S12800000 32) j) = _ :=
    round_at (s := S12800000) (s0 := S_) (E.bin 120 rfl (by decide) (by decide)) (E.nul 121 rfl) (E.un 122 rfl (by decide)) (E.bin 123 rfl (by decide) (by decide)) (E.nul 124 rfl) (E.un 125 rfl (by decide)) (E.bin 126 rfl (by decide) (by decide)) (E.bin 127 rfl (by decide) (by decide)) (Or.inl (E.bin 128 rfl (by decide) (by decide))) j h
  replace h : ((W (Proc.devRef .tc main_v99) : IVec S12800000 32) j, (W (Proc.devRef .tc main_v101) : IVec S12800000 32) j) = _ :=
    inject_at (s := S12800000) (s0 := S_) 270669613#32 3#32 (E.nul 129 rfl) (E.un 130 rfl (by decide)) (E.bin 131 rfl (by decide) (by decide)) (E.nul 132 rfl) (E.un 133 rfl (by decide)) (E.bin 134 rfl (by decide) (by decide)) (by decide) j h
  replace h : ((W (Proc.devRef .tc main_v102) : IVec S12800000 32) j, (W (Proc.devRef .tc main_v108) : IVec S12800000 32) j) = _ :=
    round_at (s := S12800000) (s0 := S_) (E.bin 135 rfl (by decide) (by decide)) (E.nul 136 rfl) (E.un 137 rfl (by decide)) (E.bin 138 rfl (by decide) (by decide)) (E.nul 139 rfl) (E.un 140 rfl (by decide)) (E.bin 141 rfl (by decide) (by decide)) (E.bin 142 rfl (by decide) (by decide)) (Or.inl (E.bin 143 rfl (by decide) (by decide))) j h
  replace h : ((W (Proc.devRef .tc main_v109) : IVec S12800000 32) j, (W (Proc.devRef .tc main_v115) : IVec S12800000 32) j) = _ :=
    round_at (s := S12800000) (s0 := S_) (E.bin 144 rfl (by decide) (by decide)) (E.nul 145 rfl) (E.un 146 rfl (by decide)) (E.bin 147 rfl (by decide) (by decide)) (E.nul 148 rfl) (E.un 149 rfl (by decide)) (E.bin 150 rfl (by decide) (by decide)) (E.bin 151 rfl (by decide) (by decide)) (Or.inl (E.bin 152 rfl (by decide) (by decide))) j h
  replace h : ((W (Proc.devRef .tc main_v116) : IVec S12800000 32) j, (W (Proc.devRef .tc main_v122) : IVec S12800000 32) j) = _ :=
    round_at (s := S12800000) (s0 := S_) (E.bin 153 rfl (by decide) (by decide)) (E.nul 154 rfl) (E.un 155 rfl (by decide)) (E.bin 156 rfl (by decide) (by decide)) (E.nul 157 rfl) (E.un 158 rfl (by decide)) (E.bin 159 rfl (by decide) (by decide)) (E.bin 160 rfl (by decide) (by decide)) (Or.inl (E.bin 161 rfl (by decide) (by decide))) j h
  replace h : ((W (Proc.devRef .tc main_v123) : IVec S12800000 32) j, (W (Proc.devRef .tc main_v129) : IVec S12800000 32) j) = _ :=
    round_at (s := S12800000) (s0 := S_) (E.bin 162 rfl (by decide) (by decide)) (E.nul 163 rfl) (E.un 164 rfl (by decide)) (E.bin 165 rfl (by decide) (by decide)) (E.nul 166 rfl) (E.un 167 rfl (by decide)) (E.bin 168 rfl (by decide) (by decide)) (E.bin 169 rfl (by decide) (by decide)) (Or.inl (E.bin 170 rfl (by decide) (by decide))) j h
  replace h : ((W (Proc.devRef .tc main_v131) : IVec S12800000 32) j, (W (Proc.devRef .tc main_v133) : IVec S12800000 32) j) = _ :=
    inject_at (s := S12800000) (s0 := S_) 1724713080#32 4#32 (E.nul 171 rfl) (E.un 172 rfl (by decide)) (E.bin 173 rfl (by decide) (by decide)) (E.nul 174 rfl) (E.un 175 rfl (by decide)) (E.bin 176 rfl (by decide) (by decide)) (by decide) j h
  replace h : ((W (Proc.devRef .tc main_v134) : IVec S12800000 32) j, (W (Proc.devRef .tc main_v140) : IVec S12800000 32) j) = _ :=
    round_at (s := S12800000) (s0 := S_) (E.bin 177 rfl (by decide) (by decide)) (E.nul 178 rfl) (E.un 179 rfl (by decide)) (E.bin 180 rfl (by decide) (by decide)) (E.nul 181 rfl) (E.un 182 rfl (by decide)) (E.bin 183 rfl (by decide) (by decide)) (E.bin 184 rfl (by decide) (by decide)) (Or.inl (E.bin 185 rfl (by decide) (by decide))) j h
  replace h : ((W (Proc.devRef .tc main_v141) : IVec S12800000 32) j, (W (Proc.devRef .tc main_v147) : IVec S12800000 32) j) = _ :=
    round_at (s := S12800000) (s0 := S_) (E.bin 186 rfl (by decide) (by decide)) (E.nul 187 rfl) (E.un 188 rfl (by decide)) (E.bin 189 rfl (by decide) (by decide)) (E.nul 190 rfl) (E.un 191 rfl (by decide)) (E.bin 192 rfl (by decide) (by decide)) (E.bin 193 rfl (by decide) (by decide)) (Or.inl (E.bin 194 rfl (by decide) (by decide))) j h
  replace h : ((W (Proc.devRef .tc main_v148) : IVec S12800000 32) j, (W (Proc.devRef .tc main_v154) : IVec S12800000 32) j) = _ :=
    round_at (s := S12800000) (s0 := S_) (E.bin 195 rfl (by decide) (by decide)) (E.nul 196 rfl) (E.un 197 rfl (by decide)) (E.bin 198 rfl (by decide) (by decide)) (E.nul 199 rfl) (E.un 200 rfl (by decide)) (E.bin 201 rfl (by decide) (by decide)) (E.bin 202 rfl (by decide) (by decide)) (Or.inl (E.bin 203 rfl (by decide) (by decide))) j h
  replace h : ((W (Proc.devRef .tc main_v155) : IVec S12800000 32) j, (W (Proc.devRef .tc main_v161) : IVec S12800000 32) j) = _ :=
    round_at (s := S12800000) (s0 := S_) (E.bin 204 rfl (by decide) (by decide)) (E.nul 205 rfl) (E.un 206 rfl (by decide)) (E.bin 207 rfl (by decide) (by decide)) (E.nul 208 rfl) (E.un 209 rfl (by decide)) (E.bin 210 rfl (by decide) (by decide)) (E.bin 211 rfl (by decide) (by decide)) (Or.inl (E.bin 212 rfl (by decide) (by decide))) j h
  replace h : ((W (Proc.devRef .tc main_v163) : IVec S12800000 32) j, (W (Proc.devRef .tc main_v165) : IVec S12800000 32) j) = _ :=
    inject_at (s := S12800000) (s0 := S_) 1832780943#32 5#32 (E.nul 213 rfl) (E.un 214 rfl (by decide)) (E.bin 215 rfl (by decide) (by decide)) (E.nul 216 rfl) (E.un 217 rfl (by decide)) (E.bin 218 rfl (by decide) (by decide)) (by decide) j h
  exact noise_at (s := S12800000) (s0 := S_) (E.bin 219 rfl (by decide) (by decide)) (E.nul 220 rfl) (E.un 221 rfl (by decide)) (E.bin 222 rfl (by decide) (by decide)) (E.nul 223 rfl) (E.un 224 rfl (by decide)) (E.bin 225 rfl (by decide) (by decide)) (E.un 226 rfl (by decide)) (E.nul 227 rfl) (E.un 228 rfl (by decide)) (E.bin 229 rfl (by decide) (by decide)) (E.nul 230 rfl) (E.un 231 rfl (by decide)) (E.bin 232 rfl (by decide) (by decide)) (E.nul 233 rfl) (E.un 234 rfl (by decide)) (E.bin 235 rfl (by decide) (by decide)) (E.nul 236 rfl) (E.un 237 rfl (by decide)) (E.bin 238 rfl (by decide) (by decide)) (E.un 239 rfl (by decide)) (E.un 240 rfl (by decide)) (E.un 241 rfl (by decide)) (E.un 242 rfl (by decide)) j h

set_option maxHeartbeats 1600000 in
/-- The flat noise of branch 1 at an index. -/
theorem flat_noise1 {W : Valuation τ sig (Elt F)} (E : Eqs W 2 hostOps0) (j : S12800000.Idx) :
    (W (Proc.devRef .tc main_v366) : FVec F S12800000 .f32) j = noise (draw 64467757#32 2916123636#32 3050711811#32 (iotaInDim S12800000 32 0 j)) := by
  have h : ((W (Proc.devRef .tc main_v186) : IVec S12800000 32) j, (W (Proc.devRef .tc main_v188) : IVec S12800000 32) j) = _ :=
    flat_start (s := S12800000) (s0 := S_) (E.nul 1 rfl) (E.un 2 rfl (by decide)) (E.nul 244 rfl) (E.un 245 rfl (by decide)) (E.bin 246 rfl (by decide) (by decide)) (E.nul 247 rfl) (E.un 248 rfl (by decide)) (E.bin 249 rfl (by decide) (by decide)) j
  rw [show (W (Proc.devRef .tc main_v0) : IVec S12800000 32) = iotaInDim S12800000 32 0 from (E.nul 0 rfl)] at h
  replace h : ((W (Proc.devRef .tc main_v189) : IVec S12800000 32) j, (W (Proc.devRef .tc main_v195) : IVec S12800000 32) j) = _ :=
    round_at (s := S12800000) (s0 := S_) (E.bin 250 rfl (by decide) (by decide)) (E.nul 251 rfl) (E.un 252 rfl (by decide)) (E.bin 253 rfl (by decide) (by decide)) (E.nul 254 rfl) (E.un 255 rfl (by decide)) (E.bin 256 rfl (by decide) (by decide)) (E.bin 257 rfl (by decide) (by decide)) (Or.inl (E.bin 258 rfl (by decide) (by decide))) j h
  replace h : ((W (Proc.devRef .tc main_v196) : IVec S12800000 32) j, (W (Proc.devRef .tc main_v202) : IVec S12800000 32) j) = _ :=
    round_at (s := S12800000) (s0 := S_) (E.bin 259 rfl (by decide) (by decide)) (E.nul 260 rfl) (E.un 261 rfl (by decide)) (E.bin 262 rfl (by decide) (by decide)) (E.nul 263 rfl) (E.un 264 rfl (by decide)) (E.bin 265 rfl (by decide) (by decide)) (E.bin 266 rfl (by decide) (by decide)) (Or.inl (E.bin 267 rfl (by decide) (by decide))) j h
  replace h : ((W (Proc.devRef .tc main_v203) : IVec S12800000 32) j, (W (Proc.devRef .tc main_v209) : IVec S12800000 32) j) = _ :=
    round_at (s := S12800000) (s0 := S_) (E.bin 268 rfl (by decide) (by decide)) (E.nul 269 rfl) (E.un 270 rfl (by decide)) (E.bin 271 rfl (by decide) (by decide)) (E.nul 272 rfl) (E.un 273 rfl (by decide)) (E.bin 274 rfl (by decide) (by decide)) (E.bin 275 rfl (by decide) (by decide)) (Or.inl (E.bin 276 rfl (by decide) (by decide))) j h
  replace h : ((W (Proc.devRef .tc main_v210) : IVec S12800000 32) j, (W (Proc.devRef .tc main_v216) : IVec S12800000 32) j) = _ :=
    round_at (s := S12800000) (s0 := S_) (E.bin 277 rfl (by decide) (by decide)) (E.nul 278 rfl) (E.un 279 rfl (by decide)) (E.bin 280 rfl (by decide) (by decide)) (E.nul 281 rfl) (E.un 282 rfl (by decide)) (E.bin 283 rfl (by decide) (by decide)) (E.bin 284 rfl (by decide) (by decide)) (Or.inl (E.bin 285 rfl (by decide) (by decide))) j h
  replace h : ((W (Proc.devRef .tc main_v218) : IVec S12800000 32) j, (W (Proc.devRef .tc main_v220) : IVec S12800000 32) j) = _ :=
    inject_at (s := S12800000) (s0 := S_) 3050711811#32 1#32 (E.nul 286 rfl) (E.un 287 rfl (by decide)) (E.bin 288 rfl (by decide) (by decide)) (E.nul 289 rfl) (E.un 290 rfl (by decide)) (E.bin 291 rfl (by decide) (by decide)) (by decide) j h
  replace h : ((W (Proc.devRef .tc main_v221) : IVec S12800000 32) j, (W (Proc.devRef .tc main_v227) : IVec S12800000 32) j) = _ :=
    round_at (s := S12800000) (s0 := S_) (E.bin 292 rfl (by decide) (by decide)) (E.nul 293 rfl) (E.un 294 rfl (by decide)) (E.bin 295 rfl (by decide) (by decide)) (E.nul 296 rfl) (E.un 297 rfl (by decide)) (E.bin 298 rfl (by decide) (by decide)) (E.bin 299 rfl (by decide) (by decide)) (Or.inl (E.bin 300 rfl (by decide) (by decide))) j h
  replace h : ((W (Proc.devRef .tc main_v228) : IVec S12800000 32) j, (W (Proc.devRef .tc main_v234) : IVec S12800000 32) j) = _ :=
    round_at (s := S12800000) (s0 := S_) (E.bin 301 rfl (by decide) (by decide)) (E.nul 302 rfl) (E.un 303 rfl (by decide)) (E.bin 304 rfl (by decide) (by decide)) (E.nul 305 rfl) (E.un 306 rfl (by decide)) (E.bin 307 rfl (by decide) (by decide)) (E.bin 308 rfl (by decide) (by decide)) (Or.inl (E.bin 309 rfl (by decide) (by decide))) j h
  replace h : ((W (Proc.devRef .tc main_v235) : IVec S12800000 32) j, (W (Proc.devRef .tc main_v241) : IVec S12800000 32) j) = _ :=
    round_at (s := S12800000) (s0 := S_) (E.bin 310 rfl (by decide) (by decide)) (E.nul 311 rfl) (E.un 312 rfl (by decide)) (E.bin 313 rfl (by decide) (by decide)) (E.nul 314 rfl) (E.un 315 rfl (by decide)) (E.bin 316 rfl (by decide) (by decide)) (E.bin 317 rfl (by decide) (by decide)) (Or.inl (E.bin 318 rfl (by decide) (by decide))) j h
  replace h : ((W (Proc.devRef .tc main_v242) : IVec S12800000 32) j, (W (Proc.devRef .tc main_v248) : IVec S12800000 32) j) = _ :=
    round_at (s := S12800000) (s0 := S_) (E.bin 319 rfl (by decide) (by decide)) (E.nul 320 rfl) (E.un 321 rfl (by decide)) (E.bin 322 rfl (by decide) (by decide)) (E.nul 323 rfl) (E.un 324 rfl (by decide)) (E.bin 325 rfl (by decide) (by decide)) (E.bin 326 rfl (by decide) (by decide)) (Or.inl (E.bin 327 rfl (by decide) (by decide))) j h
  replace h : ((W (Proc.devRef .tc main_v250) : IVec S12800000 32) j, (W (Proc.devRef .tc main_v252) : IVec S12800000 32) j) = _ :=
    inject_at (s := S12800000) (s0 := S_) 64467757#32 2#32 (E.nul 328 rfl) (E.un 329 rfl (by decide)) (E.bin 330 rfl (by decide) (by decide)) (E.nul 331 rfl) (E.un 332 rfl (by decide)) (E.bin 333 rfl (by decide) (by decide)) (by decide) j h
  replace h : ((W (Proc.devRef .tc main_v253) : IVec S12800000 32) j, (W (Proc.devRef .tc main_v259) : IVec S12800000 32) j) = _ :=
    round_at (s := S12800000) (s0 := S_) (E.bin 334 rfl (by decide) (by decide)) (E.nul 335 rfl) (E.un 336 rfl (by decide)) (E.bin 337 rfl (by decide) (by decide)) (E.nul 338 rfl) (E.un 339 rfl (by decide)) (E.bin 340 rfl (by decide) (by decide)) (E.bin 341 rfl (by decide) (by decide)) (Or.inl (E.bin 342 rfl (by decide) (by decide))) j h
  replace h : ((W (Proc.devRef .tc main_v260) : IVec S12800000 32) j, (W (Proc.devRef .tc main_v266) : IVec S12800000 32) j) = _ :=
    round_at (s := S12800000) (s0 := S_) (E.bin 343 rfl (by decide) (by decide)) (E.nul 344 rfl) (E.un 345 rfl (by decide)) (E.bin 346 rfl (by decide) (by decide)) (E.nul 347 rfl) (E.un 348 rfl (by decide)) (E.bin 349 rfl (by decide) (by decide)) (E.bin 350 rfl (by decide) (by decide)) (Or.inl (E.bin 351 rfl (by decide) (by decide))) j h
  replace h : ((W (Proc.devRef .tc main_v267) : IVec S12800000 32) j, (W (Proc.devRef .tc main_v273) : IVec S12800000 32) j) = _ :=
    round_at (s := S12800000) (s0 := S_) (E.bin 352 rfl (by decide) (by decide)) (E.nul 353 rfl) (E.un 354 rfl (by decide)) (E.bin 355 rfl (by decide) (by decide)) (E.nul 356 rfl) (E.un 357 rfl (by decide)) (E.bin 358 rfl (by decide) (by decide)) (E.bin 359 rfl (by decide) (by decide)) (Or.inl (E.bin 360 rfl (by decide) (by decide))) j h
  replace h : ((W (Proc.devRef .tc main_v274) : IVec S12800000 32) j, (W (Proc.devRef .tc main_v280) : IVec S12800000 32) j) = _ :=
    round_at (s := S12800000) (s0 := S_) (E.bin 361 rfl (by decide) (by decide)) (E.nul 362 rfl) (E.un 363 rfl (by decide)) (E.bin 364 rfl (by decide) (by decide)) (E.nul 365 rfl) (E.un 366 rfl (by decide)) (E.bin 367 rfl (by decide) (by decide)) (E.bin 368 rfl (by decide) (by decide)) (Or.inl (E.bin 369 rfl (by decide) (by decide))) j h
  replace h : ((W (Proc.devRef .tc main_v282) : IVec S12800000 32) j, (W (Proc.devRef .tc main_v284) : IVec S12800000 32) j) = _ :=
    inject_at (s := S12800000) (s0 := S_) 2916123636#32 3#32 (E.nul 370 rfl) (E.un 371 rfl (by decide)) (E.bin 372 rfl (by decide) (by decide)) (E.nul 373 rfl) (E.un 374 rfl (by decide)) (E.bin 375 rfl (by decide) (by decide)) (by decide) j h
  replace h : ((W (Proc.devRef .tc main_v285) : IVec S12800000 32) j, (W (Proc.devRef .tc main_v291) : IVec S12800000 32) j) = _ :=
    round_at (s := S12800000) (s0 := S_) (E.bin 376 rfl (by decide) (by decide)) (E.nul 377 rfl) (E.un 378 rfl (by decide)) (E.bin 379 rfl (by decide) (by decide)) (E.nul 380 rfl) (E.un 381 rfl (by decide)) (E.bin 382 rfl (by decide) (by decide)) (E.bin 383 rfl (by decide) (by decide)) (Or.inl (E.bin 384 rfl (by decide) (by decide))) j h
  replace h : ((W (Proc.devRef .tc main_v292) : IVec S12800000 32) j, (W (Proc.devRef .tc main_v298) : IVec S12800000 32) j) = _ :=
    round_at (s := S12800000) (s0 := S_) (E.bin 385 rfl (by decide) (by decide)) (E.nul 386 rfl) (E.un 387 rfl (by decide)) (E.bin 388 rfl (by decide) (by decide)) (E.nul 389 rfl) (E.un 390 rfl (by decide)) (E.bin 391 rfl (by decide) (by decide)) (E.bin 392 rfl (by decide) (by decide)) (Or.inl (E.bin 393 rfl (by decide) (by decide))) j h
  replace h : ((W (Proc.devRef .tc main_v299) : IVec S12800000 32) j, (W (Proc.devRef .tc main_v305) : IVec S12800000 32) j) = _ :=
    round_at (s := S12800000) (s0 := S_) (E.bin 394 rfl (by decide) (by decide)) (E.nul 395 rfl) (E.un 396 rfl (by decide)) (E.bin 397 rfl (by decide) (by decide)) (E.nul 398 rfl) (E.un 399 rfl (by decide)) (E.bin 400 rfl (by decide) (by decide)) (E.bin 401 rfl (by decide) (by decide)) (Or.inl (E.bin 402 rfl (by decide) (by decide))) j h
  replace h : ((W (Proc.devRef .tc main_v306) : IVec S12800000 32) j, (W (Proc.devRef .tc main_v312) : IVec S12800000 32) j) = _ :=
    round_at (s := S12800000) (s0 := S_) (E.bin 403 rfl (by decide) (by decide)) (E.nul 404 rfl) (E.un 405 rfl (by decide)) (E.bin 406 rfl (by decide) (by decide)) (E.nul 407 rfl) (E.un 408 rfl (by decide)) (E.bin 409 rfl (by decide) (by decide)) (E.bin 410 rfl (by decide) (by decide)) (Or.inl (E.bin 411 rfl (by decide) (by decide))) j h
  replace h : ((W (Proc.devRef .tc main_v314) : IVec S12800000 32) j, (W (Proc.devRef .tc main_v316) : IVec S12800000 32) j) = _ :=
    inject_at (s := S12800000) (s0 := S_) 3050711811#32 4#32 (E.nul 412 rfl) (E.un 413 rfl (by decide)) (E.bin 414 rfl (by decide) (by decide)) (E.nul 415 rfl) (E.un 416 rfl (by decide)) (E.bin 417 rfl (by decide) (by decide)) (by decide) j h
  replace h : ((W (Proc.devRef .tc main_v317) : IVec S12800000 32) j, (W (Proc.devRef .tc main_v323) : IVec S12800000 32) j) = _ :=
    round_at (s := S12800000) (s0 := S_) (E.bin 418 rfl (by decide) (by decide)) (E.nul 419 rfl) (E.un 420 rfl (by decide)) (E.bin 421 rfl (by decide) (by decide)) (E.nul 422 rfl) (E.un 423 rfl (by decide)) (E.bin 424 rfl (by decide) (by decide)) (E.bin 425 rfl (by decide) (by decide)) (Or.inl (E.bin 426 rfl (by decide) (by decide))) j h
  replace h : ((W (Proc.devRef .tc main_v324) : IVec S12800000 32) j, (W (Proc.devRef .tc main_v330) : IVec S12800000 32) j) = _ :=
    round_at (s := S12800000) (s0 := S_) (E.bin 427 rfl (by decide) (by decide)) (E.nul 428 rfl) (E.un 429 rfl (by decide)) (E.bin 430 rfl (by decide) (by decide)) (E.nul 431 rfl) (E.un 432 rfl (by decide)) (E.bin 433 rfl (by decide) (by decide)) (E.bin 434 rfl (by decide) (by decide)) (Or.inl (E.bin 435 rfl (by decide) (by decide))) j h
  replace h : ((W (Proc.devRef .tc main_v331) : IVec S12800000 32) j, (W (Proc.devRef .tc main_v337) : IVec S12800000 32) j) = _ :=
    round_at (s := S12800000) (s0 := S_) (E.bin 436 rfl (by decide) (by decide)) (E.nul 437 rfl) (E.un 438 rfl (by decide)) (E.bin 439 rfl (by decide) (by decide)) (E.nul 440 rfl) (E.un 441 rfl (by decide)) (E.bin 442 rfl (by decide) (by decide)) (E.bin 443 rfl (by decide) (by decide)) (Or.inl (E.bin 444 rfl (by decide) (by decide))) j h
  replace h : ((W (Proc.devRef .tc main_v338) : IVec S12800000 32) j, (W (Proc.devRef .tc main_v344) : IVec S12800000 32) j) = _ :=
    round_at (s := S12800000) (s0 := S_) (E.bin 445 rfl (by decide) (by decide)) (E.nul 446 rfl) (E.un 447 rfl (by decide)) (E.bin 448 rfl (by decide) (by decide)) (E.nul 449 rfl) (E.un 450 rfl (by decide)) (E.bin 451 rfl (by decide) (by decide)) (E.bin 452 rfl (by decide) (by decide)) (Or.inl (E.bin 453 rfl (by decide) (by decide))) j h
  replace h : ((W (Proc.devRef .tc main_v346) : IVec S12800000 32) j, (W (Proc.devRef .tc main_v348) : IVec S12800000 32) j) = _ :=
    inject_at (s := S12800000) (s0 := S_) 64467757#32 5#32 (E.nul 454 rfl) (E.un 455 rfl (by decide)) (E.bin 456 rfl (by decide) (by decide)) (E.nul 457 rfl) (E.un 458 rfl (by decide)) (E.bin 459 rfl (by decide) (by decide)) (by decide) j h
  exact noise_at (s := S12800000) (s0 := S_) (E.bin 460 rfl (by decide) (by decide)) (E.nul 461 rfl) (E.un 462 rfl (by decide)) (E.bin 463 rfl (by decide) (by decide)) (E.nul 464 rfl) (E.un 465 rfl (by decide)) (E.bin 466 rfl (by decide) (by decide)) (E.un 467 rfl (by decide)) (E.nul 468 rfl) (E.un 469 rfl (by decide)) (E.bin 470 rfl (by decide) (by decide)) (E.nul 471 rfl) (E.un 472 rfl (by decide)) (E.bin 473 rfl (by decide) (by decide)) (E.nul 474 rfl) (E.un 475 rfl (by decide)) (E.bin 476 rfl (by decide) (by decide)) (E.nul 477 rfl) (E.un 478 rfl (by decide)) (E.bin 479 rfl (by decide) (by decide)) (E.un 480 rfl (by decide)) (E.un 481 rfl (by decide)) (E.un 482 rfl (by decide)) (E.un 483 rfl (by decide)) j h

end Cert.Ker

end
-- ==== Proof.IdealKit.lean ====
/-
  The kernel program up to its one region, at any values of the floats: what the arrays hold there, each window's block at a point, and
  at which points the two branches of the body run.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KerNoise
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo Cert.Ssa
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  Cert.Ssa.after_below Cert.Ker.prefix_chain (fun b => m (c, b)) main_arg0 rfl (by decide)
/-- No host operation before the region writes `main_arg1`: the region finds it as launched. -/
theorem V_main_arg1 (c : Dev nD) : V m c main_arg1 = m ((c : Thread nD τ).loc main_arg1) :=
  Cert.Ssa.after_below Cert.Ker.prefix_chain (fun b => m (c, b)) main_arg1 rfl (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`the frame`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      (Pipeline.RDat.FramePost.arr_in h c 2 rfl).trans ((hA c 2).trans (V_main_arg1 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 2) — by arithmetic of the point. -/
theorem hcond0_0 : ∀ t : Fin cfg0.N, cond0_0 (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — by arithmetic of the point. -/
theorem hcond0_1 : ∀ t : Fin cfg0.N, cond0_1 (grid0.coords t) ↔ t.val % 2 = 1 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x8x100000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x100000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x200000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x2 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x200000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x200000 .f32 := win0_5.stage (cfg0.slots t 5)
abbrev hs0_5 (t : Fin cfg0.N) : (ms0_5 t).IsWhole := hstage0_5 ((cfg0.slots t 5).cast nbuf0_5)

end Cert.IdealRun

end
-- ==== Proof.IdealBody.lean ====
/-
  One run of the kernel body in each of its two cases: what the three output blocks hold after it.
-/
module

public import proofs.«01_k».proof.Proof.IdealKit
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo Cert.Ssa
open Idealize.ShloMosaic.Pipeline (Dat Cfg Window BodyObligation cellOf)

variable {F : FTy → Type} [FloatOps F]

local notation "𝕄" => MT nD τ sig Unit (Elt F) ℕ (UR sig nD τ) ℕ

/-- The first half of the columns of a block, and the second. -/
abbrev rc0 : Rect S8x200000 := Rect.unit (s := S8x200000) ![0, 0] S8x100000.size inb_S8x200000_S8x100000_0_0
abbrev rc1 : Rect S8x200000 := Rect.unit (s := S8x200000) ![0, 100000] S8x100000.size inb_S8x200000_S8x100000_0_100000
/-- The first column of a block of samples, and the second. -/
abbrev ro0 : Rect S8x2 := Rect.unit (s := S8x2) ![0, 0] S8x1.size inb_S8x2_S8x1_0_0
abbrev ro1 : Rect S8x2 := Rect.unit (s := S8x2) ![0, 1] S8x1.size inb_S8x2_S8x1_0_1

/-- A half of a block of masks. -/
def take0 (x : Vec F S8x200000 .f32) : Vec F S8x100000 .f32 := fun j => x (rc0.emb j)
def take1 (x : Vec F S8x200000 .f32) : Vec F S8x100000 .f32 := fun j => x (rc1.emb j)

/-- A block `X` is the block `y` with the payload `w` stored over the rectangle `r`. -/
def Stored {s : Shape} {e : EltTy} (r : Rect s) (w : r.shape.Idx → Elt F e) (y X : s.Idx → Elt F e) : Prop :=
  (∀ x, X (r.emb x) = w x) ∧ ∀ x, x ∉ r.set → X x = y x

/-- A whole block loaded. -/
theorem load_full (a : Memref sig .tc .vmem S1x8x100000 .f32) (ha : a.IsWhole) (x : Vec F S1x8x100000 .f32) :
    View.readAt (Elt F) a.view (Rect.unit (s := S1x8x100000) ![0, 0, 0] S1x8x100000.size inb_S1x8x100000_S1x8x100000_0_0_0).toLoadRect (ha.unread x) = x :=
  funext fun y => (congrFun (ha.read_unread x) _).trans (congrArg x (funext fun i => Fin.ext (by
    show (![0, 0, 0] : Fin 3 → ℕ) i + 1 * (y i).val = (y i).val
    rw [show (![0, 0, 0] : Fin 3 → ℕ) i = 0 from by fin_cases i <;> rfl]; omega)))

/-- A half of a block of masks loaded. -/
theorem load_take0 (a : Memref sig .tc .vmem S8x200000 .f32) (ha : a.IsWhole) (x : Vec F S8x200000 .f32) :
    View.readAt (Elt F) a.view rc0.toLoadRect (ha.unread x) = take0 x :=
  funext fun j => congrFun (ha.read_unread x) (rc0.emb j)
theorem load_take1 (a : Memref sig .tc .vmem S8x200000 .f32) (ha : a.IsWhole) (x : Vec F S8x200000 .f32) :
    View.readAt (Elt F) a.view rc1.toLoadRect (ha.unread x) = take1 x :=
  funext fun j => congrFun (ha.read_unread x) (rc1.emb j)

/-- A store over a buffer read as `y` leaves it with the payload stored over the rectangle. -/
theorem stored_of_writes {s : Shape} {e : EltTy} (a : Memref sig .tc .vmem s e) (r : Rect s) (w : r.shape.Idx → Elt F e)
    (f : a.view.ty.Contents (Elt F)) (y : s.Idx → Elt F e) (hf : a.view.read (Elt F) f = y) :
    Stored r w y (a.view.read (Elt F) (a.view.writes (Elt F) f [⟨r, w⟩])) :=
  ⟨fun x => View.read_writes_cons_emb .., fun x hx => by
    rw [View.read_writes_cons_miss _ _ _ _ _ hx, ← hf]; rfl⟩

set_option maxHeartbeats 1000000 in
/-- The body at a point of the first branch: the blocks of the outputs have the first branch's payloads stored over their first halves. -/
theorem bodyA (c : Dev nD) (i : grid0.Coords) (arg2 : Memref sig .tc .vmem S1x8x100000 .f32) (harg2 : arg2.IsWhole) (arg3 : Memref sig .tc .vmem S1x8x100000 .f32) (harg3 : arg3.IsWhole) (arg4 : Memref sig .tc .vmem S8x200000 .f32) (harg4 : arg4.IsWhole) (arg5 : Memref sig .tc .vmem S8x2 .i32) (harg5 : arg5.IsWhole) (arg6 : Memref sig .tc .vmem S8x200000 .f32) (harg6 : arg6.IsWhole) (arg7 : Memref sig .tc .vmem S8x200000 .f32) (harg7 : arg7.IsWhole)
    (hc0 : cond0_0 i) (hc1 : ¬cond0_1 i) (x0 : Vec F S1x8x100000 .f32) (x1 : Vec F S1x8x100000 .f32) (x2 : Vec F S8x200000 .f32)
    (y3 : Vec F S8x2 .i32) (y4 : Vec F S8x200000 .f32) (y5 : Vec F S8x200000 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4 ∗ owns (c : Thread nD τ) arg7 fullShare y5
        ∗ (iprop(owns (c : Thread nD τ) arg2 fullShare x0 ∗ owns (c : Thread nD τ) arg3 fullShare x1 ∗ owns (c : Thread nD τ) arg4 fullShare x2
            ∗ (∃ X, ⌜Stored ro0 (k0_pay3 x0 (take0 x2) x1) y3 X⌝ ∗ owns (c : Thread nD τ) arg5 fullShare X)
            ∗ (∃ X, ⌜Stored rc0 (k0_pay1 x0 (take0 x2)) y4 X⌝ ∗ owns (c : Thread nD τ) arg6 fullShare X)
            ∗ (∃ X, ⌜Stored rc0 (k0_pay2 x0 (take0 x2)) y5 X⌝ ∗ owns (c : Thread nD τ) arg7 fullShare X)) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexists _; isplitr; swap; · iexact H3
      ipureintro; rfl
    ipureintro; rw [load_full arg2 harg2, load_take0 arg4 harg4, load_full arg3 harg3]; exact stored_of_writes arg5 ro0 _ _ _ hf3
  isplitl [H4]
  · iexists _; isplitr; swap
    · iexists _; isplitr; swap; · iexact H4
      ipureintro; rfl
    ipureintro; rw [load_full arg2 harg2, load_take0 arg4 harg4]; exact stored_of_writes arg6 rc0 _ _ _ hf4
  iexists _; isplitr; swap
  · iexists _; isplitr; swap; · iexact H5
    ipureintro; rfl
  ipureintro; rw [load_full arg2 harg2, load_take0 arg4 harg4]; exact stored_of_writes arg7 rc0 _ _ _ hf5

set_option maxHeartbeats 1000000 in
/-- The body at a point of the second branch: the second halves. -/
theorem bodyB (c : Dev nD) (i : grid0.Coords) (arg2 : Memref sig .tc .vmem S1x8x100000 .f32) (harg2 : arg2.IsWhole) (arg3 : Memref sig .tc .vmem S1x8x100000 .f32) (harg3 : arg3.IsWhole) (arg4 : Memref sig .tc .vmem S8x200000 .f32) (harg4 : arg4.IsWhole) (arg5 : Memref sig .tc .vmem S8x2 .i32) (harg5 : arg5.IsWhole) (arg6 : Memref sig .tc .vmem S8x200000 .f32) (harg6 : arg6.IsWhole) (arg7 : Memref sig .tc .vmem S8x200000 .f32) (harg7 : arg7.IsWhole)
    (hc0 : ¬cond0_0 i) (hc1 : cond0_1 i) (x0 : Vec F S1x8x100000 .f32) (x1 : Vec F S1x8x100000 .f32) (x2 : Vec F S8x200000 .f32)
    (y3 : Vec F S8x2 .i32) (y4 : Vec F S8x200000 .f32) (y5 : Vec F S8x200000 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y3 ∗ owns (c : Thread nD τ) arg6 fullShare y4 ∗ owns (c : Thread nD τ) arg7 fullShare y5
        ∗ (iprop(owns (c : Thread nD τ) arg2 fullShare x0 ∗ owns (c : Thread nD τ) arg3 fullShare x1 ∗ owns (c : Thread nD τ) arg4 fullShare x2
            ∗ (∃ X, ⌜Stored ro1 (k0_pay6 x0 (take1 x2) x1) y3 X⌝ ∗ owns (c : Thread nD τ) arg5 fullShare X)
            ∗ (∃ X, ⌜Stored rc1 (k0_pay4 x0 (take1 x2)) y4 X⌝ ∗ owns (c : Thread nD τ) arg6 fullShare X)
            ∗ (∃ X, ⌜Stored rc1 (k0_pay5 x0 (take1 x2)) y5 X⌝ ∗ owns (c : Thread nD τ) arg7 fullShare X)) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexists _; isplitr; swap; · iexact H3
      ipureintro; rfl
    ipureintro; rw [load_full arg2 harg2, load_take1 arg4 harg4, load_full arg3 harg3]; exact stored_of_writes arg5 ro1 _ _ _ hf3
  isplitl [H4]
  · iexists _; isplitr; swap
    · iexists _; isplitr; swap; · iexact H4
      ipureintro; rfl
    ipureintro; rw [load_full arg2 harg2, load_take1 arg4 harg4]; exact stored_of_writes arg6 rc1 _ _ _ hf4
  iexists _; isplitr; swap
  · iexists _; isplitr; swap; · iexact H5
    ipureintro; rfl
  ipureintro; rw [load_full arg2 harg2, load_take1 arg4 harg4]; exact stored_of_writes arg7 rc1 _ _ _ hf5

end Cert.IdealRun

end
-- ==== Proof.IdealRun.lean ====
/-
  The whole run of the kernel program, at any values of the floats: every execution ends, with the arguments as they were and every
  counter at zero, and the three result arrays hold, half by half of each block of rows, the payloads of the two branches.
-/
module

public import proofs.«01_k».proof.Proof.IdealBody
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo Cert.Ssa
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of the first branch of the block of rows that the point `t` works on. -/
def first (t : Fin cfg0.N) : Fin cfg0.N := ⟨t.val - t.val % 2, lt_of_le_of_lt (Nat.sub_le _ _) t.isLt⟩

theorem first_even {t : Fin cfg0.N} (h : t.val % 2 = 0) : first t = t := Fin.ext (by show t.val - t.val % 2 = t.val; omega)

/-- What a block of samples holds after the point `t`: the first branch's column, and after the second branch's point its column too. -/
def Held3 (c : Dev nD) (t : Fin cfg0.N) (X : Vec F S8x2 .i32) : Prop :=
  (∀ x, X (ro0.emb x) = k0_pay3 (iblk m c 0 (first t)) (take0 (iblk m c 2 (first t))) (iblk m c 1 (first t)) x)
    ∧ (t.val % 2 = 1 → ∀ x, X (ro1.emb x) = k0_pay6 (iblk m c 0 t) (take1 (iblk m c 2 t)) (iblk m c 1 t) x)
/-- What a block of probabilities holds after the point `t`: the first half, and after the second branch's point the second. -/
def Held4 (c : Dev nD) (t : Fin cfg0.N) (X : Vec F S8x200000 .f32) : Prop :=
  (∀ x, X (rc0.emb x) = k0_pay1 (iblk m c 0 (first t)) (take0 (iblk m c 2 (first t))) x)
    ∧ (t.val % 2 = 1 → ∀ x, X (rc1.emb x) = k0_pay4 (iblk m c 0 t) (take1 (iblk m c 2 t)) x)
/-- The same of a block of logarithms. -/
def Held5 (c : Dev nD) (t : Fin cfg0.N) (X : Vec F S8x200000 .f32) : Prop :=
  (∀ x, X (rc0.emb x) = k0_pay2 (iblk m c 0 (first t)) (take0 (iblk m c 2 (first t))) x)
    ∧ (t.val % 2 = 1 → ∀ x, X (rc1.emb x) = k0_pay5 (iblk m c 0 t) (take1 (iblk m c 2 t)) x)

/-- A point of the first half is not in the second. -/
theorem rc0_not_mem (x : S8x100000.Idx) : rc0.emb x ∉ rc1.set :=
  rc1.not_mem_set_of_axis _ 1 100000 100000 rfl rfl rfl (.inl (by
    have h : (x 1).val < 100000 := (x 1).isLt
    show 0 + 1 * (x 1).val < 100000
    omega))
theorem ro0_not_mem (x : S8x1.Idx) : ro0.emb x ∉ ro1.set :=
  ro1.not_mem_set_of_axis _ 1 1 1 rfl rfl rfl (.inl (by
    have h : (x 1).val < 1 := (x 1).isLt
    show 0 + 1 * (x 1).val < 1
    omega))

/-- The three outputs are held to what they hold after each point; -/
def held0 : Fin 6 → Bool := fun w => w.val == 3 || w.val == 4 || w.val == 5

/-- namely this. -/
def Holds (c : Dev nD) : (w : Fin cfg0.W) → Fin cfg0.N → ((cfg0.win w).block.Idx → Elt F (cfg0.win w).elt) → Prop
  | ⟨0, _⟩, _, _ => True
  | ⟨1, _⟩, _, _ => True
  | ⟨2, _⟩, _, _ => True
  | ⟨3, _⟩, t, X => Held3 m c t X
  | ⟨4, _⟩, t, X => Held4 m c t X
  | ⟨5, _⟩, t, X => Held5 m c t X

/-- The proof data of the pipeline: the arrays as the region finds them, each input's buffer at its block, the outputs' left to `Holds`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The data with the outputs held to `Holds`. -/
abbrev rdat (c : Dev nD) : Pipeline.RDat τ (Elt F) Unit ℕ (UR sig nD τ) ℕ cfg0 c := (dats m 0 c).toRRel held0 (Holds m c)

/-- At a point of the second branch an output's buffer holds what the point before left. -/
theorem finds_prev (c : Dev nD) (w : Fin cfg0.W) (hw : held0 w = true) (hfetch : ∀ t, (cfg0.win w).fetch t = false)
    (hflush : ∀ t : Fin cfg0.N, (cfg0.win w).flush t = true ↔ t.val % 2 = 1) (t : Fin cfg0.N) (h : t.val % 2 = 1)
    (Y) (hY : (rdat m c).Finds w t Y) : Holds m c w ⟨t.val - 1, lt_of_le_of_lt (Nat.sub_le _ _) t.isLt⟩ Y := by
  unfold Pipeline.RDat.Finds at hY
  rw [if_neg (by rw [hfetch]; exact Bool.false_ne_true), if_neg (by omega)] at hY
  simp only at hY
  rw [if_neg (fun hf => by have := (hflush _).mp hf; simp only at this; omega)] at hY
  obtain ⟨Z, _, hZ⟩ := hY
  rw [Dat.toRRel_after_of_eq_true _ hw] at hZ
  exact hZ

theorem first_prev {t : Fin cfg0.N} (h : t.val % 2 = 1) :
    (⟨t.val - 1, lt_of_le_of_lt (Nat.sub_le _ _) t.isLt⟩ : Fin cfg0.N) = first t := Fin.ext (by show t.val - 1 = t.val - t.val % 2; omega)

theorem first_first (t : Fin cfg0.N) : first (first t) = first t :=
  first_even (by show (t.val - t.val % 2) % 2 = 0; omega)

/-- What the body is called with at the point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ Y, ⌜(rdat m c).Finds 3 t Y⌝ ∗ owns (c : Thread nD τ) (ms0_3 t) fullShare Y)
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, ⌜Held3 m c t X⌝ ∗ owns (c : Thread nD τ) (ms0_3 t) fullShare X)
    ∗ (∃ X, ⌜Held4 m c t X⌝ ∗ owns (c : Thread nD τ) (ms0_4 t) fullShare X)
    ∗ (∃ X, ⌜Held5 m c t X⌝ ∗ owns (c : Thread nD τ) (ms0_5 t) fullShare X))

/-- Window 3 after a point of the first branch; -/
theorem held3_A (c : Dev nD) {t : Fin cfg0.N} (h : t.val % 2 = 0) {y X : Vec F S8x2 .i32}
    (hX : Stored ro0 (k0_pay3 (iblk m c 0 t) (take0 (iblk m c 2 t)) (iblk m c 1 t)) y X) : Held3 m c t X :=
  ⟨fun x => by rw [first_even h]; exact hX.1 x, fun h' => absurd (h.symm.trans h') (by decide)⟩
/-- after a point of the second, given what it held after the point before. -/
theorem held3_B (c : Dev nD) {t : Fin cfg0.N} (h : t.val % 2 = 1) {y X : Vec F S8x2 .i32}
    (hy : Held3 m c ⟨t.val - 1, lt_of_le_of_lt (Nat.sub_le _ _) t.isLt⟩ y)
    (hX : Stored ro1 (k0_pay6 (iblk m c 0 t) (take1 (iblk m c 2 t)) (iblk m c 1 t)) y X) : Held3 m c t X :=
  ⟨fun x => by
    rw [first_prev h] at hy
    rw [hX.2 _ (ro0_not_mem x), hy.1 x, first_first], fun _ x => hX.1 x⟩

/-- Window 4 after a point of the first branch; -/
theorem held4_A (c : Dev nD) {t : Fin cfg0.N} (h : t.val % 2 = 0) {y X : Vec F S8x200000 .f32}
    (hX : Stored rc0 (k0_pay1 (iblk m c 0 t) (take0 (iblk m c 2 t)) ) y X) : Held4 m c t X :=
  ⟨fun x => by rw [first_even h]; exact hX.1 x, fun h' => absurd (h.symm.trans h') (by decide)⟩
/-- after a point of the second, given what it held after the point before. -/
theorem held4_B (c : Dev nD) {t : Fin cfg0.N} (h : t.val % 2 = 1) {y X : Vec F S8x200000 .f32}
    (hy : Held4 m c ⟨t.val - 1, lt_of_le_of_lt (Nat.sub_le _ _) t.isLt⟩ y)
    (hX : Stored rc1 (k0_pay4 (iblk m c 0 t) (take1 (iblk m c 2 t)) ) y X) : Held4 m c t X :=
  ⟨fun x => by
    rw [first_prev h] at hy
    rw [hX.2 _ (rc0_not_mem x), hy.1 x, first_first], fun _ x => hX.1 x⟩

/-- Window 5 after a point of the first branch; -/
theorem held5_A (c : Dev nD) {t : Fin cfg0.N} (h : t.val % 2 = 0) {y X : Vec F S8x200000 .f32}
    (hX : Stored rc0 (k0_pay2 (iblk m c 0 t) (take0 (iblk m c 2 t)) ) y X) : Held5 m c t X :=
  ⟨fun x => by rw [first_even h]; exact hX.1 x, fun h' => absurd (h.symm.trans h') (by decide)⟩
/-- after a point of the second, given what it held after the point before. -/
theorem held5_B (c : Dev nD) {t : Fin cfg0.N} (h : t.val % 2 = 1) {y X : Vec F S8x200000 .f32}
    (hy : Held5 m c ⟨t.val - 1, lt_of_le_of_lt (Nat.sub_le _ _) t.isLt⟩ y)
    (hX : Stored rc1 (k0_pay5 (iblk m c 0 t) (take1 (iblk m c 2 t)) ) y X) : Held5 m c t X :=
  ⟨fun x => by
    rw [first_prev h] at hy
    rw [hX.2 _ (rc0_not_mem x), hy.1 x, first_first], fun _ x => hX.1 x⟩

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2]
  iintro ⟨HΦ, Ho, ⟨%d0, H0⟩, ⟨%d1, H1⟩, ⟨%d2, H2⟩, ⟨%Y3, %hY3, H3⟩, ⟨%Y4, %hY4, H4⟩, ⟨%Y5, %hY5, H5⟩⟩
  by_cases h0 : t.val % 2 = 0
  · iapply (bodyA c (grid0.coords t) _ _ _ _ _ _ _ _ _ _ _ _ ((hcond0_0 t).mpr h0) (fun h => absurd (h0.symm.trans ((hcond0_1 t).mp h)) (by decide)) (iblk m c 0 t) (iblk m c 1 t) (iblk m c 2 t) Y3 Y4 Y5 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, ⟨%X3, %hX3, H3⟩, ⟨%X4, %hX4, H4⟩, ⟨%X5, %hX5, H5⟩⟩
    isplitl [HΦ]; · iexact HΦ
    isplitl [Ho]; · iexact Ho
    isplitl [H0]; · iexact H0
    isplitl [H1]; · iexact H1
    isplitl [H2]; · iexact H2
    isplitl [H3]
    · iexists X3; isplitr; · ipureintro; exact held3_A m c h0 hX3
      iexact H3
    isplitl [H4]
    · iexists X4; isplitr; · ipureintro; exact held4_A m c h0 hX4
      iexact H4
    · iexists X5; isplitr; · ipureintro; exact held5_A m c h0 hX5
      iexact H5
  · have h1 : t.val % 2 = 1 := by omega
    iapply (bodyB c (grid0.coords t) _ _ _ _ _ _ _ _ _ _ _ _ (fun h => h0 ((hcond0_0 t).mp h)) ((hcond0_1 t).mpr h1) (iblk m c 0 t) (iblk m c 1 t) (iblk m c 2 t) Y3 Y4 Y5 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, ⟨%X3, %hX3, H3⟩, ⟨%X4, %hX4, H4⟩, ⟨%X5, %hX5, H5⟩⟩
    isplitl [HΦ]; · iexact HΦ
    isplitl [Ho]; · iexact Ho
    isplitl [H0]; · iexact H0
    isplitl [H1]; · iexact H1
    isplitl [H2]; · iexact H2
    isplitl [H3]
    · iexists X3; isplitr; · ipureintro; exact held3_B m c h1 (finds_prev m c 3 rfl (fun _ => rfl) flush0_3 t h1 _ hY3) hX3
      iexact H3
    isplitl [H4]
    · iexists X4; isplitr; · ipureintro; exact held4_B m c h1 (finds_prev m c 4 rfl (fun _ => rfl) flush0_4 t h1 _ hY4) hX4
      iexact H4
    · iexists X5; isplitr; · ipureintro; exact held5_B m c h1 (finds_prev m c 5 rfl (fun _ => rfl) flush0_5 t h1 _ hY5) hX5
      iexact H5

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) :
    Pipeline.BodyObligationRel (dats (F := F) m 0 c) (defs₀ (F := F)) Variants.none () Set.univ held0 (Holds m c) := fun t => by
  rw [bigSep_W0, bigSep_W0, defs₀_row]
  exact triple_restated (sound_body m c t) rfl .rfl fun _ => .rfl

set_option backward.isDefEq.respectTransparency.types false in
/-- The launch: the arrays at the end are those of the data held to `Holds`, and every counter is at zero. -/
theorem run_main : θ_run defs (onTc (τ := τ) (main (F := F))) (s₀ m ρ) (fun r => (Pipeline.RDat.FramePost (cfgs 0) (rdat m) (V m)) r ∧ r.2.sem = fun _ => 0) :=
  Pipeline.RDat.θ_run_frame cfgs (0 : Fin 1) launch0 defs₀ Variants.none (rdat m) m ρ main
    (fun c => (body_obligation m c).toRRel) (fun c => (rdat m c).share_full fun _ => rfl)
    (fun _ _ => rfl) (V m) (hmain m Variants.none) (A_eq m) (fun _ _ => rfl)
    (fun r => (Pipeline.RDat.FramePost (cfgs 0) (rdat m) (V m)) r ∧ r.2.sem = fun _ => 0) (fun _ h => h)

end Cert.IdealRun

end
-- ==== Proof.IdealOut.lean ====
/-
  What the result arrays of the kernel program hold after the run, element by element, at any values of the floats.
-/
module

public import proofs.«01_k».proof.Proof.IdealRun
public import Idealize.ShloMosaic.Lib.Pipeline.FrameBody
public import Idealize.ShloMosaic.Lib.Pipeline.DatRel
public import Idealize.ShloMosaic.Lib.Pipeline.ArrRel
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.IdealRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo Cert.Ssa
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Along the rows the outputs' blocks are numbered by the half of the point. -/
theorem row_index3 : ∀ t : Fin grid0.N, win0_3.index t 0 = t.val / 2 := by decide +kernel
theorem row_index4 : ∀ t : Fin grid0.N, win0_4.index t 0 = t.val / 2 := by decide +kernel
theorem row_index5 : ∀ t : Fin grid0.N, win0_5.index t 0 = t.val / 2 := by decide +kernel

/-- What result 0 holds: at the rows of the block of the point `t`, the payload of the first branch in the first half of the columns
    and that of the second in the second. -/
def Final3 (c : Dev nD) (i : S128x2.Idx) (v : Elt F .i32) : Prop :=
  ∀ t : Fin cfg0.N, t.val % 2 = 1 → ∀ x : S8x1.Idx, (i 0).val = 8 * (t.val / 2) + (x 0).val →
    ((i 1).val = (x 1).val → v = k0_pay3 (iblk m c 0 (first t)) (take0 (iblk m c 2 (first t))) (iblk m c 1 (first t)) x)
      ∧ ((i 1).val = 1 + (x 1).val → v = k0_pay6 (iblk m c 0 t) (take1 (iblk m c 2 t)) (iblk m c 1 t) x)

set_option maxHeartbeats 800000 in
theorem final3 (c : Dev nD) (after : (w' : Fin cfg0.W) → Fin cfg0.N → (cfg0.win w').block.Idx → Elt F (cfg0.win w').elt)
    (hL : ∀ (w : Fin cfg0.W) (u : Fin cfg0.N), (cfg0.win w).flush u = true → (rdat m c).Leaves w u (after w u)) (i : S128x2.Idx) :
    Final3 m c i (((rdat m c).withAfter after).arrAt 3 cfg0.N i) := by
  refine Dat.arrAt_forall_of_covers ((rdat m c).withAfter after) 3 (fun i v => Final3 m c i v) (by decide +kernel) (fun t hf y => ?_) i
  have h1 := (flush0_3 t).mp hf
  have hH : Held3 m c t (after 3 t) := Dat.toRRel_leaves (dats m 0 c) (fgt := held0) (Rl := Holds m c) (w := 3) rfl (hL 3 t hf)
  intro t' h1' x h0
  have e0 : ((((cfg0.win 3).blk t).view.emb y) 0 : ℕ) = 8 * (t.val / 2) + (y 0).val := by
    have hk := row_index3 t; blk_simp; rw [hk]; omega
  have e1 : ((((cfg0.win 3).blk t).view.emb y) 1 : ℕ) = (y 1).val := by
    blk_simp; try (show 0 * _ + _ = _; omega)
  have hy0 : (y 0).val < 8 := (y 0).isLt
  have hx0 : (x 0).val < 8 := (x 0).isLt
  have ht : t' = t := Fin.ext (by omega)
  subst ht
  have hx : (y 0).val = (x 0).val := by omega
  refine ⟨fun h => ?_, fun h => ?_⟩
  · have hyx : ro0.emb x = y := funext fun a => Fin.ext (by
      match a with
      | ⟨0, _⟩ => show 0 + 1 * (x 0).val = (y 0).val; omega
      | ⟨1, _⟩ => show 0 + 1 * (x 1).val = (y 1).val; omega)
    refine Eq.trans ?_ (hH.1 x)
    rw [hyx]; rfl
  · have hyx : ro1.emb x = y := funext fun a => Fin.ext (by
      match a with
      | ⟨0, _⟩ => show 0 + 1 * (x 0).val = (y 0).val; omega
      | ⟨1, _⟩ => show 1 + 1 * (x 1).val = (y 1).val; omega)
    refine Eq.trans ?_ (hH.2 h1 x)
    rw [hyx]; rfl

/-- What result 1 holds: at the rows of the block of the point `t`, the payload of the first branch in the first half of the columns
    and that of the second in the second. -/
def Final4 (c : Dev nD) (i : S128x200000.Idx) (v : Elt F .f32) : Prop :=
  ∀ t : Fin cfg0.N, t.val % 2 = 1 → ∀ x : S8x100000.Idx, (i 0).val = 8 * (t.val / 2) + (x 0).val →
    ((i 1).val = (x 1).val → v = k0_pay1 (iblk m c 0 (first t)) (take0 (iblk m c 2 (first t))) x)
      ∧ ((i 1).val = 100000 + (x 1).val → v = k0_pay4 (iblk m c 0 t) (take1 (iblk m c 2 t)) x)

set_option maxHeartbeats 800000 in
theorem final4 (c : Dev nD) (after : (w' : Fin cfg0.W) → Fin cfg0.N → (cfg0.win w').block.Idx → Elt F (cfg0.win w').elt)
    (hL : ∀ (w : Fin cfg0.W) (u : Fin cfg0.N), (cfg0.win w).flush u = true → (rdat m c).Leaves w u (after w u)) (i : S128x200000.Idx) :
    Final4 m c i (((rdat m c).withAfter after).arrAt 4 cfg0.N i) := by
  refine Dat.arrAt_forall_of_covers ((rdat m c).withAfter after) 4 (fun i v => Final4 m c i v) (by decide +kernel) (fun t hf y => ?_) i
  have h1 := (flush0_4 t).mp hf
  have hH : Held4 m c t (after 4 t) := Dat.toRRel_leaves (dats m 0 c) (fgt := held0) (Rl := Holds m c) (w := 4) rfl (hL 4 t hf)
  intro t' h1' x h0
  have e0 : ((((cfg0.win 4).blk t).view.emb y) 0 : ℕ) = 8 * (t.val / 2) + (y 0).val := by
    have hk := row_index4 t; blk_simp; rw [hk]; omega
  have e1 : ((((cfg0.win 4).blk t).view.emb y) 1 : ℕ) = (y 1).val := by
    blk_simp; try (show 0 * _ + _ = _; omega)
  have hy0 : (y 0).val < 8 := (y 0).isLt
  have hx0 : (x 0).val < 8 := (x 0).isLt
  have ht : t' = t := Fin.ext (by omega)
  subst ht
  have hx : (y 0).val = (x 0).val := by omega
  refine ⟨fun h => ?_, fun h => ?_⟩
  · have hyx : rc0.emb x = y := funext fun a => Fin.ext (by
      match a with
      | ⟨0, _⟩ => show 0 + 1 * (x 0).val = (y 0).val; omega
      | ⟨1, _⟩ => show 0 + 1 * (x 1).val = (y 1).val; omega)
    refine Eq.trans ?_ (hH.1 x)
    rw [hyx]; rfl
  · have hyx : rc1.emb x = y := funext fun a => Fin.ext (by
      match a with
      | ⟨0, _⟩ => show 0 + 1 * (x 0).val = (y 0).val; omega
      | ⟨1, _⟩ => show 100000 + 1 * (x 1).val = (y 1).val; omega)
    refine Eq.trans ?_ (hH.2 h1 x)
    rw [hyx]; rfl

/-- What result 2 holds: at the rows of the block of the point `t`, the payload of the first branch in the first half of the columns
    and that of the second in the second. -/
def Final5 (c : Dev nD) (i : S128x200000.Idx) (v : Elt F .f32) : Prop :=
  ∀ t : Fin cfg0.N, t.val % 2 = 1 → ∀ x : S8x100000.Idx, (i 0).val = 8 * (t.val / 2) + (x 0).val →
    ((i 1).val = (x 1).val → v = k0_pay2 (iblk m c 0 (first t)) (take0 (iblk m c 2 (first t))) x)
      ∧ ((i 1).val = 100000 + (x 1).val → v = k0_pay5 (iblk m c 0 t) (take1 (iblk m c 2 t)) x)

set_option maxHeartbeats 800000 in
theorem final5 (c : Dev nD) (after : (w' : Fin cfg0.W) → Fin cfg0.N → (cfg0.win w').block.Idx → Elt F (cfg0.win w').elt)
    (hL : ∀ (w : Fin cfg0.W) (u : Fin cfg0.N), (cfg0.win w).flush u = true → (rdat m c).Leaves w u (after w u)) (i : S128x200000.Idx) :
    Final5 m c i (((rdat m c).withAfter after).arrAt 5 cfg0.N i) := by
  refine Dat.arrAt_forall_of_covers ((rdat m c).withAfter after) 5 (fun i v => Final5 m c i v) (by decide +kernel) (fun t hf y => ?_) i
  have h1 := (flush0_5 t).mp hf
  have hH : Held5 m c t (after 5 t) := Dat.toRRel_leaves (dats m 0 c) (fgt := held0) (Rl := Holds m c) (w := 5) rfl (hL 5 t hf)
  intro t' h1' x h0
  have e0 : ((((cfg0.win 5).blk t).view.emb y) 0 : ℕ) = 8 * (t.val / 2) + (y 0).val := by
    have hk := row_index5 t; blk_simp; rw [hk]; omega
  have e1 : ((((cfg0.win 5).blk t).view.emb y) 1 : ℕ) = (y 1).val := by
    blk_simp; try (show 0 * _ + _ = _; omega)
  have hy0 : (y 0).val < 8 := (y 0).isLt
  have hx0 : (x 0).val < 8 := (x 0).isLt
  have ht : t' = t := Fin.ext (by omega)
  subst ht
  have hx : (y 0).val = (x 0).val := by omega
  refine ⟨fun h => ?_, fun h => ?_⟩
  · have hyx : rc0.emb x = y := funext fun a => Fin.ext (by
      match a with
      | ⟨0, _⟩ => show 0 + 1 * (x 0).val = (y 0).val; omega
      | ⟨1, _⟩ => show 0 + 1 * (x 1).val = (y 1).val; omega)
    refine Eq.trans ?_ (hH.1 x)
    rw [hyx]; rfl
  · have hyx : rc1.emb x = y := funext fun a => Fin.ext (by
      match a with
      | ⟨0, _⟩ => show 0 + 1 * (x 0).val = (y 0).val; omega
      | ⟨1, _⟩ => show 100000 + 1 * (x 1).val = (y 1).val; omega)
    refine Eq.trans ?_ (hH.2 h1 x)
    rw [hyx]; rfl

/-- Result 0 after a run. -/
theorem result0 {r : PUnit × MemSt nD τ sig (Elt F)} (h : Pipeline.RDat.FramePost (cfgs 0) (rdat m) (V m) r) (c : Dev nD) (i) :
    Final3 m c i (r.2.mem ((c.tc : Thread nD τ).loc main_v371_0) i) := by
  obtain ⟨after, hL, hA⟩ := Pipeline.RDat.FramePost.exists_exact h c
  have e : r.2.mem ((c.tc : Thread nD τ).loc main_v371_0) = ((rdat m c).withAfter after).arrAt 3 cfg0.N := hA 3
  rw [e]
  exact final3 m c after hL i

/-- Result 1 after a run. -/
theorem result1 {r : PUnit × MemSt nD τ sig (Elt F)} (h : Pipeline.RDat.FramePost (cfgs 0) (rdat m) (V m) r) (c : Dev nD) (i) :
    Final4 m c i (r.2.mem ((c.tc : Thread nD τ).loc main_v371_1) i) := by
  obtain ⟨after, hL, hA⟩ := Pipeline.RDat.FramePost.exists_exact h c
  have e : r.2.mem ((c.tc : Thread nD τ).loc main_v371_1) = ((rdat m c).withAfter after).arrAt 4 cfg0.N := hA 4
  rw [e]
  exact final4 m c after hL i

/-- Result 2 after a run. -/
theorem result2 {r : PUnit × MemSt nD τ sig (Elt F)} (h : Pipeline.RDat.FramePost (cfgs 0) (rdat m) (V m) r) (c : Dev nD) (i) :
    Final5 m c i (r.2.mem ((c.tc : Thread nD τ).loc main_v371_2) i) := by
  obtain ⟨after, hL, hA⟩ := Pipeline.RDat.FramePost.exists_exact h c
  have e : r.2.mem ((c.tc : Thread nD τ).loc main_v371_2) = ((rdat m c).withAfter after).arrAt 5 cfg0.N := hA 5
  rw [e]
  exact final5 m c after hL i

/-- The arguments after the run. -/
theorem args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (rdat m) (A_eq m) ((θ_run defs _ _).mono (fun _ h => h.1) (run_main m ρ))

/-- The run: the arguments end as they were, every counter at zero, and each result holds what its blocks' payloads say. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ (∀ i, Final3 m c i (r.2.mem ((c.tc : Thread nD τ).loc main_v371_0) i))
      ∧ (∀ i, Final4 m c i (r.2.mem ((c.tc : Thread nD τ).loc main_v371_1) i))
      ∧ ∀ i, Final5 m c i (r.2.mem ((c.tc : Thread nD τ).loc main_v371_2) i))
      ∧ r.2.sem = fun _ => 0) :=
  (θ_run defs _ _).mono (fun _ h => ⟨fun c => ⟨h.1 c, result0 m h.2.1 c, result1 m h.2.1 c, result2 m h.2.1 c⟩, h.2.2⟩)
    (θ_run_and (args m ρ) (run_main m ρ))

end Cert.IdealRun

end
-- ==== Proof.RowMath.lean ====
/-
  The mathematics of one row over the extended reals: the masked and renormalised softmax as the reference writes it and as the kernel
  does, with the division by the softmax's sum left out, and that the two agree; and the first greatest entry of a row.
-/
module

public import Idealize.ShloMosaic.PureOps.Ideal
public import Idealize.ShloMosaic.PureOps.Ideal.Laws

@[expose] public section

noncomputable section

namespace Cert.Row

open Idealize.ShloMosaic

variable {n : ℕ}

/-- The greatest entry of a row. -/
def top (l : Fin n → EReal) : EReal := (Finset.univ : Finset (Fin n)).fold max ⊥ l
/-- The exponentials of a row less its greatest entry, -/
def ex (l : Fin n → EReal) (j : Fin n) : EReal := Ideal.exp (l j - top l)
/-- and their sum. -/
def ssum (l : Fin n → EReal) : EReal := ∑ j, ex l j
/-- The small number added to every probability. -/
def eps : EReal := Ideal.ofBits .f32 0x33D6BF95#32

/-- The reference's masked entries, -/
def raw (l w : Fin n → EReal) (j : Fin n) : EReal := (Ideal.div (ex l j) (ssum l) + eps) * w j
/-- and its probabilities. -/
def prob (l w : Fin n → EReal) (j : Fin n) : EReal := Ideal.div (raw l w j) (∑ k, raw l w k)
/-- The kernel's masked entries, -/
def kraw (l w : Fin n → EReal) (j : Fin n) : EReal := (ex l j + eps * ssum l) * w j
/-- and its probabilities. -/
def kprob (l w : Fin n → EReal) (j : Fin n) : EReal := kraw l w j * Ideal.div 1 (∑ k, kraw l w k)
/-- The logarithm of a probability. -/
def logp (p : EReal) : EReal := Ideal.log (p + eps)

theorem le_top (l : Fin n → EReal) (j : Fin n) : l j ≤ top l :=
  (Finset.le_fold_max (l j)).mpr (.inr ⟨j, Finset.mem_univ j, le_rfl⟩)

/-- The greatest entry is an entry. -/
theorem top_mem (l : Fin n → EReal) (h : top l ≠ ⊥) : ∃ j, l j = top l := by
  have h1 : top l ≤ top l := le_rfl
  conv at h1 => rhs; rw [top]
  rcases (Finset.le_fold_max (top l)).mp h1 with h2 | ⟨j, _, hj⟩
  · exact absurd (le_bot_iff.mp h2) h
  · exact ⟨j, le_antisymm (le_top l j) hj⟩

theorem eps_real : ∃ e : ℝ, eps = (e : EReal) := by
  have h : eps ≠ ⊤ ∧ eps ≠ ⊥ := by
    constructor <;> (simp [eps, Ideal.ofBits, Ideal.ieee]; try norm_cast) <;> exact fun h => nomatch h
  exact ⟨eps.toReal, (EReal.coe_toReal h.1 h.2).symm⟩

/-- Below a finite greatest entry each exponential is a nonnegative real. -/
theorem ex_real (l : Fin n → EReal) (h1 : top l ≠ ⊤) (h2 : top l ≠ ⊥) (j : Fin n) : ∃ r : ℝ, 0 ≤ r ∧ ex l j = (r : EReal) := by
  obtain ⟨M, hM⟩ : ∃ M : ℝ, top l = M := ⟨(top l).toReal, (EReal.coe_toReal h1 h2).symm⟩
  have hj := le_top l j
  unfold ex
  rw [hM] at hj ⊢
  induction hx : l j with
  | bot => exact ⟨0, le_rfl, by rw [EReal.bot_sub]; rfl⟩
  | top => rw [hx] at hj; exact absurd (top_le_iff.mp hj) (EReal.coe_ne_top M)
  | coe x => exact ⟨Real.exp (x - M), (Real.exp_pos _).le, by rw [← EReal.coe_sub]; rfl⟩

/-- A sum of reals is real. -/
theorem sum_coe (s : Finset (Fin n)) (r : Fin n → ℝ) : ∑ j ∈ s, ((r j : ℝ) : EReal) = ((∑ j ∈ s, r j : ℝ) : EReal) := by
  classical
  induction s using Finset.induction_on with
  | empty => simp
  | insert a s ha ih => rw [Finset.sum_insert ha, Finset.sum_insert ha, ih, EReal.coe_add]

/-- A nonnegative real factor goes through a sum. -/
theorem mul_sum (S : ℝ) (hS : 0 ≤ S) (s : Finset (Fin n)) (f : Fin n → EReal) : ∑ j ∈ s, (S : EReal) * f j = (S : EReal) * ∑ j ∈ s, f j := by
  classical
  induction s using Finset.induction_on with
  | empty => simp
  | insert a s ha ih =>
    rw [Finset.sum_insert ha, Finset.sum_insert ha, ih,
      EReal.left_distrib_of_nonneg_of_ne_top (EReal.coe_nonneg.mpr hS) (EReal.coe_ne_top S)]

/-- The exponentials as reals, with a positive sum. -/
theorem ex_reals (l : Fin n → EReal) (h1 : top l ≠ ⊤) (h2 : top l ≠ ⊥) :
    ∃ r : Fin n → ℝ, ∃ S : ℝ, 0 < S ∧ (∀ j, ex l j = (r j : EReal)) ∧ ssum l = (S : EReal) := by
  choose r hr0 hr using ex_real l h1 h2
  refine ⟨r, ∑ j, r j, ?_, hr, ?_⟩
  · obtain ⟨j, hj⟩ := top_mem l h2
    have hj1 : r j = 1 := by
      have h := hr j
      unfold ex at h
      rw [hj] at h
      obtain ⟨M, hM⟩ : ∃ M : ℝ, top l = M := ⟨(top l).toReal, (EReal.coe_toReal h1 h2).symm⟩
      rw [hM, ← EReal.coe_sub, sub_self] at h
      have h' : ((Real.exp 0 : ℝ) : EReal) = (r j : EReal) := h
      rw [Real.exp_zero] at h'
      exact (EReal.coe_eq_coe_iff.mp h').symm
    exact lt_of_lt_of_le (by rw [hj1]; exact one_pos) (Finset.single_le_sum (fun k _ => hr0 k) (Finset.mem_univ j))
  · unfold ssum
    rw [← sum_coe]
    exact Finset.sum_congr rfl fun j _ => hr j

/-- Under an infinite greatest entry every exponential is zero. -/
theorem ex_zero (l : Fin n → EReal) (h : top l = ⊤ ∨ top l = ⊥) (j : Fin n) : ex l j = 0 := by
  have e : l j - top l = ⊥ := by
    rcases h with h | h
    · rw [h, EReal.sub_top]
    · have hj := le_top l j
      rw [h] at hj
      rw [le_bot_iff.mp hj, EReal.bot_sub]
  unfold ex
  rw [e]
  rfl

/-- A sum of entries each of which is an infinity or zero is one of the three. -/
theorem sum_corner (s : Finset (Fin n)) (f : Fin n → EReal) (h : ∀ j, f j = ⊥ ∨ f j = 0 ∨ f j = ⊤) :
    ∑ j ∈ s, f j = ⊥ ∨ ∑ j ∈ s, f j = 0 ∨ ∑ j ∈ s, f j = ⊤ := by
  classical
  induction s using Finset.induction_on with
  | empty => simp
  | insert a s ha ih =>
    rw [Finset.sum_insert ha]
    rcases h a with h | h | h <;> rcases ih with i | i | i <;> rw [h, i] <;> simp

/-- Minus infinity times anything is an infinity or zero. -/
theorem bot_mul_corner (x : EReal) : ⊥ * x = ⊥ ∨ ⊥ * x = 0 ∨ ⊥ * x = ⊤ := by
  rcases lt_trichotomy x 0 with h | h | h
  · exact .inr (.inr (EReal.bot_mul_of_neg h))
  · exact .inr (.inl (by rw [h, mul_zero]))
  · exact .inl (EReal.bot_mul_of_pos h)

/-- The two ways of writing the probabilities agree on a row whose greatest entry is infinite and whose masked entries do not sum to
    zero: both are zero. -/
theorem kprob_eq_corner (l w : Fin n → EReal) (h : top l = ⊤ ∨ top l = ⊥) (h3 : ∑ k, raw l w k ≠ 0) (j : Fin n) : kprob l w j = prob l w j := by
  have hs : ssum l = 0 := Finset.sum_eq_zero fun k _ => ex_zero l h k
  obtain ⟨e, he⟩ := eps_real
  have hr : ∀ k, raw l w k = ⊥ * w k := fun k => by
    unfold raw
    rw [ex_zero l h, hs, Ideal.div, if_pos rfl, if_neg (lt_irrefl _), EReal.bot_add]
  have hk : kraw l w j = 0 := by
    unfold kraw
    rw [ex_zero l h, hs, mul_zero, add_zero, zero_mul]
  unfold kprob prob
  rw [hk, zero_mul, Ideal.div, if_neg h3]
  rcases sum_corner Finset.univ (raw l w) (fun k => by rw [hr]; exact bot_mul_corner _) with i | i | i
  · rw [i, EReal.inv_bot, mul_zero]
  · exact absurd i h3
  · rw [i, EReal.inv_top, mul_zero]

/-- The two ways of writing the probabilities agree on a row whose masked entries do not sum to zero. -/
theorem kprob_eq (l w : Fin n → EReal) (h3 : ∑ k, raw l w k ≠ 0) (j : Fin n) : kprob l w j = prob l w j := by
  by_cases h1 : top l = ⊤
  · exact kprob_eq_corner l w (.inl h1) h3 j
  by_cases h2 : top l = ⊥
  · exact kprob_eq_corner l w (.inr h2) h3 j
  obtain ⟨r, S, hS, hr, hs⟩ := ex_reals l h1 h2
  obtain ⟨e, he⟩ := eps_real
  have hS0 : (S : EReal) ≠ 0 := by
    intro h; exact hS.ne' (EReal.coe_eq_zero.mp h)
  have hk : ∀ k, kraw l w k = (S : EReal) * raw l w k := fun k => by
    unfold kraw raw
    rw [hr, hs, he, Ideal.div, if_neg hS0, ← EReal.coe_inv, ← EReal.coe_mul, ← EReal.coe_mul, ← EReal.coe_add, ← EReal.coe_add,
      ← mul_assoc, ← EReal.coe_mul]
    congr 2
    field_simp
  have hsum : ∑ k, kraw l w k = (S : EReal) * ∑ k, raw l w k := by
    rw [← mul_sum S hS.le]
    exact Finset.sum_congr rfl fun k _ => hk k
  unfold kprob prob
  rw [hsum, hk, Ideal.div, if_neg (mul_ne_zero hS0 h3), Ideal.div, if_neg h3, one_mul, EReal.mul_inv]
  have hc : (S : EReal) * (S : EReal)⁻¹ = 1 := by
    rw [← EReal.coe_inv, ← EReal.coe_mul, mul_inv_cancel₀ hS.ne', EReal.coe_one]
  calc (S : EReal) * raw l w j * ((S : EReal)⁻¹ * (∑ k, raw l w k)⁻¹)
      = ((S : EReal) * (S : EReal)⁻¹) * (raw l w j * (∑ k, raw l w k)⁻¹) := by ac_rfl
    _ = raw l w j * (∑ k, raw l w k)⁻¹ := by rw [hc, one_mul]

/-- The word of the first greatest entry of a row. -/
def IsFirst (z : Fin n → EReal) (b : BitVec 32) : Prop :=
  ∃ c : Fin n, b = BitVec.ofNat 32 c.val ∧ ∀ c' : Fin n, z c' < z c ∨ (z c' = z c ∧ c.val ≤ c'.val)

/-- There is one. -/
theorem IsFirst.unique {z : Fin n → EReal} {b b' : BitVec 32} (h : IsFirst z b) (h' : IsFirst z b') : b = b' := by
  obtain ⟨c, hb, hc⟩ := h
  obtain ⟨c', hb', hc'⟩ := h'
  have e : c = c' := Fin.ext (by
    rcases hc c' with h1 | ⟨h1, h2⟩ <;> rcases hc' c with h3 | ⟨h3, h4⟩
    · exact absurd h1 (lt_asymm h3)
    · exact absurd h1 (by rw [h3]; exact lt_irrefl _)
    · exact absurd h3 (by rw [h1]; exact lt_irrefl _)
    · omega)
  rw [hb, hb', e]

/-- Of two pairs of a value and a word the one with the greater value, on equal values the one with the smaller word. -/
def better (a b : EReal × BitVec 32) : EReal × BitVec 32 :=
  let v2 := Ideal.cmp .ogt a.1 b.1
  let v3 := Ideal.cmp .une a.1 a.1
  let v4 := IntOp.ori v2 v3
  let v5 := Ideal.cmp .oeq a.1 b.1
  let v6 := IntOp.cmpi .slt a.2 b.2
  let v7 := IntOp.andi v5 v6
  let v8 := IntOp.ori v4 v7
  (Scalar.select v4 a.1 b.1, Scalar.select v8 a.2 b.2)

theorem better_eq (a b : EReal × BitVec 32) : better a b = if b.1 < a.1 ∨ (a.1 = b.1 ∧ a.2.toInt < b.2.toInt) then a else b := by
  obtain ⟨x, i⟩ := a
  obtain ⟨y, j⟩ := b
  by_cases h1 : y < x
  · have h2 : x ≠ y := h1.ne'
    simp [better, Ideal.cmp, IntOp.ori, IntOp.andi, IntOp.cmpi, Scalar.select, h1, h2]
  · by_cases h2 : x = y
    · subst h2
      by_cases h3 : i.toInt < j.toInt
      · have h3' : i.slt j = true := BitVec.slt_iff_toInt_lt.mpr h3
        simp [better, Ideal.cmp, IntOp.ori, IntOp.andi, IntOp.cmpi, Scalar.select, h3, h3']
      · have h3' : i.slt j = false := by
          rw [Bool.eq_false_iff]; exact fun h => h3 (BitVec.slt_iff_toInt_lt.mp h)
        simp [better, Ideal.cmp, IntOp.ori, IntOp.andi, IntOp.cmpi, Scalar.select, h3, h3']
    · simp [better, Ideal.cmp, IntOp.ori, IntOp.andi, IntOp.cmpi, Scalar.select, h1, h2]

/-- The pair `p` is at least as good as the pair `q`. -/
def Beats (p q : EReal × BitVec 32) : Prop := q.1 < p.1 ∨ (q.1 = p.1 ∧ p.2.toInt ≤ q.2.toInt)

theorem Beats.trans {p q r : EReal × BitVec 32} (h : Beats p q) (h' : Beats q r) : Beats p r := by
  rcases h with h | ⟨h, g⟩ <;> rcases h' with h' | ⟨h', g'⟩
  · exact .inl (h'.trans h)
  · exact .inl (h' ▸ h)
  · exact .inl (h ▸ h')
  · exact .inr ⟨h'.trans h, g.trans g'⟩

theorem better_mem (a b : EReal × BitVec 32) : (better a b = a ∨ better a b = b) ∧ Beats (better a b) a ∧ Beats (better a b) b := by
  rw [better_eq]
  split_ifs with h
  · refine ⟨.inl rfl, .inr ⟨rfl, le_rfl⟩, ?_⟩
    rcases h with h | ⟨h, g⟩
    · exact .inl h
    · exact .inr ⟨h.symm, g.le⟩
  · refine ⟨.inr rfl, ?_, .inr ⟨rfl, le_rfl⟩⟩
    by_cases h1 : a.1 < b.1
    · exact .inl h1
    · have e : a.1 = b.1 := le_antisymm (not_lt.mp fun h2 => h (.inl h2)) (not_lt.mp h1)
      exact .inr ⟨e, not_lt.mp fun h2 => h (.inr ⟨e, h2⟩)⟩

/-- Folding keeps one of the pairs met, at least as good as each. -/
theorem foldl_better (L : List (EReal × BitVec 32)) : ∀ p : EReal × BitVec 32,
    (L.foldl better p = p ∨ L.foldl better p ∈ L) ∧ Beats (L.foldl better p) p ∧ ∀ q ∈ L, Beats (L.foldl better p) q := by
  induction L with
  | nil => exact fun p => ⟨.inl rfl, .inr ⟨rfl, le_rfl⟩, fun q hq => absurd hq List.not_mem_nil⟩
  | cons a L ih =>
    intro p
    obtain ⟨h1, h2, h3⟩ := ih (better p a)
    obtain ⟨g1, g2, g3⟩ := better_mem p a
    rw [List.foldl_cons]
    refine ⟨?_, h2.trans g2, fun q hq => ?_⟩
    · rcases h1 with h1 | h1
      · rw [h1]
        rcases g1 with g1 | g1
        · exact .inl g1
        · rw [g1]; exact .inr List.mem_cons_self
      · exact .inr (List.mem_cons_of_mem _ h1)
    · rcases List.mem_cons.mp hq with rfl | hq
      · exact h2.trans g3
      · exact h3 q hq

/-- The word of a small number, read signed, is the number. -/
theorem toInt_small {k : ℕ} (h : k < 2 ^ 31) : (BitVec.ofNat 32 k).toInt = (k : ℤ) := by
  rw [BitVec.toInt_eq_toNat_cond, BitVec.toNat_ofNat]
  have : k % 2 ^ 32 = k := Nat.mod_eq_of_lt (by omega)
  rw [this, if_pos (by omega)]

/-- Folding over the pairs of a row's entries and their places, from the least value and the first place, gives the first greatest entry. -/
theorem first_of_foldl (hn : 0 < n) (hN : n < 2 ^ 31) (z : Fin n → EReal) (L : List (EReal × BitVec 32))
    (hL : ∀ q, q ∈ L ↔ ∃ c : Fin n, q = (z c, BitVec.ofNat 32 c.val)) : IsFirst z (L.foldl better (⊥, 0#32)).2 := by
  obtain ⟨h1, -, h3⟩ := foldl_better L (⊥, 0#32)
  have hc' : ∀ c' : Fin n, Beats (L.foldl better (⊥, 0#32)) (z c', BitVec.ofNat 32 c'.val) := fun c' => h3 _ ((hL _).mpr ⟨c', rfl⟩)
  rcases h1 with h1 | h1
  · rw [h1] at hc' ⊢
    have hz : ∀ c', z c' = ⊥ := fun c' => by
      rcases hc' c' with h | ⟨h, -⟩
      · exact absurd h not_lt_bot
      · exact h
    exact ⟨⟨0, hn⟩, rfl, fun c' => .inr ⟨by rw [hz, hz], Nat.zero_le _⟩⟩
  · obtain ⟨c, hc⟩ := (hL _).mp h1
    rw [hc] at hc' ⊢
    refine ⟨c, rfl, fun c' => ?_⟩
    rcases hc' c' with h | ⟨h, g⟩
    · exact .inl h
    · refine .inr ⟨h, ?_⟩
      simp only at g
      rw [toInt_small (by omega), toInt_small (by omega)] at g
      exact_mod_cast g

/-- The least of the places of the greatest entries is the first greatest entry. -/
theorem first_of_min (hn : 0 < n) (z : Fin n → EReal) (S : Finset ℕ)
    (hS : ∀ k, k ∈ S ↔ ∃ c : Fin n, c.val = k ∧ ∀ c' : Fin n, z c' ≤ z c) : IsFirst z (BitVec.ofNat 32 (Option.getD S.min 0)) := by
  haveI : Nonempty (Fin n) := ⟨⟨0, hn⟩⟩
  obtain ⟨c0, h0⟩ := Finite.exists_max z
  obtain ⟨k, hk⟩ := Finset.min_of_mem ((hS c0.val).mpr ⟨c0, rfl, h0⟩)
  obtain ⟨c, hc, hmax⟩ := (hS k).mp (Finset.mem_of_min hk)
  have e : Option.getD S.min 0 = k := by rw [hk]; rfl
  rw [e]
  refine ⟨c, by rw [hc], fun c' => ?_⟩
  rcases lt_or_eq_of_le (hmax c') with h | h
  · exact .inl h
  · exact .inr ⟨h, by rw [hc]; exact Finset.min_le_of_eq ((hS _).mpr ⟨c', rfl, fun c'' => h ▸ hmax c''⟩) hk⟩

end Cert.Row

end
-- ==== Proof.KerRows.lean ====
/-
  What the kernel body stores, read over the extended reals: each row of the probabilities, of their logarithms and of the sample as the
  row functions of the logits' row, the mask's row and the noise's row.
-/
module

public import proofs.«01_k».proof.Proof.RowMath
public import proofs.«01_k».proof.Proof.Gen.KernelIdeal.Skeleton
public import Idealize.ShloMosaic.Lib.Pointwise
public import Idealize.ShloMosaic.Lib.Tactic

@[expose] public section

set_option maxRecDepth 16384

noncomputable section

namespace Cert.KerRows

open Cert.KernelIdeal Cert.KernelIdeal.Gen Cert.Row
open Idealize.ShloMosaic

theorem word_bot : Ideal.ofBits .f32 0xFF800000#32 = ⊥ := by simp [Ideal.ofBits, Ideal.ieee]

/-- A stored probability is the kernel's row probability. -/
theorem pay1_row (v6 : Vec Ideal S1x8x100000 .f32) (v8 : Vec Ideal S8x100000 .f32) (r : Fin 8) (c : Fin 100000) :
    k0_pay1 v6 v8 (ix2 r c) = kprob (fun k => v6 (ix3 0 r k)) (fun k => v8 (ix2 r k)) c := by
  pointwise [k0_pay1]
  rw [word_bot]
  rfl

/-- A stored logarithm is that of the row probability. -/
theorem pay2_row (v6 : Vec Ideal S1x8x100000 .f32) (v8 : Vec Ideal S8x100000 .f32) (r : Fin 8) (c : Fin 100000) :
    k0_pay2 v6 v8 (ix2 r c) = logp (kprob (fun k => v6 (ix3 0 r k)) (fun k => v8 (ix2 r k)) c) := by
  rw [← pay1_row v6 v8 r c]
  rfl

/-- The least place among a row's greatest entries is the first greatest entry. -/
theorem first_reduceIndex (x : S8x100000.Idx → EReal) (h : S8x100000.Reduces [1] S8) (j : S8.Idx) (r : Fin 8) (hr : r.val = (j 0).val) :
    IsFirst (fun c : Fin 100000 => x (ix2 r c)) (Ideal.reduceIndex .argMax 1 h x j) := by
  have hf : ∀ i : S8x100000.Idx, h.drop i = j ↔ ∃ k : Fin 100000, ix2 r k = i := fun i => by
    rw [Shape.Reduces.fiber_r2_a1 h j i]
    have e : (⟨(j ⟨0, h.lt_r2_a1_0⟩).val, Shape.coordLt (j ⟨0, h.lt_r2_a1_0⟩) h.size_r2_a1_0⟩ : Fin 8) = r := Fin.ext hr.symm
    rw [e]
  refine first_of_min (by decide) _ _ fun k => ?_
  simp only [Finset.mem_image, Finset.mem_filter, Finset.mem_univ, true_and, hf, if_true, not_lt]
  constructor
  · rintro ⟨i, ⟨⟨c, rfl⟩, hmax⟩, rfl⟩
    exact ⟨c, rfl, fun c' => hmax _ ⟨c', rfl⟩⟩
  · rintro ⟨c, rfl, hmax⟩
    refine ⟨ix2 r c, ⟨⟨c, rfl⟩, ?_⟩, rfl⟩
    rintro _ ⟨c', rfl⟩
    exact hmax c'

/-- A stored sample is the first greatest entry of the row's noise plus logarithms. -/
theorem pay3_row (v6 : Vec Ideal S1x8x100000 .f32) (v8 : Vec Ideal S8x100000 .f32) (v32 : Vec Ideal S1x8x100000 .f32) (r : Fin 8)
    (z : Fin 100000 → EReal)
    (hz : ∀ c, z c = v32 (ix3 0 r c) + logp (kprob (fun k => v6 (ix3 0 r k)) (fun k => v8 (ix2 r k)) c)) :
    IsFirst z (k0_pay3 v6 v8 v32 (ix2 r 0)) := by
  have hz' : z = fun c => (addf (shapeCast S8x100000 v32 shapeCasts_S1x8x100000_S8x100000 : FVec Ideal S8x100000 .f32) (k0_pay2 v6 v8)) (ix2 r c) := by
    funext c
    rw [hz, ← pay2_row v6 v8 r c]
    pointwise
  have e : k0_pay3 v6 v8 v32 (ix2 r 0) = Ideal.reduceIndex .argMax 1 reduces_S8x100000_S8 (addf (shapeCast S8x100000 v32 shapeCasts_S1x8x100000_S8x100000 : FVec Ideal S8x100000 .f32) (k0_pay2 v6 v8)) (ix1 r) := by
    unfold k0_pay3
    pointwise
    rfl
  rw [e, hz']
  exact first_reduceIndex _ _ (ix1 r) r rfl

theorem pay4_row (v6 : Vec Ideal S1x8x100000 .f32) (v8 : Vec Ideal S8x100000 .f32) (r : Fin 8) (c : Fin 100000) :
    k0_pay4 v6 v8 (ix2 r c) = kprob (fun k => v6 (ix3 0 r k)) (fun k => v8 (ix2 r k)) c := pay1_row v6 v8 r c

theorem pay5_row (v6 : Vec Ideal S1x8x100000 .f32) (v8 : Vec Ideal S8x100000 .f32) (r : Fin 8) (c : Fin 100000) :
    k0_pay5 v6 v8 (ix2 r c) = logp (kprob (fun k => v6 (ix3 0 r k)) (fun k => v8 (ix2 r k)) c) := pay2_row v6 v8 r c

theorem pay6_row (v6 : Vec Ideal S1x8x100000 .f32) (v8 : Vec Ideal S8x100000 .f32) (v32 : Vec Ideal S1x8x100000 .f32) (r : Fin 8)
    (z : Fin 100000 → EReal)
    (hz : ∀ c, z c = v32 (ix3 0 r c) + logp (kprob (fun k => v6 (ix3 0 r k)) (fun k => v8 (ix2 r k)) c)) :
    IsFirst z (k0_pay6 v6 v8 v32 (ix2 r 0)) := pay3_row v6 v8 v32 r z hz

end Cert.KerRows

end
-- ==== Proof.RowSpec.lean ====
/-
  The three results as functions of the two arguments: the rows of the logits, of the mask and of the noise.
-/
module

public import proofs.«01_k».proof.Proof.RowMath
public import proofs.«01_k».proof.Proof.Ssa
public import Idealize.ShloMosaic.Lib.Pointwise

@[expose] public section

noncomputable section

namespace Cert.Row

open Idealize.ShloMosaic

/-- The row of logits of branch `k` and batch row `r`. -/
def lrow (a : (⟨3, ![2, 128, 100000]⟩ : Shape).Idx → EReal) (k : Fin 2) (r : Fin 128) (c : Fin 100000) : EReal := a (ix3 k r c)
/-- The column of both branches' concatenation that holds the column `c` of branch `k`. -/
def col (k : Fin 2) (c : Fin 100000) : Fin 200000 := ⟨100000 * k.val + c.val, by omega⟩
/-- The row of the mask of branch `k` and batch row `r`. -/
def mrow (w : (⟨2, ![128, 200000]⟩ : Shape).Idx → EReal) (k : Fin 2) (r : Fin 128) (c : Fin 100000) : EReal := w (ix2 r (col k c))

/-- The word of a place of a row-major array of the noise. -/
def place (r : Fin 128) (c : Fin 100000) : BitVec 32 := BitVec.ofNat 32 (r.val * 100000 + c.val)
/-- The row of noise of branch `k` and batch row `r`. -/
def gum (k : Fin 2) (r : Fin 128) (c : Fin 100000) : EReal :=
  if k = 0 then Cert.Ssa.noise (F := Ideal) (Cert.Ssa.draw 1832780943#32 270669613#32 1724713080#32 (place r c))
  else Cert.Ssa.noise (F := Ideal) (Cert.Ssa.draw 64467757#32 2916123636#32 3050711811#32 (place r c))
/-- What the sample of branch `k` and batch row `r` is the first greatest entry of: the noise plus the logarithms. -/
def score (a : (⟨3, ![2, 128, 100000]⟩ : Shape).Idx → EReal) (w : (⟨2, ![128, 200000]⟩ : Shape).Idx → EReal) (k : Fin 2) (r : Fin 128)
    (c : Fin 100000) : EReal :=
  gum k r c + logp (prob (lrow a k r) (mrow w k r) c)

/-- The word of the value minus infinity. -/
theorem zero_bot : Ideal.ofBits .f32 0xFF800000#32 = ⊥ := by simp [Ideal.ofBits, Ideal.ieee]

end Cert.Row

end
-- ==== Proof.KerOut.lean ====
/-
  The result arrays of the kernel program over the extended reals, as functions of its arguments.
-/
module

public import proofs.«01_k».proof.Proof.IdealOut
public import proofs.«01_k».proof.Proof.KerRows
public import proofs.«01_k».proof.Proof.RowSpec
public import Idealize.ShloMosaic.Lib.Pointwise

@[expose] public section

set_option maxRecDepth 16384

noncomputable section

namespace Cert.Ker

open Cert.KernelIdeal Cert.KernelIdeal.Gen Idealize.ShloMosaic Idealize.ShloMosaic.TcCoe Idealize.ShloMosaic.StableHlo Cert.Ssa Cert.Row

/-- The place of a row and a column in the flat array. -/
def flat (r : Fin 128) (c : Fin 100000) : S12800000.Idx := ix1 ⟨r.val * 100000 + c.val, by omega⟩

theorem reshape_flat (h : S12800000.ShapeCasts S128x100000) (v : S12800000.Idx → EReal) (r : Fin 128) (c : Fin 100000) :
    shapeCast S128x100000 v h (ix2 r c) = v (flat r c) := by
  rw [Pointwise.shapeCast_apply]
  refine congrArg v (Shape.reshapeEquiv_eq_of_vals _ _ _ (r.val * 100000 + c.val) (r.val * 100000 + c.val) ?_ ?_ rfl)
  · exact rowMajor_val1 _
  · exact rowMajor_val2 _ 100000 rfl

/-- The word of the place. -/
theorem place_flat (r : Fin 128) (c : Fin 100000) : iotaInDim S12800000 32 0 (flat r c) = place r c := rfl

/-- An array as a slab, -/
theorem slab (h) (v : S128x100000.Idx → EReal) (r : Fin 128) (c : Fin 100000) :
    broadcastInDim S1x128x100000 ![1, 2] h v (ix3 0 r c) = v (ix2 r c) := by
  pointwise

/-- and two slabs, one after the other. -/
theorem stack0 (h : Shape.Concatenates [S1x128x100000, S1x128x100000] S2x128x100000 0) (v w : S1x128x100000.Idx → EReal) (r : Fin 128) (c : Fin 100000) :
    concatenate S2x128x100000 0 [⟨S1x128x100000, v⟩, ⟨S1x128x100000, w⟩] h (ix3 0 r c) = v (ix3 0 r c) := by
  pointwise
theorem stack1 (h : Shape.Concatenates [S1x128x100000, S1x128x100000] S2x128x100000 0) (v w : S1x128x100000.Idx → EReal) (r : Fin 128) (c : Fin 100000) :
    concatenate S2x128x100000 0 [⟨S1x128x100000, v⟩, ⟨S1x128x100000, w⟩] h (ix3 1 r c) = w (ix3 0 r c) := by
  pointwise

/-- The noise operand of the kernel, read at an index. -/
theorem noise_operand {W : Valuation τ sig (Elt Ideal)} (E : Eqs W 2 hostOps0) (k : Fin 2) (r : Fin 128) (c : Fin 100000) :
    (W (Proc.devRef .tc main_v370) : FVec Ideal S2x128x100000 .f32) (ix3 k r c) = gum k r c := by
  have e1 : (W (Proc.devRef .tc main_v370) : FVec Ideal S2x128x100000 .f32) = concatenate S2x128x100000 0
      [⟨S1x128x100000, (W (Proc.devRef .tc main_v368) : FVec Ideal S1x128x100000 .f32)⟩, ⟨S1x128x100000, (W (Proc.devRef .tc main_v369) : FVec Ideal S1x128x100000 .f32)⟩]
      concatenates_S1x128x100000_S1x128x100000_S2x128x100000_d0 := E.bin 487 rfl (by decide) (by decide)
  have e2 : (W (Proc.devRef .tc main_v368) : FVec Ideal S1x128x100000 .f32) = broadcastInDim S1x128x100000 ![1, 2] bcast_S128x100000_S1x128x100000_1_2
      (W (Proc.devRef .tc main_v184) : FVec Ideal S128x100000 .f32) := E.un 485 rfl (by decide)
  have e3 : (W (Proc.devRef .tc main_v369) : FVec Ideal S1x128x100000 .f32) = broadcastInDim S1x128x100000 ![1, 2] bcast_S128x100000_S1x128x100000_1_2
      (W (Proc.devRef .tc main_v367) : FVec Ideal S128x100000 .f32) := E.un 486 rfl (by decide)
  have e4 : (W (Proc.devRef .tc main_v184) : FVec Ideal S128x100000 .f32) = shapeCast S128x100000 (W (Proc.devRef .tc main_v183) : FVec Ideal S12800000 .f32)
      shapeCasts_S12800000_S128x100000 := E.resh 243 rfl (by decide)
  have e5 : (W (Proc.devRef .tc main_v367) : FVec Ideal S128x100000 .f32) = shapeCast S128x100000 (W (Proc.devRef .tc main_v366) : FVec Ideal S12800000 .f32)
      shapeCasts_S12800000_S128x100000 := E.resh 484 rfl (by decide)
  rw [e1]
  obtain rfl | rfl : k = 0 ∨ k = 1 := by omega
  · rw [stack0, e2, slab, e4, reshape_flat, flat_noise0 E, gum, if_pos rfl, place_flat]
  · rw [stack1, e3, slab, e5, reshape_flat, flat_noise1 E, gum, if_neg (by decide), place_flat]

end Cert.Ker

namespace Cert.IdealRun

open Cert.KernelIdeal Cert.KernelIdeal.Gen Cert.KerRows Cert.Row
open Idealize.ShloMosaic Idealize.ShloMosaic.TcCoe Idealize.ShloMosaic.Tactic
open Idealize.ShloMosaic.Rounds Idealize.ShloMosaic.StableHlo Cert.Ssa
open Idealize.ShloMosaic.Pipeline (Dat Cfg Window BodyObligation cellOf)

variable (m : (ℓ : Loc nD τ sig) → Buf (Elt Ideal) ℓ)

/-- Along the branches and the rows the inputs' blocks are numbered by the parity and the half of the point. -/
theorem index0 : ∀ t : Fin grid0.N, win0_0.index t 0 = t.val % 2 ∧ win0_0.index t 1 = t.val / 2 := by decide +kernel
theorem index1 : ∀ t : Fin grid0.N, win0_1.index t 0 = t.val % 2 ∧ win0_1.index t 1 = t.val / 2 := by decide +kernel
theorem index2 : ∀ t : Fin grid0.N, win0_2.index t 0 = t.val / 2 := by decide +kernel

/-- A block of the first operand, read at an index; -/
theorem read0 (A : S2x128x100000.Idx → EReal) (t : Fin cfg0.N) (k : Fin 2) (R : Fin 128) (r : Fin 8) (c : Fin 100000)
    (hk : k.val = t.val % 2) (hR : R.val = 8 * (t.val / 2) + r.val) :
    ((cfg0.win 0).blk t).view.read (Elt Ideal) A (ix3 0 r c) = A (ix3 k R c) := by
  refine congrArg A (funext fun a => Fin.ext ?_)
  obtain ⟨h0, h1⟩ := index0 t
  fin_cases a
  · show ((((cfg0.win 0).blk t).view.emb (ix3 0 r c)) 0 : ℕ) = k.val
    blk_simp; rw [h0, hk]; simp
  · show ((((cfg0.win 0).blk t).view.emb (ix3 0 r c)) 1 : ℕ) = R.val
    blk_simp; rw [h1]; omega
  · show ((((cfg0.win 0).blk t).view.emb (ix3 0 r c)) 2 : ℕ) = c.val
    blk_simp; try (show 0 * _ + _ = _; simp)

/-- of the second; -/
theorem read1 (A : S2x128x100000.Idx → EReal) (t : Fin cfg0.N) (k : Fin 2) (R : Fin 128) (r : Fin 8) (c : Fin 100000)
    (hk : k.val = t.val % 2) (hR : R.val = 8 * (t.val / 2) + r.val) :
    ((cfg0.win 1).blk t).view.read (Elt Ideal) A (ix3 0 r c) = A (ix3 k R c) := by
  refine congrArg A (funext fun a => Fin.ext ?_)
  obtain ⟨h0, h1⟩ := index1 t
  fin_cases a
  · show ((((cfg0.win 1).blk t).view.emb (ix3 0 r c)) 0 : ℕ) = k.val
    blk_simp; rw [h0, hk]; simp
  · show ((((cfg0.win 1).blk t).view.emb (ix3 0 r c)) 1 : ℕ) = R.val
    blk_simp; rw [h1]; omega
  · show ((((cfg0.win 1).blk t).view.emb (ix3 0 r c)) 2 : ℕ) = c.val
    blk_simp; try (show 0 * _ + _ = _; simp)

/-- and of the third. -/
theorem read2 (A : S128x200000.Idx → EReal) (t : Fin cfg0.N) (R : Fin 128) (x : S8x200000.Idx) (c : Fin 200000)
    (hR : R.val = 8 * (t.val / 2) + (x 0).val) (hc : c.val = (x 1).val) :
    ((cfg0.win 2).blk t).view.read (Elt Ideal) A x = A (ix2 R c) := by
  refine congrArg A (funext fun a => Fin.ext ?_)
  have h0 := index2 t
  fin_cases a
  · show ((((cfg0.win 2).blk t).view.emb x) 0 : ℕ) = R.val
    blk_simp; rw [h0]; simp; omega
  · show ((((cfg0.win 2).blk t).view.emb x) 1 : ℕ) = c.val
    blk_simp; try (show 0 * _ + _ = _; simp; omega)

/-- The half of a block of the masks that a branch takes is the row of the masks. -/
theorem take0_read (A : S128x200000.Idx → EReal) (t : Fin cfg0.N) (R : Fin 128) (r : Fin 8) (c : Fin 100000)
    (hR : R.val = 8 * (t.val / 2) + r.val) :
    take0 (F := Ideal) (((cfg0.win 2).blk t).view.read (Elt Ideal) A) (ix2 r c) = mrow A 0 R c :=
  read2 A t R (rc0.emb (ix2 r c)) (col 0 c) (by rw [hR]; show _ = _ + (0 + 1 * r.val); omega)
    (by show 100000 * 0 + c.val = 0 + 1 * c.val; omega)
theorem take1_read (A : S128x200000.Idx → EReal) (t : Fin cfg0.N) (R : Fin 128) (r : Fin 8) (c : Fin 100000)
    (hR : R.val = 8 * (t.val / 2) + r.val) :
    take1 (F := Ideal) (((cfg0.win 2).blk t).view.read (Elt Ideal) A) (ix2 r c) = mrow A 1 R c :=
  read2 A t R (rc1.emb (ix2 r c)) (col 1 c) (by rw [hR]; show _ = _ + (0 + 1 * r.val); omega)
    (by show 100000 * 1 + c.val = 100000 + 1 * c.val; omega)

/-- The logits of a core, -/
abbrev logits (c : Dev nD) : S2x128x100000.Idx → EReal := m ((c.tc : Thread nD τ).loc main_arg0)
/-- and its masks. -/
abbrev masks (c : Dev nD) : S128x200000.Idx → EReal := m ((c.tc : Thread nD τ).loc main_arg1)

/-- The block of the logits at a point holds rows of the logits; -/
theorem block0 (d : Dev nD) (t : Fin cfg0.N) (k : Fin 2) (R : Fin 128) (r : Fin 8)
    (hk : k.val = t.val % 2) (hR : R.val = 8 * (t.val / 2) + r.val) :
    (fun c => (iblk m d 0 t : S1x8x100000.Idx → EReal) (ix3 0 r c)) = lrow (logits m d) k R :=
  funext fun c => (read0 (V m d main_arg0) t k R r c hk hR).trans (congrFun (V_main_arg0 m d) _)

/-- that of the noise rows of the noise; -/
theorem block1 (d : Dev nD) (t : Fin cfg0.N) (k : Fin 2) (R : Fin 128) (r : Fin 8) (c : Fin 100000)
    (hk : k.val = t.val % 2) (hR : R.val = 8 * (t.val / 2) + r.val) :
    (iblk m d 1 t : S1x8x100000.Idx → EReal) (ix3 0 r c) = gum k R c :=
  (read1 (V m d main_v370) t k R r c hk hR).trans (Cert.Ker.noise_operand (eqs_of_chain Cert.Ker.prefix_chain _) k R c)

/-- and the halves of that of the masks rows of the masks. -/
theorem block2_0 (d : Dev nD) (t : Fin cfg0.N) (R : Fin 128) (r : Fin 8) (hR : R.val = 8 * (t.val / 2) + r.val) :
    (fun c => take0 (F := Ideal) (iblk m d 2 t) (ix2 r c)) = mrow (masks m d) 0 R :=
  funext fun c => (take0_read (V m d main_arg1) t R r c hR).trans (congrFun (congrArg (fun A => mrow A 0 R) (V_main_arg1 m d)) c)
theorem block2_1 (d : Dev nD) (t : Fin cfg0.N) (R : Fin 128) (r : Fin 8) (hR : R.val = 8 * (t.val / 2) + r.val) :
    (fun c => take1 (F := Ideal) (iblk m d 2 t) (ix2 r c)) = mrow (masks m d) 1 R :=
  funext fun c => (take1_read (V m d main_arg1) t R r c hR).trans (congrFun (congrArg (fun A => mrow A 1 R) (V_main_arg1 m d)) c)

/-- The last point of the block of a row, -/
def last (R : Fin 128) : Fin cfg0.N := ⟨2 * (R.val / 8) + 1, by have h : cfg0.N = 32 := N_0; omega⟩
theorem last_odd (R : Fin 128) : (last R).val % 2 = 1 := by show (2 * (R.val / 8) + 1) % 2 = 1; omega
/-- and the place of the row in the block. -/
def inner (R : Fin 128) : Fin 8 := ⟨R.val % 8, by omega⟩
theorem last_inner (R : Fin 128) : R.val = 8 * ((last R).val / 2) + (inner R).val := by
  show R.val = 8 * ((2 * (R.val / 8) + 1) / 2) + R.val % 8; omega
theorem first_inner (R : Fin 128) : R.val = 8 * ((first (last R)).val / 2) + (inner R).val := by
  show R.val = 8 * ((2 * (R.val / 8) + 1 - (2 * (R.val / 8) + 1) % 2) / 2) + R.val % 8; omega
theorem first_parity (R : Fin 128) : (0 : Fin 2).val = (first (last R)).val % 2 := by
  show 0 = (2 * (R.val / 8) + 1 - (2 * (R.val / 8) + 1) % 2) % 2; omega

/-- The probabilities of the kernel program. -/
theorem value1 (d : Dev nD) {A : S128x200000.Idx → EReal} (h : ∀ i, Final4 m d i (A i)) (k : Fin 2) (R : Fin 128) (c : Fin 100000) :
    A (ix2 R (col k c)) = kprob (lrow (logits m d) k R) (mrow (masks m d) k R) c := by
  have h' := h (ix2 R (col k c)) (last R) (last_odd R) (ix2 (inner R) c) (last_inner R)
  obtain rfl | rfl : k = 0 ∨ k = 1 := by omega
  · rw [h'.1 (by show 100000 * 0 + c.val = c.val; omega), pay1_row, block0 m d _ 0 R _ (first_parity R) (first_inner R), block2_0 m d _ R _ (first_inner R)]
  · rw [h'.2 (by show 100000 * 1 + c.val = 100000 + c.val; omega), pay4_row, block0 m d _ 1 R _ (last_odd R).symm (last_inner R), block2_1 m d _ R _ (last_inner R)]

/-- The logarithms of the kernel program. -/
theorem value2 (d : Dev nD) {A : S128x200000.Idx → EReal} (h : ∀ i, Final5 m d i (A i)) (k : Fin 2) (R : Fin 128) (c : Fin 100000) :
    A (ix2 R (col k c)) = logp (kprob (lrow (logits m d) k R) (mrow (masks m d) k R) c) := by
  have h' := h (ix2 R (col k c)) (last R) (last_odd R) (ix2 (inner R) c) (last_inner R)
  obtain rfl | rfl : k = 0 ∨ k = 1 := by omega
  · rw [h'.1 (by show 100000 * 0 + c.val = c.val; omega), pay2_row, block0 m d _ 0 R _ (first_parity R) (first_inner R), block2_0 m d _ R _ (first_inner R)]
  · rw [h'.2 (by show 100000 * 1 + c.val = 100000 + c.val; omega), pay5_row, block0 m d _ 1 R _ (last_odd R).symm (last_inner R), block2_1 m d _ R _ (last_inner R)]

/-- The samples of the kernel program. -/
theorem value0 (d : Dev nD) {A : S128x2.Idx → BitVec 32} (h : ∀ i, Final3 m d i (A i)) (k : Fin 2) (R : Fin 128) :
    IsFirst (fun c => gum k R c + logp (kprob (lrow (logits m d) k R) (mrow (masks m d) k R) c)) (A (ix2 R k)) := by
  have h' := h (ix2 R k) (last R) (last_odd R) (ix2 (inner R) 0) (last_inner R)
  obtain rfl | rfl : k = 0 ∨ k = 1 := by omega
  · rw [h'.1 rfl]
    refine pay3_row _ _ _ _ _ fun c => ?_
    rw [block0 m d _ 0 R _ (first_parity R) (first_inner R), block2_0 m d _ R _ (first_inner R), block1 m d _ 0 R _ c (first_parity R) (first_inner R)]
  · rw [h'.2 rfl]
    refine pay6_row _ _ _ _ _ fun c => ?_
    rw [block0 m d _ 1 R _ (last_odd R).symm (last_inner R), block2_1 m d _ R _ (last_inner R), block1 m d _ 1 R _ c (last_odd R).symm (last_inner R)]

end Cert.IdealRun

end
-- ==== Proof.RefRun.lean ====
/-
  The reference program as one straight line of host operations, the run of it, and the equation of each operation at
  the contents after the run.
-/
module

public import proofs.«01_k».proof.Proof.Gen.ReferenceIdeal
public import proofs.«01_k».proof.Proof.Ssa
public import Idealize.ShloMosaic.Lib.StableHlo.Run
public import Idealize.ShloMosaic.Lib.Pipeline.Frame

@[expose] public section

set_option maxRecDepth 16384

noncomputable section

namespace Cert.Ref

open Cert.ReferenceIdeal Cert.ReferenceIdeal.Gen Idealize.ShloMosaic Idealize.ShloMosaic.TcCoe Idealize.SL.Sem
  Idealize.ShloMosaic.StableHlo Cert.Ssa

variable {F : FTy → Type} [FloatOps F]

/-- The contents of a buffer of shape S128 and element type f32. -/
abbrev T128f (F : FTy → Type) := (⟨S128, .f32⟩ : BufTy).Contents (Elt F)

/-- The contents of a buffer of shape S128 and element type i32. -/
abbrev T128i (F : FTy → Type) := (⟨S128, .i32⟩ : BufTy).Contents (Elt F)

/-- The contents of a buffer of shape S128x1 and element type f32. -/
abbrev T128x1f (F : FTy → Type) := (⟨S128x1, .f32⟩ : BufTy).Contents (Elt F)

/-- The contents of a buffer of shape S128x1 and element type i32. -/
abbrev T128x1i (F : FTy → Type) := (⟨S128x1, .i32⟩ : BufTy).Contents (Elt F)

/-- The contents of a buffer of shape S128x100000 and element type f32. -/
abbrev T128x100000f (F : FTy → Type) := (⟨S128x100000, .f32⟩ : BufTy).Contents (Elt F)

/-- The contents of a buffer of shape S128x100000 and element type i32. -/
abbrev T128x100000i (F : FTy → Type) := (⟨S128x100000, .i32⟩ : BufTy).Contents (Elt F)

/-- The contents of a buffer of shape S128x2 and element type i32. -/
abbrev T128x2i (F : FTy → Type) := (⟨S128x2, .i32⟩ : BufTy).Contents (Elt F)

/-- The contents of a buffer of shape S128x200000 and element type f32. -/
abbrev T128x200000f (F : FTy → Type) := (⟨S128x200000, .f32⟩ : BufTy).Contents (Elt F)

/-- The contents of a buffer of shape S1x128x100000 and element type f32. -/
abbrev T1x128x100000f (F : FTy → Type) := (⟨S1x128x100000, .f32⟩ : BufTy).Contents (Elt F)

/-- The contents of a buffer of shape S2x128x100000 and element type f32. -/
abbrev T2x128x100000f (F : FTy → Type) := (⟨S2x128x100000, .f32⟩ : BufTy).Contents (Elt F)

/-- The contents of a buffer of shape S_ and element type f32. -/
abbrev T0f (F : FTy → Type) := (⟨S_, .f32⟩ : BufTy).Contents (Elt F)

/-- The contents of a buffer of shape S_ and element type i32. -/
abbrev T0i (F : FTy → Type) := (⟨S_, .i32⟩ : BufTy).Contents (Elt F)

/-- The operations 1 to 60 of the program. -/
abbrev ops0 : List (HloOp τ sig (Elt F)) :=
  [ nullary main_c (constantI S_ 32 1832780943#32),
    unary main_c main_v0 (broadcastInDim S128x100000 ![] bcast_S_S128x100000 : T0i F → T128x100000i F),
    nullary main_v1 (iotaInDim S128x100000 32 0),
    nullary main_c_0 (constantI S_ 32 100000#32),
    unary main_c_0 main_v2 (broadcastInDim S128x100000 ![] bcast_S_S128x100000 : T0i F → T128x100000i F),
    binary main_v1 main_v2 main_v3 (muli : T128x100000i F → T128x100000i F → T128x100000i F),
    nullary main_v4 (iotaInDim S128x100000 32 1),
    binary main_v3 main_v4 main_v5 (addi : T128x100000i F → T128x100000i F → T128x100000i F),
    nullary main_c_1 (constantI S_ 32 270669613#32),
    unary main_c_1 main_v6 (broadcastInDim S128x100000 ![] bcast_S_S128x100000 : T0i F → T128x100000i F),
    binary main_v5 main_v6 main_v7 (addi : T128x100000i F → T128x100000i F → T128x100000i F),
    binary main_v0 main_v7 main_v8 (addi : T128x100000i F → T128x100000i F → T128x100000i F),
    nullary main_c_2 (constantI S_ 32 13#32),
    unary main_c_2 main_v9 (broadcastInDim S128x100000 ![] bcast_S_S128x100000 : T0i F → T128x100000i F),
    binary main_v7 main_v9 main_v10 (Host.shli : T128x100000i F → T128x100000i F → T128x100000i F),
    nullary main_c_3 (constantI S_ 32 19#32),
    unary main_c_3 main_v11 (broadcastInDim S128x100000 ![] bcast_S_S128x100000 : T0i F → T128x100000i F),
    binary main_v7 main_v11 main_v12 (Host.shrui : T128x100000i F → T128x100000i F → T128x100000i F),
    binary main_v10 main_v12 main_v13 (ori : T128x100000i F → T128x100000i F → T128x100000i F),
    binary main_v8 main_v13 main_v14 (xori : T128x100000i F → T128x100000i F → T128x100000i F),
    binary main_v8 main_v14 main_v15 (addi : T128x100000i F → T128x100000i F → T128x100000i F),
    nullary main_c_4 (constantI S_ 32 15#32),
    unary main_c_4 main_v16 (broadcastInDim S128x100000 ![] bcast_S_S128x100000 : T0i F → T128x100000i F),
    binary main_v14 main_v16 main_v17 (Host.shli : T128x100000i F → T128x100000i F → T128x100000i F),
    nullary main_c_5 (constantI S_ 32 17#32),
    unary main_c_5 main_v18 (broadcastInDim S128x100000 ![] bcast_S_S128x100000 : T0i F → T128x100000i F),
    binary main_v14 main_v18 main_v19 (Host.shrui : T128x100000i F → T128x100000i F → T128x100000i F),
    binary main_v17 main_v19 main_v20 (ori : T128x100000i F → T128x100000i F → T128x100000i F),
    binary main_v15 main_v20 main_v21 (xori : T128x100000i F → T128x100000i F → T128x100000i F),
    binary main_v15 main_v21 main_v22 (addi : T128x100000i F → T128x100000i F → T128x100000i F),
    nullary main_c_6 (constantI S_ 32 26#32),
    unary main_c_6 main_v23 (broadcastInDim S128x100000 ![] bcast_S_S128x100000 : T0i F → T128x100000i F),
    binary main_v21 main_v23 main_v24 (Host.shli : T128x100000i F → T128x100000i F → T128x100000i F),
    nullary main_c_7 (constantI S_ 32 6#32),
    unary main_c_7 main_v25 (broadcastInDim S128x100000 ![] bcast_S_S128x100000 : T0i F → T128x100000i F),
    binary main_v21 main_v25 main_v26 (Host.shrui : T128x100000i F → T128x100000i F → T128x100000i F),
    binary main_v24 main_v26 main_v27 (ori : T128x100000i F → T128x100000i F → T128x100000i F),
    binary main_v22 main_v27 main_v28 (xori : T128x100000i F → T128x100000i F → T128x100000i F),
    binary main_v22 main_v28 main_v29 (addi : T128x100000i F → T128x100000i F → T128x100000i F),
    nullary main_c_8 (constantI S_ 32 6#32),
    unary main_c_8 main_v30 (broadcastInDim S128x100000 ![] bcast_S_S128x100000 : T0i F → T128x100000i F),
    binary main_v28 main_v30 main_v31 (Host.shli : T128x100000i F → T128x100000i F → T128x100000i F),
    nullary main_c_9 (constantI S_ 32 26#32),
    unary main_c_9 main_v32 (broadcastInDim S128x100000 ![] bcast_S_S128x100000 : T0i F → T128x100000i F),
    binary main_v28 main_v32 main_v33 (Host.shrui : T128x100000i F → T128x100000i F → T128x100000i F),
    binary main_v31 main_v33 main_v34 (ori : T128x100000i F → T128x100000i F → T128x100000i F),
    binary main_v29 main_v34 main_v35 (xori : T128x100000i F → T128x100000i F → T128x100000i F),
    nullary main_c_10 (constantI S_ 32 270669613#32),
    unary main_c_10 main_v36 (broadcastInDim S128x100000 ![] bcast_S_S128x100000 : T0i F → T128x100000i F),
    binary main_v29 main_v36 main_v37 (addi : T128x100000i F → T128x100000i F → T128x100000i F),
    nullary main_c_11 (constantI S_ 32 1724713080#32),
    unary main_c_11 main_v38 (broadcastInDim S128x100000 ![] bcast_S_S128x100000 : T0i F → T128x100000i F),
    binary main_v35 main_v38 main_v39 (addi : T128x100000i F → T128x100000i F → T128x100000i F),
    nullary main_c_12 (constantI S_ 32 1#32),
    unary main_c_12 main_v40 (broadcastInDim S128x100000 ![] bcast_S_S128x100000 : T0i F → T128x100000i F),
    binary main_v39 main_v40 main_v41 (addi : T128x100000i F → T128x100000i F → T128x100000i F),
    binary main_v37 main_v41 main_v42 (addi : T128x100000i F → T128x100000i F → T128x100000i F),
    nullary main_c_13 (constantI S_ 32 17#32),
    unary main_c_13 main_v43 (broadcastInDim S128x100000 ![] bcast_S_S128x100000 : T0i F → T128x100000i F),
    binary main_v41 main_v43 main_v44 (Host.shli : T128x100000i F → T128x100000i F → T128x100000i F)]

/-- The operations 61 to 120 of the program. -/
abbrev ops1 : List (HloOp τ sig (Elt F)) :=
  [ nullary main_c_14 (constantI S_ 32 15#32),
    unary main_c_14 main_v45 (broadcastInDim S128x100000 ![] bcast_S_S128x100000 : T0i F → T128x100000i F),
    binary main_v41 main_v45 main_v46 (Host.shrui : T128x100000i F → T128x100000i F → T128x100000i F),
    binary main_v44 main_v46 main_v47 (ori : T128x100000i F → T128x100000i F → T128x100000i F),
    binary main_v42 main_v47 main_v48 (xori : T128x100000i F → T128x100000i F → T128x100000i F),
    binary main_v42 main_v48 main_v49 (addi : T128x100000i F → T128x100000i F → T128x100000i F),
    nullary main_c_15 (constantI S_ 32 29#32),
    unary main_c_15 main_v50 (broadcastInDim S128x100000 ![] bcast_S_S128x100000 : T0i F → T128x100000i F),
    binary main_v48 main_v50 main_v51 (Host.shli : T128x100000i F → T128x100000i F → T128x100000i F),
    nullary main_c_16 (constantI S_ 32 3#32),
    unary main_c_16 main_v52 (broadcastInDim S128x100000 ![] bcast_S_S128x100000 : T0i F → T128x100000i F),
    binary main_v48 main_v52 main_v53 (Host.shrui : T128x100000i F → T128x100000i F → T128x100000i F),
    binary main_v51 main_v53 main_v54 (ori : T128x100000i F → T128x100000i F → T128x100000i F),
    binary main_v49 main_v54 main_v55 (xori : T128x100000i F → T128x100000i F → T128x100000i F),
    binary main_v49 main_v55 main_v56 (addi : T128x100000i F → T128x100000i F → T128x100000i F),
    nullary main_c_17 (constantI S_ 32 16#32),
    unary main_c_17 main_v57 (broadcastInDim S128x100000 ![] bcast_S_S128x100000 : T0i F → T128x100000i F),
    binary main_v55 main_v57 main_v58 (Host.shli : T128x100000i F → T128x100000i F → T128x100000i F),
    nullary main_c_18 (constantI S_ 32 16#32),
    unary main_c_18 main_v59 (broadcastInDim S128x100000 ![] bcast_S_S128x100000 : T0i F → T128x100000i F),
    binary main_v55 main_v59 main_v60 (Host.shrui : T128x100000i F → T128x100000i F → T128x100000i F),
    binary main_v58 main_v60 main_v61 (ori : T128x100000i F → T128x100000i F → T128x100000i F),
    binary main_v56 main_v61 main_v62 (xori : T128x100000i F → T128x100000i F → T128x100000i F),
    binary main_v56 main_v62 main_v63 (addi : T128x100000i F → T128x100000i F → T128x100000i F),
    nullary main_c_19 (constantI S_ 32 24#32),
    unary main_c_19 main_v64 (broadcastInDim S128x100000 ![] bcast_S_S128x100000 : T0i F → T128x100000i F),
    binary main_v62 main_v64 main_v65 (Host.shli : T128x100000i F → T128x100000i F → T128x100000i F),
    nullary main_c_20 (constantI S_ 32 8#32),
    unary main_c_20 main_v66 (broadcastInDim S128x100000 ![] bcast_S_S128x100000 : T0i F → T128x100000i F),
    binary main_v62 main_v66 main_v67 (Host.shrui : T128x100000i F → T128x100000i F → T128x100000i F),
    binary main_v65 main_v67 main_v68 (ori : T128x100000i F → T128x100000i F → T128x100000i F),
    binary main_v63 main_v68 main_v69 (xori : T128x100000i F → T128x100000i F → T128x100000i F),
    nullary main_c_21 (constantI S_ 32 1724713080#32),
    unary main_c_21 main_v70 (broadcastInDim S128x100000 ![] bcast_S_S128x100000 : T0i F → T128x100000i F),
    binary main_v63 main_v70 main_v71 (addi : T128x100000i F → T128x100000i F → T128x100000i F),
    nullary main_c_22 (constantI S_ 32 1832780943#32),
    unary main_c_22 main_v72 (broadcastInDim S128x100000 ![] bcast_S_S128x100000 : T0i F → T128x100000i F),
    binary main_v69 main_v72 main_v73 (addi : T128x100000i F → T128x100000i F → T128x100000i F),
    nullary main_c_23 (constantI S_ 32 2#32),
    unary main_c_23 main_v74 (broadcastInDim S128x100000 ![] bcast_S_S128x100000 : T0i F → T128x100000i F),
    binary main_v73 main_v74 main_v75 (addi : T128x100000i F → T128x100000i F → T128x100000i F),
    binary main_v71 main_v75 main_v76 (addi : T128x100000i F → T128x100000i F → T128x100000i F),
    nullary main_c_24 (constantI S_ 32 13#32),
    unary main_c_24 main_v77 (broadcastInDim S128x100000 ![] bcast_S_S128x100000 : T0i F → T128x100000i F),
    binary main_v75 main_v77 main_v78 (Host.shli : T128x100000i F → T128x100000i F → T128x100000i F),
    nullary main_c_25 (constantI S_ 32 19#32),
    unary main_c_25 main_v79 (broadcastInDim S128x100000 ![] bcast_S_S128x100000 : T0i F → T128x100000i F),
    binary main_v75 main_v79 main_v80 (Host.shrui : T128x100000i F → T128x100000i F → T128x100000i F),
    binary main_v78 main_v80 main_v81 (ori : T128x100000i F → T128x100000i F → T128x100000i F),
    binary main_v76 main_v81 main_v82 (xori : T128x100000i F → T128x100000i F → T128x100000i F),
    binary main_v76 main_v82 main_v83 (addi : T128x100000i F → T128x100000i F → T128x100000i F),
    nullary main_c_26 (constantI S_ 32 15#32),
    unary main_c_26 main_v84 (broadcastInDim S128x100000 ![] bcast_S_S128x100000 : T0i F → T128x100000i F),
    binary main_v82 main_v84 main_v85 (Host.shli : T128x100000i F → T128x100000i F → T128x100000i F),
    nullary main_c_27 (constantI S_ 32 17#32),
    unary main_c_27 main_v86 (broadcastInDim S128x100000 ![] bcast_S_S128x100000 : T0i F → T128x100000i F),
    binary main_v82 main_v86 main_v87 (Host.shrui : T128x100000i F → T128x100000i F → T128x100000i F),
    binary main_v85 main_v87 main_v88 (ori : T128x100000i F → T128x100000i F → T128x100000i F),
    binary main_v83 main_v88 main_v89 (xori : T128x100000i F → T128x100000i F → T128x100000i F),
    binary main_v83 main_v89 main_v90 (addi : T128x100000i F → T128x100000i F → T128x100000i F)]

/-- The operations 121 to 180 of the program. -/
abbrev ops2 : List (HloOp τ sig (Elt F)) :=
  [ nullary main_c_28 (constantI S_ 32 26#32),
    unary main_c_28 main_v91 (broadcastInDim S128x100000 ![] bcast_S_S128x100000 : T0i F → T128x100000i F),
    binary main_v89 main_v91 main_v92 (Host.shli : T128x100000i F → T128x100000i F → T128x100000i F),
    nullary main_c_29 (constantI S_ 32 6#32),
    unary main_c_29 main_v93 (broadcastInDim S128x100000 ![] bcast_S_S128x100000 : T0i F → T128x100000i F),
    binary main_v89 main_v93 main_v94 (Host.shrui : T128x100000i F → T128x100000i F → T128x100000i F),
    binary main_v92 main_v94 main_v95 (ori : T128x100000i F → T128x100000i F → T128x100000i F),
    binary main_v90 main_v95 main_v96 (xori : T128x100000i F → T128x100000i F → T128x100000i F),
    binary main_v90 main_v96 main_v97 (addi : T128x100000i F → T128x100000i F → T128x100000i F),
    nullary main_c_30 (constantI S_ 32 6#32),
    unary main_c_30 main_v98 (broadcastInDim S128x100000 ![] bcast_S_S128x100000 : T0i F → T128x100000i F),
    binary main_v96 main_v98 main_v99 (Host.shli : T128x100000i F → T128x100000i F → T128x100000i F),
    nullary main_c_31 (constantI S_ 32 26#32),
    unary main_c_31 main_v100 (broadcastInDim S128x100000 ![] bcast_S_S128x100000 : T0i F → T128x100000i F),
    binary main_v96 main_v100 main_v101 (Host.shrui : T128x100000i F → T128x100000i F → T128x100000i F),
    binary main_v99 main_v101 main_v102 (ori : T128x100000i F → T128x100000i F → T128x100000i F),
    binary main_v97 main_v102 main_v103 (xori : T128x100000i F → T128x100000i F → T128x100000i F),
    nullary main_c_32 (constantI S_ 32 1832780943#32),
    unary main_c_32 main_v104 (broadcastInDim S128x100000 ![] bcast_S_S128x100000 : T0i F → T128x100000i F),
    binary main_v97 main_v104 main_v105 (addi : T128x100000i F → T128x100000i F → T128x100000i F),
    nullary main_c_33 (constantI S_ 32 270669613#32),
    unary main_c_33 main_v106 (broadcastInDim S128x100000 ![] bcast_S_S128x100000 : T0i F → T128x100000i F),
    binary main_v103 main_v106 main_v107 (addi : T128x100000i F → T128x100000i F → T128x100000i F),
    nullary main_c_34 (constantI S_ 32 3#32),
    unary main_c_34 main_v108 (broadcastInDim S128x100000 ![] bcast_S_S128x100000 : T0i F → T128x100000i F),
    binary main_v107 main_v108 main_v109 (addi : T128x100000i F → T128x100000i F → T128x100000i F),
    binary main_v105 main_v109 main_v110 (addi : T128x100000i F → T128x100000i F → T128x100000i F),
    nullary main_c_35 (constantI S_ 32 17#32),
    unary main_c_35 main_v111 (broadcastInDim S128x100000 ![] bcast_S_S128x100000 : T0i F → T128x100000i F),
    binary main_v109 main_v111 main_v112 (Host.shli : T128x100000i F → T128x100000i F → T128x100000i F),
    nullary main_c_36 (constantI S_ 32 15#32),
    unary main_c_36 main_v113 (broadcastInDim S128x100000 ![] bcast_S_S128x100000 : T0i F → T128x100000i F),
    binary main_v109 main_v113 main_v114 (Host.shrui : T128x100000i F → T128x100000i F → T128x100000i F),
    binary main_v112 main_v114 main_v115 (ori : T128x100000i F → T128x100000i F → T128x100000i F),
    binary main_v110 main_v115 main_v116 (xori : T128x100000i F → T128x100000i F → T128x100000i F),
    binary main_v110 main_v116 main_v117 (addi : T128x100000i F → T128x100000i F → T128x100000i F),
    nullary main_c_37 (constantI S_ 32 29#32),
    unary main_c_37 main_v118 (broadcastInDim S128x100000 ![] bcast_S_S128x100000 : T0i F → T128x100000i F),
    binary main_v116 main_v118 main_v119 (Host.shli : T128x100000i F → T128x100000i F → T128x100000i F),
    nullary main_c_38 (constantI S_ 32 3#32),
    unary main_c_38 main_v120 (broadcastInDim S128x100000 ![] bcast_S_S128x100000 : T0i F → T128x100000i F),
    binary main_v116 main_v120 main_v121 (Host.shrui : T128x100000i F → T128x100000i F → T128x100000i F),
    binary main_v119 main_v121 main_v122 (ori : T128x100000i F → T128x100000i F → T128x100000i F),
    binary main_v117 main_v122 main_v123 (xori : T128x100000i F → T128x100000i F → T128x100000i F),
    binary main_v117 main_v123 main_v124 (addi : T128x100000i F → T128x100000i F → T128x100000i F),
    nullary main_c_39 (constantI S_ 32 16#32),
    unary main_c_39 main_v125 (broadcastInDim S128x100000 ![] bcast_S_S128x100000 : T0i F → T128x100000i F),
    binary main_v123 main_v125 main_v126 (Host.shli : T128x100000i F → T128x100000i F → T128x100000i F),
    nullary main_c_40 (constantI S_ 32 16#32),
    unary main_c_40 main_v127 (broadcastInDim S128x100000 ![] bcast_S_S128x100000 : T0i F → T128x100000i F),
    binary main_v123 main_v127 main_v128 (Host.shrui : T128x100000i F → T128x100000i F → T128x100000i F),
    binary main_v126 main_v128 main_v129 (ori : T128x100000i F → T128x100000i F → T128x100000i F),
    binary main_v124 main_v129 main_v130 (xori : T128x100000i F → T128x100000i F → T128x100000i F),
    binary main_v124 main_v130 main_v131 (addi : T128x100000i F → T128x100000i F → T128x100000i F),
    nullary main_c_41 (constantI S_ 32 24#32),
    unary main_c_41 main_v132 (broadcastInDim S128x100000 ![] bcast_S_S128x100000 : T0i F → T128x100000i F),
    binary main_v130 main_v132 main_v133 (Host.shli : T128x100000i F → T128x100000i F → T128x100000i F),
    nullary main_c_42 (constantI S_ 32 8#32),
    unary main_c_42 main_v134 (broadcastInDim S128x100000 ![] bcast_S_S128x100000 : T0i F → T128x100000i F),
    binary main_v130 main_v134 main_v135 (Host.shrui : T128x100000i F → T128x100000i F → T128x100000i F)]

/-- The operations 181 to 240 of the program. -/
abbrev ops3 : List (HloOp τ sig (Elt F)) :=
  [ binary main_v133 main_v135 main_v136 (ori : T128x100000i F → T128x100000i F → T128x100000i F),
    binary main_v131 main_v136 main_v137 (xori : T128x100000i F → T128x100000i F → T128x100000i F),
    nullary main_c_43 (constantI S_ 32 270669613#32),
    unary main_c_43 main_v138 (broadcastInDim S128x100000 ![] bcast_S_S128x100000 : T0i F → T128x100000i F),
    binary main_v131 main_v138 main_v139 (addi : T128x100000i F → T128x100000i F → T128x100000i F),
    nullary main_c_44 (constantI S_ 32 1724713080#32),
    unary main_c_44 main_v140 (broadcastInDim S128x100000 ![] bcast_S_S128x100000 : T0i F → T128x100000i F),
    binary main_v137 main_v140 main_v141 (addi : T128x100000i F → T128x100000i F → T128x100000i F),
    nullary main_c_45 (constantI S_ 32 4#32),
    unary main_c_45 main_v142 (broadcastInDim S128x100000 ![] bcast_S_S128x100000 : T0i F → T128x100000i F),
    binary main_v141 main_v142 main_v143 (addi : T128x100000i F → T128x100000i F → T128x100000i F),
    binary main_v139 main_v143 main_v144 (addi : T128x100000i F → T128x100000i F → T128x100000i F),
    nullary main_c_46 (constantI S_ 32 13#32),
    unary main_c_46 main_v145 (broadcastInDim S128x100000 ![] bcast_S_S128x100000 : T0i F → T128x100000i F),
    binary main_v143 main_v145 main_v146 (Host.shli : T128x100000i F → T128x100000i F → T128x100000i F),
    nullary main_c_47 (constantI S_ 32 19#32),
    unary main_c_47 main_v147 (broadcastInDim S128x100000 ![] bcast_S_S128x100000 : T0i F → T128x100000i F),
    binary main_v143 main_v147 main_v148 (Host.shrui : T128x100000i F → T128x100000i F → T128x100000i F),
    binary main_v146 main_v148 main_v149 (ori : T128x100000i F → T128x100000i F → T128x100000i F),
    binary main_v144 main_v149 main_v150 (xori : T128x100000i F → T128x100000i F → T128x100000i F),
    binary main_v144 main_v150 main_v151 (addi : T128x100000i F → T128x100000i F → T128x100000i F),
    nullary main_c_48 (constantI S_ 32 15#32),
    unary main_c_48 main_v152 (broadcastInDim S128x100000 ![] bcast_S_S128x100000 : T0i F → T128x100000i F),
    binary main_v150 main_v152 main_v153 (Host.shli : T128x100000i F → T128x100000i F → T128x100000i F),
    nullary main_c_49 (constantI S_ 32 17#32),
    unary main_c_49 main_v154 (broadcastInDim S128x100000 ![] bcast_S_S128x100000 : T0i F → T128x100000i F),
    binary main_v150 main_v154 main_v155 (Host.shrui : T128x100000i F → T128x100000i F → T128x100000i F),
    binary main_v153 main_v155 main_v156 (ori : T128x100000i F → T128x100000i F → T128x100000i F),
    binary main_v151 main_v156 main_v157 (xori : T128x100000i F → T128x100000i F → T128x100000i F),
    binary main_v151 main_v157 main_v158 (addi : T128x100000i F → T128x100000i F → T128x100000i F),
    nullary main_c_50 (constantI S_ 32 26#32),
    unary main_c_50 main_v159 (broadcastInDim S128x100000 ![] bcast_S_S128x100000 : T0i F → T128x100000i F),
    binary main_v157 main_v159 main_v160 (Host.shli : T128x100000i F → T128x100000i F → T128x100000i F),
    nullary main_c_51 (constantI S_ 32 6#32),
    unary main_c_51 main_v161 (broadcastInDim S128x100000 ![] bcast_S_S128x100000 : T0i F → T128x100000i F),
    binary main_v157 main_v161 main_v162 (Host.shrui : T128x100000i F → T128x100000i F → T128x100000i F),
    binary main_v160 main_v162 main_v163 (ori : T128x100000i F → T128x100000i F → T128x100000i F),
    binary main_v158 main_v163 main_v164 (xori : T128x100000i F → T128x100000i F → T128x100000i F),
    binary main_v158 main_v164 main_v165 (addi : T128x100000i F → T128x100000i F → T128x100000i F),
    nullary main_c_52 (constantI S_ 32 6#32),
    unary main_c_52 main_v166 (broadcastInDim S128x100000 ![] bcast_S_S128x100000 : T0i F → T128x100000i F),
    binary main_v164 main_v166 main_v167 (Host.shli : T128x100000i F → T128x100000i F → T128x100000i F),
    nullary main_c_53 (constantI S_ 32 26#32),
    unary main_c_53 main_v168 (broadcastInDim S128x100000 ![] bcast_S_S128x100000 : T0i F → T128x100000i F),
    binary main_v164 main_v168 main_v169 (Host.shrui : T128x100000i F → T128x100000i F → T128x100000i F),
    binary main_v167 main_v169 main_v170 (ori : T128x100000i F → T128x100000i F → T128x100000i F),
    binary main_v165 main_v170 main_v171 (xori : T128x100000i F → T128x100000i F → T128x100000i F),
    nullary main_c_54 (constantI S_ 32 1724713080#32),
    unary main_c_54 main_v172 (broadcastInDim S128x100000 ![] bcast_S_S128x100000 : T0i F → T128x100000i F),
    binary main_v165 main_v172 main_v173 (addi : T128x100000i F → T128x100000i F → T128x100000i F),
    nullary main_c_55 (constantI S_ 32 1832780943#32),
    unary main_c_55 main_v174 (broadcastInDim S128x100000 ![] bcast_S_S128x100000 : T0i F → T128x100000i F),
    binary main_v171 main_v174 main_v175 (addi : T128x100000i F → T128x100000i F → T128x100000i F),
    nullary main_c_56 (constantI S_ 32 5#32),
    unary main_c_56 main_v176 (broadcastInDim S128x100000 ![] bcast_S_S128x100000 : T0i F → T128x100000i F),
    binary main_v175 main_v176 main_v177 (addi : T128x100000i F → T128x100000i F → T128x100000i F),
    binary main_v173 main_v177 main_v178 (xori : T128x100000i F → T128x100000i F → T128x100000i F),
    nullary main_c_57 (constantI S_ 32 9#32),
    unary main_c_57 main_v179 (broadcastInDim S128x100000 ![] bcast_S_S128x100000 : T0i F → T128x100000i F),
    binary main_v178 main_v179 main_v180 (Host.shrui : T128x100000i F → T128x100000i F → T128x100000i F)]

/-- The operations 241 to 300 of the program. -/
abbrev ops4 : List (HloOp τ sig (Elt F)) :=
  [ nullary main_c_58 (constantI S_ 32 1065353216#32),
    unary main_c_58 main_v181 (broadcastInDim S128x100000 ![] bcast_S_S128x100000 : T0i F → T128x100000i F),
    binary main_v180 main_v181 main_v182 (ori : T128x100000i F → T128x100000i F → T128x100000i F),
    unary main_v182 main_v183 (bitcastToFloat .f32 : T128x100000i F → T128x100000f F),
    nullary main_cst (constant S_ .f32 0x3F800000#32),
    unary main_cst main_v184 (broadcastInDim S128x100000 ![] bcast_S_S128x100000 : T0f F → T128x100000f F),
    binary main_v183 main_v184 main_v185 (subf : T128x100000f F → T128x100000f F → T128x100000f F),
    nullary main_cst_59 (constant S_ .f32 0x3F800000#32),
    unary main_cst_59 main_v186 (broadcastInDim S128x100000 ![] bcast_S_S128x100000 : T0f F → T128x100000f F),
    binary main_v185 main_v186 main_v187 (mulf : T128x100000f F → T128x100000f F → T128x100000f F),
    nullary main_cst_60 (constant S_ .f32 0x00800000#32),
    unary main_cst_60 main_v188 (broadcastInDim S128x100000 ![] bcast_S_S128x100000 : T0f F → T128x100000f F),
    binary main_v187 main_v188 main_v189 (addf : T128x100000f F → T128x100000f F → T128x100000f F),
    nullary main_cst_61 (constant S_ .f32 0x00800000#32),
    unary main_cst_61 main_v190 (broadcastInDim S128x100000 ![] bcast_S_S128x100000 : T0f F → T128x100000f F),
    binary main_v190 main_v189 main_v191 (maximumf : T128x100000f F → T128x100000f F → T128x100000f F),
    unary main_v191 main_v192 (Host.log : T128x100000f F → T128x100000f F),
    unary main_v192 main_v193 (Host.negf : T128x100000f F → T128x100000f F),
    unary main_v193 main_v194 (Host.log : T128x100000f F → T128x100000f F),
    unary main_v194 main_v195 (Host.negf : T128x100000f F → T128x100000f F),
    nullary main_c_62 (constantI S_ 32 64467757#32),
    unary main_c_62 main_v196 (broadcastInDim S128x100000 ![] bcast_S_S128x100000 : T0i F → T128x100000i F),
    nullary main_v197 (iotaInDim S128x100000 32 0),
    nullary main_c_63 (constantI S_ 32 100000#32),
    unary main_c_63 main_v198 (broadcastInDim S128x100000 ![] bcast_S_S128x100000 : T0i F → T128x100000i F),
    binary main_v197 main_v198 main_v199 (muli : T128x100000i F → T128x100000i F → T128x100000i F),
    nullary main_v200 (iotaInDim S128x100000 32 1),
    binary main_v199 main_v200 main_v201 (addi : T128x100000i F → T128x100000i F → T128x100000i F),
    nullary main_c_64 (constantI S_ 32 2916123636#32),
    unary main_c_64 main_v202 (broadcastInDim S128x100000 ![] bcast_S_S128x100000 : T0i F → T128x100000i F),
    binary main_v201 main_v202 main_v203 (addi : T128x100000i F → T128x100000i F → T128x100000i F),
    binary main_v196 main_v203 main_v204 (addi : T128x100000i F → T128x100000i F → T128x100000i F),
    nullary main_c_65 (constantI S_ 32 13#32),
    unary main_c_65 main_v205 (broadcastInDim S128x100000 ![] bcast_S_S128x100000 : T0i F → T128x100000i F),
    binary main_v203 main_v205 main_v206 (Host.shli : T128x100000i F → T128x100000i F → T128x100000i F),
    nullary main_c_66 (constantI S_ 32 19#32),
    unary main_c_66 main_v207 (broadcastInDim S128x100000 ![] bcast_S_S128x100000 : T0i F → T128x100000i F),
    binary main_v203 main_v207 main_v208 (Host.shrui : T128x100000i F → T128x100000i F → T128x100000i F),
    binary main_v206 main_v208 main_v209 (ori : T128x100000i F → T128x100000i F → T128x100000i F),
    binary main_v204 main_v209 main_v210 (xori : T128x100000i F → T128x100000i F → T128x100000i F),
    binary main_v204 main_v210 main_v211 (addi : T128x100000i F → T128x100000i F → T128x100000i F),
    nullary main_c_67 (constantI S_ 32 15#32),
    unary main_c_67 main_v212 (broadcastInDim S128x100000 ![] bcast_S_S128x100000 : T0i F → T128x100000i F),
    binary main_v210 main_v212 main_v213 (Host.shli : T128x100000i F → T128x100000i F → T128x100000i F),
    nullary main_c_68 (constantI S_ 32 17#32),
    unary main_c_68 main_v214 (broadcastInDim S128x100000 ![] bcast_S_S128x100000 : T0i F → T128x100000i F),
    binary main_v210 main_v214 main_v215 (Host.shrui : T128x100000i F → T128x100000i F → T128x100000i F),
    binary main_v213 main_v215 main_v216 (ori : T128x100000i F → T128x100000i F → T128x100000i F),
    binary main_v211 main_v216 main_v217 (xori : T128x100000i F → T128x100000i F → T128x100000i F),
    binary main_v211 main_v217 main_v218 (addi : T128x100000i F → T128x100000i F → T128x100000i F),
    nullary main_c_69 (constantI S_ 32 26#32),
    unary main_c_69 main_v219 (broadcastInDim S128x100000 ![] bcast_S_S128x100000 : T0i F → T128x100000i F),
    binary main_v217 main_v219 main_v220 (Host.shli : T128x100000i F → T128x100000i F → T128x100000i F),
    nullary main_c_70 (constantI S_ 32 6#32),
    unary main_c_70 main_v221 (broadcastInDim S128x100000 ![] bcast_S_S128x100000 : T0i F → T128x100000i F),
    binary main_v217 main_v221 main_v222 (Host.shrui : T128x100000i F → T128x100000i F → T128x100000i F),
    binary main_v220 main_v222 main_v223 (ori : T128x100000i F → T128x100000i F → T128x100000i F),
    binary main_v218 main_v223 main_v224 (xori : T128x100000i F → T128x100000i F → T128x100000i F),
    binary main_v218 main_v224 main_v225 (addi : T128x100000i F → T128x100000i F → T128x100000i F),
    nullary main_c_71 (constantI S_ 32 6#32)]

/-- The operations 301 to 360 of the program. -/
abbrev ops5 : List (HloOp τ sig (Elt F)) :=
  [ unary main_c_71 main_v226 (broadcastInDim S128x100000 ![] bcast_S_S128x100000 : T0i F → T128x100000i F),
    binary main_v224 main_v226 main_v227 (Host.shli : T128x100000i F → T128x100000i F → T128x100000i F),
    nullary main_c_72 (constantI S_ 32 26#32),
    unary main_c_72 main_v228 (broadcastInDim S128x100000 ![] bcast_S_S128x100000 : T0i F → T128x100000i F),
    binary main_v224 main_v228 main_v229 (Host.shrui : T128x100000i F → T128x100000i F → T128x100000i F),
    binary main_v227 main_v229 main_v230 (ori : T128x100000i F → T128x100000i F → T128x100000i F),
    binary main_v225 main_v230 main_v231 (xori : T128x100000i F → T128x100000i F → T128x100000i F),
    nullary main_c_73 (constantI S_ 32 2916123636#32),
    unary main_c_73 main_v232 (broadcastInDim S128x100000 ![] bcast_S_S128x100000 : T0i F → T128x100000i F),
    binary main_v225 main_v232 main_v233 (addi : T128x100000i F → T128x100000i F → T128x100000i F),
    nullary main_c_74 (constantI S_ 32 3050711811#32),
    unary main_c_74 main_v234 (broadcastInDim S128x100000 ![] bcast_S_S128x100000 : T0i F → T128x100000i F),
    binary main_v231 main_v234 main_v235 (addi : T128x100000i F → T128x100000i F → T128x100000i F),
    nullary main_c_75 (constantI S_ 32 1#32),
    unary main_c_75 main_v236 (broadcastInDim S128x100000 ![] bcast_S_S128x100000 : T0i F → T128x100000i F),
    binary main_v235 main_v236 main_v237 (addi : T128x100000i F → T128x100000i F → T128x100000i F),
    binary main_v233 main_v237 main_v238 (addi : T128x100000i F → T128x100000i F → T128x100000i F),
    nullary main_c_76 (constantI S_ 32 17#32),
    unary main_c_76 main_v239 (broadcastInDim S128x100000 ![] bcast_S_S128x100000 : T0i F → T128x100000i F),
    binary main_v237 main_v239 main_v240 (Host.shli : T128x100000i F → T128x100000i F → T128x100000i F),
    nullary main_c_77 (constantI S_ 32 15#32),
    unary main_c_77 main_v241 (broadcastInDim S128x100000 ![] bcast_S_S128x100000 : T0i F → T128x100000i F),
    binary main_v237 main_v241 main_v242 (Host.shrui : T128x100000i F → T128x100000i F → T128x100000i F),
    binary main_v240 main_v242 main_v243 (ori : T128x100000i F → T128x100000i F → T128x100000i F),
    binary main_v238 main_v243 main_v244 (xori : T128x100000i F → T128x100000i F → T128x100000i F),
    binary main_v238 main_v244 main_v245 (addi : T128x100000i F → T128x100000i F → T128x100000i F),
    nullary main_c_78 (constantI S_ 32 29#32),
    unary main_c_78 main_v246 (broadcastInDim S128x100000 ![] bcast_S_S128x100000 : T0i F → T128x100000i F),
    binary main_v244 main_v246 main_v247 (Host.shli : T128x100000i F → T128x100000i F → T128x100000i F),
    nullary main_c_79 (constantI S_ 32 3#32),
    unary main_c_79 main_v248 (broadcastInDim S128x100000 ![] bcast_S_S128x100000 : T0i F → T128x100000i F),
    binary main_v244 main_v248 main_v249 (Host.shrui : T128x100000i F → T128x100000i F → T128x100000i F),
    binary main_v247 main_v249 main_v250 (ori : T128x100000i F → T128x100000i F → T128x100000i F),
    binary main_v245 main_v250 main_v251 (xori : T128x100000i F → T128x100000i F → T128x100000i F),
    binary main_v245 main_v251 main_v252 (addi : T128x100000i F → T128x100000i F → T128x100000i F),
    nullary main_c_80 (constantI S_ 32 16#32),
    unary main_c_80 main_v253 (broadcastInDim S128x100000 ![] bcast_S_S128x100000 : T0i F → T128x100000i F),
    binary main_v251 main_v253 main_v254 (Host.shli : T128x100000i F → T128x100000i F → T128x100000i F),
    nullary main_c_81 (constantI S_ 32 16#32),
    unary main_c_81 main_v255 (broadcastInDim S128x100000 ![] bcast_S_S128x100000 : T0i F → T128x100000i F),
    binary main_v251 main_v255 main_v256 (Host.shrui : T128x100000i F → T128x100000i F → T128x100000i F),
    binary main_v254 main_v256 main_v257 (ori : T128x100000i F → T128x100000i F → T128x100000i F),
    binary main_v252 main_v257 main_v258 (xori : T128x100000i F → T128x100000i F → T128x100000i F),
    binary main_v252 main_v258 main_v259 (addi : T128x100000i F → T128x100000i F → T128x100000i F),
    nullary main_c_82 (constantI S_ 32 24#32),
    unary main_c_82 main_v260 (broadcastInDim S128x100000 ![] bcast_S_S128x100000 : T0i F → T128x100000i F),
    binary main_v258 main_v260 main_v261 (Host.shli : T128x100000i F → T128x100000i F → T128x100000i F),
    nullary main_c_83 (constantI S_ 32 8#32),
    unary main_c_83 main_v262 (broadcastInDim S128x100000 ![] bcast_S_S128x100000 : T0i F → T128x100000i F),
    binary main_v258 main_v262 main_v263 (Host.shrui : T128x100000i F → T128x100000i F → T128x100000i F),
    binary main_v261 main_v263 main_v264 (ori : T128x100000i F → T128x100000i F → T128x100000i F),
    binary main_v259 main_v264 main_v265 (xori : T128x100000i F → T128x100000i F → T128x100000i F),
    nullary main_c_84 (constantI S_ 32 3050711811#32),
    unary main_c_84 main_v266 (broadcastInDim S128x100000 ![] bcast_S_S128x100000 : T0i F → T128x100000i F),
    binary main_v259 main_v266 main_v267 (addi : T128x100000i F → T128x100000i F → T128x100000i F),
    nullary main_c_85 (constantI S_ 32 64467757#32),
    unary main_c_85 main_v268 (broadcastInDim S128x100000 ![] bcast_S_S128x100000 : T0i F → T128x100000i F),
    binary main_v265 main_v268 main_v269 (addi : T128x100000i F → T128x100000i F → T128x100000i F),
    nullary main_c_86 (constantI S_ 32 2#32),
    unary main_c_86 main_v270 (broadcastInDim S128x100000 ![] bcast_S_S128x100000 : T0i F → T128x100000i F)]

/-- The operations 361 to 420 of the program. -/
abbrev ops6 : List (HloOp τ sig (Elt F)) :=
  [ binary main_v269 main_v270 main_v271 (addi : T128x100000i F → T128x100000i F → T128x100000i F),
    binary main_v267 main_v271 main_v272 (addi : T128x100000i F → T128x100000i F → T128x100000i F),
    nullary main_c_87 (constantI S_ 32 13#32),
    unary main_c_87 main_v273 (broadcastInDim S128x100000 ![] bcast_S_S128x100000 : T0i F → T128x100000i F),
    binary main_v271 main_v273 main_v274 (Host.shli : T128x100000i F → T128x100000i F → T128x100000i F),
    nullary main_c_88 (constantI S_ 32 19#32),
    unary main_c_88 main_v275 (broadcastInDim S128x100000 ![] bcast_S_S128x100000 : T0i F → T128x100000i F),
    binary main_v271 main_v275 main_v276 (Host.shrui : T128x100000i F → T128x100000i F → T128x100000i F),
    binary main_v274 main_v276 main_v277 (ori : T128x100000i F → T128x100000i F → T128x100000i F),
    binary main_v272 main_v277 main_v278 (xori : T128x100000i F → T128x100000i F → T128x100000i F),
    binary main_v272 main_v278 main_v279 (addi : T128x100000i F → T128x100000i F → T128x100000i F),
    nullary main_c_89 (constantI S_ 32 15#32),
    unary main_c_89 main_v280 (broadcastInDim S128x100000 ![] bcast_S_S128x100000 : T0i F → T128x100000i F),
    binary main_v278 main_v280 main_v281 (Host.shli : T128x100000i F → T128x100000i F → T128x100000i F),
    nullary main_c_90 (constantI S_ 32 17#32),
    unary main_c_90 main_v282 (broadcastInDim S128x100000 ![] bcast_S_S128x100000 : T0i F → T128x100000i F),
    binary main_v278 main_v282 main_v283 (Host.shrui : T128x100000i F → T128x100000i F → T128x100000i F),
    binary main_v281 main_v283 main_v284 (ori : T128x100000i F → T128x100000i F → T128x100000i F),
    binary main_v279 main_v284 main_v285 (xori : T128x100000i F → T128x100000i F → T128x100000i F),
    binary main_v279 main_v285 main_v286 (addi : T128x100000i F → T128x100000i F → T128x100000i F),
    nullary main_c_91 (constantI S_ 32 26#32),
    unary main_c_91 main_v287 (broadcastInDim S128x100000 ![] bcast_S_S128x100000 : T0i F → T128x100000i F),
    binary main_v285 main_v287 main_v288 (Host.shli : T128x100000i F → T128x100000i F → T128x100000i F),
    nullary main_c_92 (constantI S_ 32 6#32),
    unary main_c_92 main_v289 (broadcastInDim S128x100000 ![] bcast_S_S128x100000 : T0i F → T128x100000i F),
    binary main_v285 main_v289 main_v290 (Host.shrui : T128x100000i F → T128x100000i F → T128x100000i F),
    binary main_v288 main_v290 main_v291 (ori : T128x100000i F → T128x100000i F → T128x100000i F),
    binary main_v286 main_v291 main_v292 (xori : T128x100000i F → T128x100000i F → T128x100000i F),
    binary main_v286 main_v292 main_v293 (addi : T128x100000i F → T128x100000i F → T128x100000i F),
    nullary main_c_93 (constantI S_ 32 6#32),
    unary main_c_93 main_v294 (broadcastInDim S128x100000 ![] bcast_S_S128x100000 : T0i F → T128x100000i F),
    binary main_v292 main_v294 main_v295 (Host.shli : T128x100000i F → T128x100000i F → T128x100000i F),
    nullary main_c_94 (constantI S_ 32 26#32),
    unary main_c_94 main_v296 (broadcastInDim S128x100000 ![] bcast_S_S128x100000 : T0i F → T128x100000i F),
    binary main_v292 main_v296 main_v297 (Host.shrui : T128x100000i F → T128x100000i F → T128x100000i F),
    binary main_v295 main_v297 main_v298 (ori : T128x100000i F → T128x100000i F → T128x100000i F),
    binary main_v293 main_v298 main_v299 (xori : T128x100000i F → T128x100000i F → T128x100000i F),
    nullary main_c_95 (constantI S_ 32 64467757#32),
    unary main_c_95 main_v300 (broadcastInDim S128x100000 ![] bcast_S_S128x100000 : T0i F → T128x100000i F),
    binary main_v293 main_v300 main_v301 (addi : T128x100000i F → T128x100000i F → T128x100000i F),
    nullary main_c_96 (constantI S_ 32 2916123636#32),
    unary main_c_96 main_v302 (broadcastInDim S128x100000 ![] bcast_S_S128x100000 : T0i F → T128x100000i F),
    binary main_v299 main_v302 main_v303 (addi : T128x100000i F → T128x100000i F → T128x100000i F),
    nullary main_c_97 (constantI S_ 32 3#32),
    unary main_c_97 main_v304 (broadcastInDim S128x100000 ![] bcast_S_S128x100000 : T0i F → T128x100000i F),
    binary main_v303 main_v304 main_v305 (addi : T128x100000i F → T128x100000i F → T128x100000i F),
    binary main_v301 main_v305 main_v306 (addi : T128x100000i F → T128x100000i F → T128x100000i F),
    nullary main_c_98 (constantI S_ 32 17#32),
    unary main_c_98 main_v307 (broadcastInDim S128x100000 ![] bcast_S_S128x100000 : T0i F → T128x100000i F),
    binary main_v305 main_v307 main_v308 (Host.shli : T128x100000i F → T128x100000i F → T128x100000i F),
    nullary main_c_99 (constantI S_ 32 15#32),
    unary main_c_99 main_v309 (broadcastInDim S128x100000 ![] bcast_S_S128x100000 : T0i F → T128x100000i F),
    binary main_v305 main_v309 main_v310 (Host.shrui : T128x100000i F → T128x100000i F → T128x100000i F),
    binary main_v308 main_v310 main_v311 (ori : T128x100000i F → T128x100000i F → T128x100000i F),
    binary main_v306 main_v311 main_v312 (xori : T128x100000i F → T128x100000i F → T128x100000i F),
    binary main_v306 main_v312 main_v313 (addi : T128x100000i F → T128x100000i F → T128x100000i F),
    nullary main_c_100 (constantI S_ 32 29#32),
    unary main_c_100 main_v314 (broadcastInDim S128x100000 ![] bcast_S_S128x100000 : T0i F → T128x100000i F),
    binary main_v312 main_v314 main_v315 (Host.shli : T128x100000i F → T128x100000i F → T128x100000i F),
    nullary main_c_101 (constantI S_ 32 3#32)]

/-- The operations 421 to 480 of the program. -/
abbrev ops7 : List (HloOp τ sig (Elt F)) :=
  [ unary main_c_101 main_v316 (broadcastInDim S128x100000 ![] bcast_S_S128x100000 : T0i F → T128x100000i F),
    binary main_v312 main_v316 main_v317 (Host.shrui : T128x100000i F → T128x100000i F → T128x100000i F),
    binary main_v315 main_v317 main_v318 (ori : T128x100000i F → T128x100000i F → T128x100000i F),
    binary main_v313 main_v318 main_v319 (xori : T128x100000i F → T128x100000i F → T128x100000i F),
    binary main_v313 main_v319 main_v320 (addi : T128x100000i F → T128x100000i F → T128x100000i F),
    nullary main_c_102 (constantI S_ 32 16#32),
    unary main_c_102 main_v321 (broadcastInDim S128x100000 ![] bcast_S_S128x100000 : T0i F → T128x100000i F),
    binary main_v319 main_v321 main_v322 (Host.shli : T128x100000i F → T128x100000i F → T128x100000i F),
    nullary main_c_103 (constantI S_ 32 16#32),
    unary main_c_103 main_v323 (broadcastInDim S128x100000 ![] bcast_S_S128x100000 : T0i F → T128x100000i F),
    binary main_v319 main_v323 main_v324 (Host.shrui : T128x100000i F → T128x100000i F → T128x100000i F),
    binary main_v322 main_v324 main_v325 (ori : T128x100000i F → T128x100000i F → T128x100000i F),
    binary main_v320 main_v325 main_v326 (xori : T128x100000i F → T128x100000i F → T128x100000i F),
    binary main_v320 main_v326 main_v327 (addi : T128x100000i F → T128x100000i F → T128x100000i F),
    nullary main_c_104 (constantI S_ 32 24#32),
    unary main_c_104 main_v328 (broadcastInDim S128x100000 ![] bcast_S_S128x100000 : T0i F → T128x100000i F),
    binary main_v326 main_v328 main_v329 (Host.shli : T128x100000i F → T128x100000i F → T128x100000i F),
    nullary main_c_105 (constantI S_ 32 8#32),
    unary main_c_105 main_v330 (broadcastInDim S128x100000 ![] bcast_S_S128x100000 : T0i F → T128x100000i F),
    binary main_v326 main_v330 main_v331 (Host.shrui : T128x100000i F → T128x100000i F → T128x100000i F),
    binary main_v329 main_v331 main_v332 (ori : T128x100000i F → T128x100000i F → T128x100000i F),
    binary main_v327 main_v332 main_v333 (xori : T128x100000i F → T128x100000i F → T128x100000i F),
    nullary main_c_106 (constantI S_ 32 2916123636#32),
    unary main_c_106 main_v334 (broadcastInDim S128x100000 ![] bcast_S_S128x100000 : T0i F → T128x100000i F),
    binary main_v327 main_v334 main_v335 (addi : T128x100000i F → T128x100000i F → T128x100000i F),
    nullary main_c_107 (constantI S_ 32 3050711811#32),
    unary main_c_107 main_v336 (broadcastInDim S128x100000 ![] bcast_S_S128x100000 : T0i F → T128x100000i F),
    binary main_v333 main_v336 main_v337 (addi : T128x100000i F → T128x100000i F → T128x100000i F),
    nullary main_c_108 (constantI S_ 32 4#32),
    unary main_c_108 main_v338 (broadcastInDim S128x100000 ![] bcast_S_S128x100000 : T0i F → T128x100000i F),
    binary main_v337 main_v338 main_v339 (addi : T128x100000i F → T128x100000i F → T128x100000i F),
    binary main_v335 main_v339 main_v340 (addi : T128x100000i F → T128x100000i F → T128x100000i F),
    nullary main_c_109 (constantI S_ 32 13#32),
    unary main_c_109 main_v341 (broadcastInDim S128x100000 ![] bcast_S_S128x100000 : T0i F → T128x100000i F),
    binary main_v339 main_v341 main_v342 (Host.shli : T128x100000i F → T128x100000i F → T128x100000i F),
    nullary main_c_110 (constantI S_ 32 19#32),
    unary main_c_110 main_v343 (broadcastInDim S128x100000 ![] bcast_S_S128x100000 : T0i F → T128x100000i F),
    binary main_v339 main_v343 main_v344 (Host.shrui : T128x100000i F → T128x100000i F → T128x100000i F),
    binary main_v342 main_v344 main_v345 (ori : T128x100000i F → T128x100000i F → T128x100000i F),
    binary main_v340 main_v345 main_v346 (xori : T128x100000i F → T128x100000i F → T128x100000i F),
    binary main_v340 main_v346 main_v347 (addi : T128x100000i F → T128x100000i F → T128x100000i F),
    nullary main_c_111 (constantI S_ 32 15#32),
    unary main_c_111 main_v348 (broadcastInDim S128x100000 ![] bcast_S_S128x100000 : T0i F → T128x100000i F),
    binary main_v346 main_v348 main_v349 (Host.shli : T128x100000i F → T128x100000i F → T128x100000i F),
    nullary main_c_112 (constantI S_ 32 17#32),
    unary main_c_112 main_v350 (broadcastInDim S128x100000 ![] bcast_S_S128x100000 : T0i F → T128x100000i F),
    binary main_v346 main_v350 main_v351 (Host.shrui : T128x100000i F → T128x100000i F → T128x100000i F),
    binary main_v349 main_v351 main_v352 (ori : T128x100000i F → T128x100000i F → T128x100000i F),
    binary main_v347 main_v352 main_v353 (xori : T128x100000i F → T128x100000i F → T128x100000i F),
    binary main_v347 main_v353 main_v354 (addi : T128x100000i F → T128x100000i F → T128x100000i F),
    nullary main_c_113 (constantI S_ 32 26#32),
    unary main_c_113 main_v355 (broadcastInDim S128x100000 ![] bcast_S_S128x100000 : T0i F → T128x100000i F),
    binary main_v353 main_v355 main_v356 (Host.shli : T128x100000i F → T128x100000i F → T128x100000i F),
    nullary main_c_114 (constantI S_ 32 6#32),
    unary main_c_114 main_v357 (broadcastInDim S128x100000 ![] bcast_S_S128x100000 : T0i F → T128x100000i F),
    binary main_v353 main_v357 main_v358 (Host.shrui : T128x100000i F → T128x100000i F → T128x100000i F),
    binary main_v356 main_v358 main_v359 (ori : T128x100000i F → T128x100000i F → T128x100000i F),
    binary main_v354 main_v359 main_v360 (xori : T128x100000i F → T128x100000i F → T128x100000i F),
    binary main_v354 main_v360 main_v361 (addi : T128x100000i F → T128x100000i F → T128x100000i F),
    nullary main_c_115 (constantI S_ 32 6#32)]

/-- The operations 481 to 540 of the program. -/
abbrev ops8 : List (HloOp τ sig (Elt F)) :=
  [ unary main_c_115 main_v362 (broadcastInDim S128x100000 ![] bcast_S_S128x100000 : T0i F → T128x100000i F),
    binary main_v360 main_v362 main_v363 (Host.shli : T128x100000i F → T128x100000i F → T128x100000i F),
    nullary main_c_116 (constantI S_ 32 26#32),
    unary main_c_116 main_v364 (broadcastInDim S128x100000 ![] bcast_S_S128x100000 : T0i F → T128x100000i F),
    binary main_v360 main_v364 main_v365 (Host.shrui : T128x100000i F → T128x100000i F → T128x100000i F),
    binary main_v363 main_v365 main_v366 (ori : T128x100000i F → T128x100000i F → T128x100000i F),
    binary main_v361 main_v366 main_v367 (xori : T128x100000i F → T128x100000i F → T128x100000i F),
    nullary main_c_117 (constantI S_ 32 3050711811#32),
    unary main_c_117 main_v368 (broadcastInDim S128x100000 ![] bcast_S_S128x100000 : T0i F → T128x100000i F),
    binary main_v361 main_v368 main_v369 (addi : T128x100000i F → T128x100000i F → T128x100000i F),
    nullary main_c_118 (constantI S_ 32 64467757#32),
    unary main_c_118 main_v370 (broadcastInDim S128x100000 ![] bcast_S_S128x100000 : T0i F → T128x100000i F),
    binary main_v367 main_v370 main_v371 (addi : T128x100000i F → T128x100000i F → T128x100000i F),
    nullary main_c_119 (constantI S_ 32 5#32),
    unary main_c_119 main_v372 (broadcastInDim S128x100000 ![] bcast_S_S128x100000 : T0i F → T128x100000i F),
    binary main_v371 main_v372 main_v373 (addi : T128x100000i F → T128x100000i F → T128x100000i F),
    binary main_v369 main_v373 main_v374 (xori : T128x100000i F → T128x100000i F → T128x100000i F),
    nullary main_c_120 (constantI S_ 32 9#32),
    unary main_c_120 main_v375 (broadcastInDim S128x100000 ![] bcast_S_S128x100000 : T0i F → T128x100000i F),
    binary main_v374 main_v375 main_v376 (Host.shrui : T128x100000i F → T128x100000i F → T128x100000i F),
    nullary main_c_121 (constantI S_ 32 1065353216#32),
    unary main_c_121 main_v377 (broadcastInDim S128x100000 ![] bcast_S_S128x100000 : T0i F → T128x100000i F),
    binary main_v376 main_v377 main_v378 (ori : T128x100000i F → T128x100000i F → T128x100000i F),
    unary main_v378 main_v379 (bitcastToFloat .f32 : T128x100000i F → T128x100000f F),
    nullary main_cst_122 (constant S_ .f32 0x3F800000#32),
    unary main_cst_122 main_v380 (broadcastInDim S128x100000 ![] bcast_S_S128x100000 : T0f F → T128x100000f F),
    binary main_v379 main_v380 main_v381 (subf : T128x100000f F → T128x100000f F → T128x100000f F),
    nullary main_cst_123 (constant S_ .f32 0x3F800000#32),
    unary main_cst_123 main_v382 (broadcastInDim S128x100000 ![] bcast_S_S128x100000 : T0f F → T128x100000f F),
    binary main_v381 main_v382 main_v383 (mulf : T128x100000f F → T128x100000f F → T128x100000f F),
    nullary main_cst_124 (constant S_ .f32 0x00800000#32),
    unary main_cst_124 main_v384 (broadcastInDim S128x100000 ![] bcast_S_S128x100000 : T0f F → T128x100000f F),
    binary main_v383 main_v384 main_v385 (addf : T128x100000f F → T128x100000f F → T128x100000f F),
    nullary main_cst_125 (constant S_ .f32 0x00800000#32),
    unary main_cst_125 main_v386 (broadcastInDim S128x100000 ![] bcast_S_S128x100000 : T0f F → T128x100000f F),
    binary main_v386 main_v385 main_v387 (maximumf : T128x100000f F → T128x100000f F → T128x100000f F),
    unary main_v387 main_v388 (Host.log : T128x100000f F → T128x100000f F),
    unary main_v388 main_v389 (Host.negf : T128x100000f F → T128x100000f F),
    unary main_v389 main_v390 (Host.log : T128x100000f F → T128x100000f F),
    unary main_v390 main_v391 (Host.negf : T128x100000f F → T128x100000f F),
    unary main_arg1 main_v392 ((extractStridedSlice S128x100000 ![0, 0] · slices_S128x200000_S128x100000_0_0) : T128x200000f F → T128x100000f F),
    unary main_arg1 main_v393 ((extractStridedSlice S128x100000 ![0, 100000] · slices_S128x200000_S128x100000_0_100000) : T128x200000f F → T128x100000f F),
    unary main_arg0 main_v394 ((extractStridedSlice S1x128x100000 ![0, 0, 0] · slices_S2x128x100000_S1x128x100000_0_0_0) : T2x128x100000f F → T1x128x100000f F),
    reshape main_v394 main_v395 (rfl : (.f32 : EltTy) = .f32) shapeCasts_S1x128x100000_S128x100000,
    nullary main_cst_126 (constant S_ .f32 0xFF800000#32),
    binary main_v395 main_cst_126 main_v396 ((fun x v => Host.reduce FloatOps.maximumf x v reducesTo_S128x100000_S128_d1 h_S_) : T128x100000f F → T0f F → T128f F),
    nullary main_cst_127 (constant S_ .f32 0xFF800000#32),
    unary main_cst_127 main_v397 (broadcastInDim S128 ![] bcast_S_S128 : T0f F → T128f F),
    binary main_v397 main_v396 main_v398 (maximumf : T128f F → T128f F → T128f F),
    unary main_v398 main_v399 (broadcastInDim S128x1 ![0] bcast_S128_S128x1_0 : T128f F → T128x1f F),
    unary main_v399 main_v400 (broadcastInDim S128x100000 ![0, 1] bcast_S128x1_S128x100000_0_1 : T128x1f F → T128x100000f F),
    binary main_v395 main_v400 main_v401 (subf : T128x100000f F → T128x100000f F → T128x100000f F),
    unary main_v401 main_v402 (Host.exp : T128x100000f F → T128x100000f F),
    nullary main_cst_128 (constant S_ .f32 0x00000000#32),
    binary main_v402 main_cst_128 main_v403 ((fun x v => Host.reduceAdd x v reducesTo_S128x100000_S128_d1 h_S_) : T128x100000f F → T0f F → T128f F),
    unary main_v403 main_v404 (broadcastInDim S128x1 ![0] bcast_S128_S128x1_0 : T128f F → T128x1f F),
    unary main_v404 main_v405 (broadcastInDim S128x100000 ![0, 1] bcast_S128x1_S128x100000_0_1 : T128x1f F → T128x100000f F),
    binary main_v402 main_v405 main_v406 (Host.divf : T128x100000f F → T128x100000f F → T128x100000f F),
    nullary main_cst_129 (constant S_ .f32 0x33D6BF95#32),
    unary main_cst_129 main_v407 (broadcastInDim S128x100000 ![] bcast_S_S128x100000 : T0f F → T128x100000f F)]

/-- The operations 541 to 597 of the program. -/
abbrev ops9 : List (HloOp τ sig (Elt F)) :=
  [ binary main_v406 main_v407 main_v408 (addf : T128x100000f F → T128x100000f F → T128x100000f F),
    binary main_v408 main_v392 main_v409 (mulf : T128x100000f F → T128x100000f F → T128x100000f F),
    unary main_arg0 main_v410 ((extractStridedSlice S1x128x100000 ![1, 0, 0] · slices_S2x128x100000_S1x128x100000_1_0_0) : T2x128x100000f F → T1x128x100000f F),
    reshape main_v410 main_v411 (rfl : (.f32 : EltTy) = .f32) shapeCasts_S1x128x100000_S128x100000,
    nullary main_cst_130 (constant S_ .f32 0xFF800000#32),
    binary main_v411 main_cst_130 main_v412 ((fun x v => Host.reduce FloatOps.maximumf x v reducesTo_S128x100000_S128_d1 h_S_) : T128x100000f F → T0f F → T128f F),
    nullary main_cst_131 (constant S_ .f32 0xFF800000#32),
    unary main_cst_131 main_v413 (broadcastInDim S128 ![] bcast_S_S128 : T0f F → T128f F),
    binary main_v413 main_v412 main_v414 (maximumf : T128f F → T128f F → T128f F),
    unary main_v414 main_v415 (broadcastInDim S128x1 ![0] bcast_S128_S128x1_0 : T128f F → T128x1f F),
    unary main_v415 main_v416 (broadcastInDim S128x100000 ![0, 1] bcast_S128x1_S128x100000_0_1 : T128x1f F → T128x100000f F),
    binary main_v411 main_v416 main_v417 (subf : T128x100000f F → T128x100000f F → T128x100000f F),
    unary main_v417 main_v418 (Host.exp : T128x100000f F → T128x100000f F),
    nullary main_cst_132 (constant S_ .f32 0x00000000#32),
    binary main_v418 main_cst_132 main_v419 ((fun x v => Host.reduceAdd x v reducesTo_S128x100000_S128_d1 h_S_) : T128x100000f F → T0f F → T128f F),
    unary main_v419 main_v420 (broadcastInDim S128x1 ![0] bcast_S128_S128x1_0 : T128f F → T128x1f F),
    unary main_v420 main_v421 (broadcastInDim S128x100000 ![0, 1] bcast_S128x1_S128x100000_0_1 : T128x1f F → T128x100000f F),
    binary main_v418 main_v421 main_v422 (Host.divf : T128x100000f F → T128x100000f F → T128x100000f F),
    nullary main_cst_133 (constant S_ .f32 0x33D6BF95#32),
    unary main_cst_133 main_v423 (broadcastInDim S128x100000 ![] bcast_S_S128x100000 : T0f F → T128x100000f F),
    binary main_v422 main_v423 main_v424 (addf : T128x100000f F → T128x100000f F → T128x100000f F),
    binary main_v424 main_v393 main_v425 (mulf : T128x100000f F → T128x100000f F → T128x100000f F),
    nullary main_cst_134 (constant S_ .f32 0x00000000#32),
    binary main_v409 main_cst_134 main_v426 ((fun x v => Host.reduceAdd x v reducesTo_S128x100000_S128_d1 h_S_) : T128x100000f F → T0f F → T128f F),
    unary main_v426 main_v427 (broadcastInDim S128x1 ![0] bcast_S128_S128x1_0 : T128f F → T128x1f F),
    unary main_v427 main_v428 (broadcastInDim S128x100000 ![0, 1] bcast_S128x1_S128x100000_0_1 : T128x1f F → T128x100000f F),
    binary main_v409 main_v428 main_v429 (Host.divf : T128x100000f F → T128x100000f F → T128x100000f F),
    nullary main_cst_135 (constant S_ .f32 0x00000000#32),
    binary main_v425 main_cst_135 main_v430 ((fun x v => Host.reduceAdd x v reducesTo_S128x100000_S128_d1 h_S_) : T128x100000f F → T0f F → T128f F),
    unary main_v430 main_v431 (broadcastInDim S128x1 ![0] bcast_S128_S128x1_0 : T128f F → T128x1f F),
    unary main_v431 main_v432 (broadcastInDim S128x100000 ![0, 1] bcast_S128x1_S128x100000_0_1 : T128x1f F → T128x100000f F),
    binary main_v425 main_v432 main_v433 (Host.divf : T128x100000f F → T128x100000f F → T128x100000f F),
    nullary main_cst_136 (constant S_ .f32 0x33D6BF95#32),
    unary main_cst_136 main_v434 (broadcastInDim S128x100000 ![] bcast_S_S128x100000 : T0f F → T128x100000f F),
    binary main_v429 main_v434 main_v435 (addf : T128x100000f F → T128x100000f F → T128x100000f F),
    unary main_v435 main_v436 (Host.log : T128x100000f F → T128x100000f F),
    nullary main_cst_137 (constant S_ .f32 0x33D6BF95#32),
    unary main_cst_137 main_v437 (broadcastInDim S128x100000 ![] bcast_S_S128x100000 : T0f F → T128x100000f F),
    binary main_v433 main_v437 main_v438 (addf : T128x100000f F → T128x100000f F → T128x100000f F),
    unary main_v438 main_v439 (Host.log : T128x100000f F → T128x100000f F),
    binary main_v195 main_v436 main_v440 (addf : T128x100000f F → T128x100000f F → T128x100000f F),
    nullary main_call0_v0 (iotaInDim S128x100000 32 1),
    nullary main_call0_cst (constant S_ .f32 0xFF800000#32),
    nullary main_call0_c (constantI S_ 32 0#32),
    quaternary main_v440 main_call0_v0 main_call0_cst main_call0_c main_call0_v1_0 ((fun x y u v j => (Host.argReduce reducer_argmax_f32_i32 x y u v reducesTo_S128x100000_S128_d1 h_S_ j).1) : T128x100000f F → T128x100000i F → T0f F → T0i F → T128f F),
    quaternary main_v440 main_call0_v0 main_call0_cst main_call0_c main_v441 ((fun x y u v j => (Host.argReduce reducer_argmax_f32_i32 x y u v reducesTo_S128x100000_S128_d1 h_S_ j).2) : T128x100000f F → T128x100000i F → T0f F → T0i F → T128i F),
    unary main_v441 main_v442 (broadcastInDim S128x1 ![0] bcast_S128_S128x1_0 : T128i F → T128x1i F),
    binary main_v391 main_v439 main_v443 (addf : T128x100000f F → T128x100000f F → T128x100000f F),
    nullary main_call1_v0 (iotaInDim S128x100000 32 1),
    nullary main_call1_cst (constant S_ .f32 0xFF800000#32),
    nullary main_call1_c (constantI S_ 32 0#32),
    quaternary main_v443 main_call1_v0 main_call1_cst main_call1_c main_call1_v1_0 ((fun x y u v j => (Host.argReduce reducer_argmax_f32_i32 x y u v reducesTo_S128x100000_S128_d1 h_S_ j).1) : T128x100000f F → T128x100000i F → T0f F → T0i F → T128f F),
    quaternary main_v443 main_call1_v0 main_call1_cst main_call1_c main_v444 ((fun x y u v j => (Host.argReduce reducer_argmax_f32_i32 x y u v reducesTo_S128x100000_S128_d1 h_S_ j).2) : T128x100000f F → T128x100000i F → T0f F → T0i F → T128i F),
    unary main_v444 main_v445 (broadcastInDim S128x1 ![0] bcast_S128_S128x1_0 : T128i F → T128x1i F),
    binary main_v442 main_v445 main_v446 ((fun a b => concatenate S128x2 1 [⟨S128x1, a⟩, ⟨S128x1, b⟩] concatenates_S128x1_S128x1_S128x2_d1) : T128x1i F → T128x1i F → T128x2i F),
    binary main_v429 main_v433 main_v447 ((fun a b => concatenate S128x200000 1 [⟨S128x100000, a⟩, ⟨S128x100000, b⟩] concatenates_S128x100000_S128x100000_S128x200000_d1) : T128x100000f F → T128x100000f F → T128x200000f F),
    binary main_v436 main_v439 main_v448 ((fun a b => concatenate S128x200000 1 [⟨S128x100000, a⟩, ⟨S128x100000, b⟩] concatenates_S128x100000_S128x100000_S128x200000_d1) : T128x100000f F → T128x100000f F → T128x200000f F)]

/-- The program's operations, in order. -/
abbrev ops : List (HloOp τ sig (Elt F)) :=
  ops0 ++ (ops1 ++ (ops2 ++ (ops3 ++ (ops4 ++ (ops5 ++ (ops6 ++ (ops7 ++ (ops8 ++ (ops9)))))))))

/-- Piece 0 of the program is the line of its operations. -/
theorem part0_eq (c : Dev nD) : main_part0 (F := F) c = seq ops0 := rfl

/-- Piece 1 of the program is the line of its operations. -/
theorem part1_eq (c : Dev nD) : main_part1 (F := F) c = seq ops1 := rfl

/-- Piece 2 of the program is the line of its operations. -/
theorem part2_eq (c : Dev nD) : main_part2 (F := F) c = seq ops2 := rfl

/-- Piece 3 of the program is the line of its operations. -/
theorem part3_eq (c : Dev nD) : main_part3 (F := F) c = seq ops3 := rfl

/-- Piece 4 of the program is the line of its operations. -/
theorem part4_eq (c : Dev nD) : main_part4 (F := F) c = seq ops4 := rfl

/-- Piece 5 of the program is the line of its operations. -/
theorem part5_eq (c : Dev nD) : main_part5 (F := F) c = seq ops5 := rfl

/-- Piece 6 of the program is the line of its operations. -/
theorem part6_eq (c : Dev nD) : main_part6 (F := F) c = seq ops6 := rfl

/-- Piece 7 of the program is the line of its operations. -/
theorem part7_eq (c : Dev nD) : main_part7 (F := F) c = seq ops7 := rfl

/-- Piece 8 of the program is the line of its operations. -/
theorem part8_eq (c : Dev nD) : main_part8 (F := F) c = seq ops8 := rfl

/-- Piece 9 of the program is the line of its operations. -/
theorem part9_eq (c : Dev nD) : main_part9 (F := F) c = seq ops9 := rfl

/-- The program is the line of its operations. -/
theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c, ← part9_eq c]
  rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

/-- The operations of piece 0 touch the main core's buffers only. -/
theorem ops0_sub : (ops0 : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩

/-- The operations of piece 0 determine their results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of piece 0 write consecutive buffers. -/
theorem ops0_chain : Chain 2 (ops0 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- The operations of piece 1 touch the main core's buffers only. -/
theorem ops1_sub : (ops1 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩

/-- The operations of piece 1 determine their results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of piece 1 write consecutive buffers. -/
theorem ops1_chain : Chain 62 (ops1 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- The operations of piece 2 touch the main core's buffers only. -/
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub ..⟩

/-- The operations of piece 2 determine their results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of piece 2 write consecutive buffers. -/
theorem ops2_chain : Chain 122 (ops2 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- The operations of piece 3 touch the main core's buffers only. -/
theorem ops3_sub : (ops3 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩

/-- The operations of piece 3 determine their results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of piece 3 write consecutive buffers. -/
theorem ops3_chain : Chain 182 (ops3 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- The operations of piece 4 touch the main core's buffers only. -/
theorem ops4_sub : (ops4 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩

/-- The operations of piece 4 determine their results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of piece 4 write consecutive buffers. -/
theorem ops4_chain : Chain 242 (ops4 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- The operations of piece 5 touch the main core's buffers only. -/
theorem ops5_sub : (ops5 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub ..⟩

/-- The operations of piece 5 determine their results. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of piece 5 write consecutive buffers. -/
theorem ops5_chain : Chain 302 (ops5 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- The operations of piece 6 touch the main core's buffers only. -/
theorem ops6_sub : (ops6 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩

/-- The operations of piece 6 determine their results. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of piece 6 write consecutive buffers. -/
theorem ops6_chain : Chain 362 (ops6 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- The operations of piece 7 touch the main core's buffers only. -/
theorem ops7_sub : (ops7 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩

/-- The operations of piece 7 determine their results. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of piece 7 write consecutive buffers. -/
theorem ops7_chain : Chain 422 (ops7 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- The operations of piece 8 touch the main core's buffers only. -/
theorem ops8_sub : (ops8 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub ..⟩

/-- The operations of piece 8 determine their results. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of piece 8 write consecutive buffers. -/
theorem ops8_chain : Chain 482 (ops8 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- The operations of piece 9 touch the main core's buffers only. -/
theorem ops9_sub : (ops9 : List (HloOp τ sig (Elt F))).Forall fun op => op.bufs ⊆ tcRefs τ sig :=
  ⟨binary_bufs_sub .., binary_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., nullary_bufs_sub .., nullary_bufs_sub .., quaternary_bufs_sub .., quaternary_bufs_sub .., unary_bufs_sub .., binary_bufs_sub .., nullary_bufs_sub .., nullary_bufs_sub .., nullary_bufs_sub .., quaternary_bufs_sub .., quaternary_bufs_sub .., unary_bufs_sub .., binary_bufs_sub .., binary_bufs_sub .., binary_bufs_sub ..⟩

/-- The operations of piece 9 determine their results. -/
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of piece 9 write consecutive buffers. -/
theorem ops9_chain : Chain 542 (ops9 : List (HloOp τ sig (Elt F))) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, trivial⟩

/-- The operations touch the main core's buffers only. -/
theorem ops_sub : (ops : List (HloOp τ sig (Elt F))).Forall fun op => op.bufs ⊆ tcRefs τ sig :=
  (List.forall_append.mpr ⟨ops0_sub, (List.forall_append.mpr ⟨ops1_sub, (List.forall_append.mpr ⟨ops2_sub, (List.forall_append.mpr ⟨ops3_sub, (List.forall_append.mpr ⟨ops4_sub, (List.forall_append.mpr ⟨ops5_sub, (List.forall_append.mpr ⟨ops6_sub, (List.forall_append.mpr ⟨ops7_sub, (List.forall_append.mpr ⟨ops8_sub, ops9_sub⟩)⟩)⟩)⟩)⟩)⟩)⟩)⟩)⟩)

/-- The operations determine their results. -/
theorem ops_fresh : ∀ op ∈ (ops : List (HloOp τ sig (Elt F))), op.fresh = ∅ :=
  List.forall_iff_forall_mem.mp (List.forall_append.mpr ⟨ops0_fresh, (List.forall_append.mpr ⟨ops1_fresh, (List.forall_append.mpr ⟨ops2_fresh, (List.forall_append.mpr ⟨ops3_fresh, (List.forall_append.mpr ⟨ops4_fresh, (List.forall_append.mpr ⟨ops5_fresh, (List.forall_append.mpr ⟨ops6_fresh, (List.forall_append.mpr ⟨ops7_fresh, (List.forall_append.mpr ⟨ops8_fresh, ops9_fresh⟩)⟩)⟩)⟩)⟩)⟩)⟩)⟩)⟩)

/-- The operations write consecutive buffers, from the first after the arguments. -/
theorem ops_chain : Chain 2 (ops : List (HloOp τ sig (Elt F))) :=
  (ops0_chain.append (ops1_chain.append (ops2_chain.append (ops3_chain.append (ops4_chain.append (ops5_chain.append (ops6_chain.append (ops7_chain.append (ops8_chain.append ops9_chain)))))))))

/-- Every run of the program ends with each buffer at the contents after the line of its operations. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ fun _ => ops_fresh

/-- The equations of piece 0 at the contents after the run. -/
theorem eqs0 (V : Valuation τ sig (Elt F)) : Eqs (after ops V) 2 ops0 :=
  (eqs_of_chain ops_chain V).left

/-- The equations of piece 1 at the contents after the run. -/
theorem eqs1 (V : Valuation τ sig (Elt F)) : Eqs (after ops V) 62 ops1 :=
  (eqs_of_chain ops_chain V).right.left

/-- The equations of piece 2 at the contents after the run. -/
theorem eqs2 (V : Valuation τ sig (Elt F)) : Eqs (after ops V) 122 ops2 :=
  (eqs_of_chain ops_chain V).right.right.left

/-- The equations of piece 3 at the contents after the run. -/
theorem eqs3 (V : Valuation τ sig (Elt F)) : Eqs (after ops V) 182 ops3 :=
  (eqs_of_chain ops_chain V).right.right.right.left

/-- The equations of piece 4 at the contents after the run. -/
theorem eqs4 (V : Valuation τ sig (Elt F)) : Eqs (after ops V) 242 ops4 :=
  (eqs_of_chain ops_chain V).right.right.right.right.left

/-- The equations of piece 5 at the contents after the run. -/
theorem eqs5 (V : Valuation τ sig (Elt F)) : Eqs (after ops V) 302 ops5 :=
  (eqs_of_chain ops_chain V).right.right.right.right.right.left

/-- The equations of piece 6 at the contents after the run. -/
theorem eqs6 (V : Valuation τ sig (Elt F)) : Eqs (after ops V) 362 ops6 :=
  (eqs_of_chain ops_chain V).right.right.right.right.right.right.left

/-- The equations of piece 7 at the contents after the run. -/
theorem eqs7 (V : Valuation τ sig (Elt F)) : Eqs (after ops V) 422 ops7 :=
  (eqs_of_chain ops_chain V).right.right.right.right.right.right.right.left

/-- The equations of piece 8 at the contents after the run. -/
theorem eqs8 (V : Valuation τ sig (Elt F)) : Eqs (after ops V) 482 ops8 :=
  (eqs_of_chain ops_chain V).right.right.right.right.right.right.right.right.left

/-- The equations of piece 9 at the contents after the run. -/
theorem eqs9 (V : Valuation τ sig (Elt F)) : Eqs (after ops V) 542 ops9 :=
  (eqs_of_chain ops_chain V).right.right.right.right.right.right.right.right.right

end Cert.Ref

end
-- ==== Proof.RefNoise.lean ====
/-
  The two noise arrays of the reference program, read at an index: each is the noise value of the random word of the
  index's row-major position.
-/
module

public import proofs.«01_k».proof.Proof.RefRun

@[expose] public section

set_option maxRecDepth 16384

noncomputable section

namespace Cert.Ref

open Cert.ReferenceIdeal Cert.ReferenceIdeal.Gen Idealize.ShloMosaic Idealize.ShloMosaic.TcCoe Idealize.ShloMosaic.StableHlo Cert.Ssa

variable {F : FTy → Type} [FloatOps F]

/-- The counter of an index: row times width plus column, as a word. -/
def counter (j : S128x100000.Idx) : BitVec 32 :=
  IntOp.addi (IntOp.muli (iotaInDim S128x100000 32 0 j) 100000#32) (iotaInDim S128x100000 32 1 j)

/-- The noise of branch 0 at an index. -/
theorem noise0 {W : Valuation τ sig (Elt F)} (E0 : Eqs W 2 ops0) (E1 : Eqs W 62 ops1) (E2 : Eqs W 122 ops2) (E3 : Eqs W 182 ops3) (E4 : Eqs W 242 ops4) (j : S128x100000.Idx) :
    (W (Proc.devRef .tc main_v195) : FVec F S128x100000 .f32) j = noise (draw 1832780943#32 270669613#32 1724713080#32 (counter j)) := by
  have h : ((W (Proc.devRef .tc main_v0) : IVec S128x100000 32) j, (W (Proc.devRef .tc main_v7) : IVec S128x100000 32) j) = _ :=
    grid_start (s := S128x100000) (s0 := S_) (E0.nul 0 rfl) (E0.un 1 rfl (by decide)) (E0.nul 3 rfl) (E0.un 4 rfl (by decide)) (E0.bin 5 rfl (by decide) (by decide)) (E0.bin 7 rfl (by decide) (by decide)) (E0.nul 8 rfl) (E0.un 9 rfl (by decide)) (E0.bin 10 rfl (by decide) (by decide)) j
  rw [show (W (Proc.devRef .tc main_v1) : IVec S128x100000 32) = iotaInDim S128x100000 32 0 from (E0.nul 2 rfl), show (W (Proc.devRef .tc main_v4) : IVec S128x100000 32) = iotaInDim S128x100000 32 1 from (E0.nul 6 rfl)] at h
  replace h : ((W (Proc.devRef .tc main_v8) : IVec S128x100000 32) j, (W (Proc.devRef .tc main_v14) : IVec S128x100000 32) j) = _ :=
    round_at (s := S128x100000) (s0 := S_) (E0.bin 11 rfl (by decide) (by decide)) (E0.nul 12 rfl) (E0.un 13 rfl (by decide)) (E0.bin 14 rfl (by decide) (by decide)) (E0.nul 15 rfl) (E0.un 16 rfl (by decide)) (E0.bin 17 rfl (by decide) (by decide)) (E0.bin 18 rfl (by decide) (by decide)) (Or.inr (E0.bin 19 rfl (by decide) (by decide))) j h
  replace h : ((W (Proc.devRef .tc main_v15) : IVec S128x100000 32) j, (W (Proc.devRef .tc main_v21) : IVec S128x100000 32) j) = _ :=
    round_at (s := S128x100000) (s0 := S_) (E0.bin 20 rfl (by decide) (by decide)) (E0.nul 21 rfl) (E0.un 22 rfl (by decide)) (E0.bin 23 rfl (by decide) (by decide)) (E0.nul 24 rfl) (E0.un 25 rfl (by decide)) (E0.bin 26 rfl (by decide) (by decide)) (E0.bin 27 rfl (by decide) (by decide)) (Or.inr (E0.bin 28 rfl (by decide) (by decide))) j h
  replace h : ((W (Proc.devRef .tc main_v22) : IVec S128x100000 32) j, (W (Proc.devRef .tc main_v28) : IVec S128x100000 32) j) = _ :=
    round_at (s := S128x100000) (s0 := S_) (E0.bin 29 rfl (by decide) (by decide)) (E0.nul 30 rfl) (E0.un 31 rfl (by decide)) (E0.bin 32 rfl (by decide) (by decide)) (E0.nul 33 rfl) (E0.un 34 rfl (by decide)) (E0.bin 35 rfl (by decide) (by decide)) (E0.bin 36 rfl (by decide) (by decide)) (Or.inr (E0.bin 37 rfl (by decide) (by decide))) j h
  replace h : ((W (Proc.devRef .tc main_v29) : IVec S128x100000 32) j, (W (Proc.devRef .tc main_v35) : IVec S128x100000 32) j) = _ :=
    round_at (s := S128x100000) (s0 := S_) (E0.bin 38 rfl (by decide) (by decide)) (E0.nul 39 rfl) (E0.un 40 rfl (by decide)) (E0.bin 41 rfl (by decide) (by decide)) (E0.nul 42 rfl) (E0.un 43 rfl (by decide)) (E0.bin 44 rfl (by decide) (by decide)) (E0.bin 45 rfl (by decide) (by decide)) (Or.inr (E0.bin 46 rfl (by decide) (by decide))) j h
  replace h : ((W (Proc.devRef .tc main_v37) : IVec S128x100000 32) j, (W (Proc.devRef .tc main_v41) : IVec S128x100000 32) j) = _ :=
    inject_at' (s := S128x100000) (s0 := S_) (E0.nul 47 rfl) (E0.un 48 rfl (by decide)) (E0.bin 49 rfl (by decide) (by decide)) (E0.nul 50 rfl) (E0.un 51 rfl (by decide)) (E0.bin 52 rfl (by decide) (by decide)) (E0.nul 53 rfl) (E0.un 54 rfl (by decide)) (E0.bin 55 rfl (by decide) (by decide)) j h
  replace h : ((W (Proc.devRef .tc main_v42) : IVec S128x100000 32) j, (W (Proc.devRef .tc main_v48) : IVec S128x100000 32) j) = _ :=
    round_at (s := S128x100000) (s0 := S_) (E0.bin 56 rfl (by decide) (by decide)) (E0.nul 57 rfl) (E0.un 58 rfl (by decide)) (E0.bin 59 rfl (by decide) (by decide)) (E1.nul 0 rfl) (E1.un 1 rfl (by decide)) (E1.bin 2 rfl (by decide) (by decide)) (E1.bin 3 rfl (by decide) (by decide)) (Or.inr (E1.bin 4 rfl (by decide) (by decide))) j h
  replace h : ((W (Proc.devRef .tc main_v49) : IVec S128x100000 32) j, (W (Proc.devRef .tc main_v55) : IVec S128x100000 32) j) = _ :=
    round_at (s := S128x100000) (s0 := S_) (E1.bin 5 rfl (by decide) (by decide)) (E1.nul 6 rfl) (E1.un 7 rfl (by decide)) (E1.bin 8 rfl (by decide) (by decide)) (E1.nul 9 rfl) (E1.un 10 rfl (by decide)) (E1.bin 11 rfl (by decide) (by decide)) (E1.bin 12 rfl (by decide) (by decide)) (Or.inr (E1.bin 13 rfl (by decide) (by decide))) j h
  replace h : ((W (Proc.devRef .tc main_v56) : IVec S128x100000 32) j, (W (Proc.devRef .tc main_v62) : IVec S128x100000 32) j) = _ :=
    round_at (s := S128x100000) (s0 := S_) (E1.bin 14 rfl (by decide) (by decide)) (E1.nul 15 rfl) (E1.un 16 rfl (by decide)) (E1.bin 17 rfl (by decide) (by decide)) (E1.nul 18 rfl) (E1.un 19 rfl (by decide)) (E1.bin 20 rfl (by decide) (by decide)) (E1.bin 21 rfl (by decide) (by decide)) (Or.inr (E1.bin 22 rfl (by decide) (by decide))) j h
  replace h : ((W (Proc.devRef .tc main_v63) : IVec S128x100000 32) j, (W (Proc.devRef .tc main_v69) : IVec S128x100000 32) j) = _ :=
    round_at (s := S128x100000) (s0 := S_) (E1.bin 23 rfl (by decide) (by decide)) (E1.nul 24 rfl) (E1.un 25 rfl (by decide)) (E1.bin 26 rfl (by decide) (by decide)) (E1.nul 27 rfl) (E1.un 28 rfl (by decide)) (E1.bin 29 rfl (by decide) (by decide)) (E1.bin 30 rfl (by decide) (by decide)) (Or.inr (E1.bin 31 rfl (by decide) (by decide))) j h
  replace h : ((W (Proc.devRef .tc main_v71) : IVec S128x100000 32) j, (W (Proc.devRef .tc main_v75) : IVec S128x100000 32) j) = _ :=
    inject_at' (s := S128x100000) (s0 := S_) (E1.nul 32 rfl) (E1.un 33 rfl (by decide)) (E1.bin 34 rfl (by decide) (by decide)) (E1.nul 35 rfl) (E1.un 36 rfl (by decide)) (E1.bin 37 rfl (by decide) (by decide)) (E1.nul 38 rfl) (E1.un 39 rfl (by decide)) (E1.bin 40 rfl (by decide) (by decide)) j h
  replace h : ((W (Proc.devRef .tc main_v76) : IVec S128x100000 32) j, (W (Proc.devRef .tc main_v82) : IVec S128x100000 32) j) = _ :=
    round_at (s := S128x100000) (s0 := S_) (E1.bin 41 rfl (by decide) (by decide)) (E1.nul 42 rfl) (E1.un 43 rfl (by decide)) (E1.bin 44 rfl (by decide) (by decide)) (E1.nul 45 rfl) (E1.un 46 rfl (by decide)) (E1.bin 47 rfl (by decide) (by decide)) (E1.bin 48 rfl (by decide) (by decide)) (Or.inr (E1.bin 49 rfl (by decide) (by decide))) j h
  replace h : ((W (Proc.devRef .tc main_v83) : IVec S128x100000 32) j, (W (Proc.devRef .tc main_v89) : IVec S128x100000 32) j) = _ :=
    round_at (s := S128x100000) (s0 := S_) (E1.bin 50 rfl (by decide) (by decide)) (E1.nul 51 rfl) (E1.un 52 rfl (by decide)) (E1.bin 53 rfl (by decide) (by decide)) (E1.nul 54 rfl) (E1.un 55 rfl (by decide)) (E1.bin 56 rfl (by decide) (by decide)) (E1.bin 57 rfl (by decide) (by decide)) (Or.inr (E1.bin 58 rfl (by decide) (by decide))) j h
  replace h : ((W (Proc.devRef .tc main_v90) : IVec S128x100000 32) j, (W (Proc.devRef .tc main_v96) : IVec S128x100000 32) j) = _ :=
    round_at (s := S128x100000) (s0 := S_) (E1.bin 59 rfl (by decide) (by decide)) (E2.nul 0 rfl) (E2.un 1 rfl (by decide)) (E2.bin 2 rfl (by decide) (by decide)) (E2.nul 3 rfl) (E2.un 4 rfl (by decide)) (E2.bin 5 rfl (by decide) (by decide)) (E2.bin 6 rfl (by decide) (by decide)) (Or.inr (E2.bin 7 rfl (by decide) (by decide))) j h
  replace h : ((W (Proc.devRef .tc main_v97) : IVec S128x100000 32) j, (W (Proc.devRef .tc main_v103) : IVec S128x100000 32) j) = _ :=
    round_at (s := S128x100000) (s0 := S_) (E2.bin 8 rfl (by decide) (by decide)) (E2.nul 9 rfl) (E2.un 10 rfl (by decide)) (E2.bin 11 rfl (by decide) (by decide)) (E2.nul 12 rfl) (E2.un 13 rfl (by decide)) (E2.bin 14 rfl (by decide) (by decide)) (E2.bin 15 rfl (by decide) (by decide)) (Or.inr (E2.bin 16 rfl (by decide) (by decide))) j h
  replace h : ((W (Proc.devRef .tc main_v105) : IVec S128x100000 32) j, (W (Proc.devRef .tc main_v109) : IVec S128x100000 32) j) = _ :=
    inject_at' (s := S128x100000) (s0 := S_) (E2.nul 17 rfl) (E2.un 18 rfl (by decide)) (E2.bin 19 rfl (by decide) (by decide)) (E2.nul 20 rfl) (E2.un 21 rfl (by decide)) (E2.bin 22 rfl (by decide) (by decide)) (E2.nul 23 rfl) (E2.un 24 rfl (by decide)) (E2.bin 25 rfl (by decide) (by decide)) j h
  replace h : ((W (Proc.devRef .tc main_v110) : IVec S128x100000 32) j, (W (Proc.devRef .tc main_v116) : IVec S128x100000 32) j) = _ :=
    round_at (s := S128x100000) (s0 := S_) (E2.bin 26 rfl (by decide) (by decide)) (E2.nul 27 rfl) (E2.un 28 rfl (by decide)) (E2.bin 29 rfl (by decide) (by decide)) (E2.nul 30 rfl) (E2.un 31 rfl (by decide)) (E2.bin 32 rfl (by decide) (by decide)) (E2.bin 33 rfl (by decide) (by decide)) (Or.inr (E2.bin 34 rfl (by decide) (by decide))) j h
  replace h : ((W (Proc.devRef .tc main_v117) : IVec S128x100000 32) j, (W (Proc.devRef .tc main_v123) : IVec S128x100000 32) j) = _ :=
    round_at (s := S128x100000) (s0 := S_) (E2.bin 35 rfl (by decide) (by decide)) (E2.nul 36 rfl) (E2.un 37 rfl (by decide)) (E2.bin 38 rfl (by decide) (by decide)) (E2.nul 39 rfl) (E2.un 40 rfl (by decide)) (E2.bin 41 rfl (by decide) (by decide)) (E2.bin 42 rfl (by decide) (by decide)) (Or.inr (E2.bin 43 rfl (by decide) (by decide))) j h
  replace h : ((W (Proc.devRef .tc main_v124) : IVec S128x100000 32) j, (W (Proc.devRef .tc main_v130) : IVec S128x100000 32) j) = _ :=
    round_at (s := S128x100000) (s0 := S_) (E2.bin 44 rfl (by decide) (by decide)) (E2.nul 45 rfl) (E2.un 46 rfl (by decide)) (E2.bin 47 rfl (by decide) (by decide)) (E2.nul 48 rfl) (E2.un 49 rfl (by decide)) (E2.bin 50 rfl (by decide) (by decide)) (E2.bin 51 rfl (by decide) (by decide)) (Or.inr (E2.bin 52 rfl (by decide) (by decide))) j h
  replace h : ((W (Proc.devRef .tc main_v131) : IVec S128x100000 32) j, (W (Proc.devRef .tc main_v137) : IVec S128x100000 32) j) = _ :=
    round_at (s := S128x100000) (s0 := S_) (E2.bin 53 rfl (by decide) (by decide)) (E2.nul 54 rfl) (E2.un 55 rfl (by decide)) (E2.bin 56 rfl (by decide) (by decide)) (E2.nul 57 rfl) (E2.un 58 rfl (by decide)) (E2.bin 59 rfl (by decide) (by decide)) (E3.bin 0 rfl (by decide) (by decide)) (Or.inr (E3.bin 1 rfl (by decide) (by decide))) j h
  replace h : ((W (Proc.devRef .tc main_v139) : IVec S128x100000 32) j, (W (Proc.devRef .tc main_v143) : IVec S128x100000 32) j) = _ :=
    inject_at' (s := S128x100000) (s0 := S_) (E3.nul 2 rfl) (E3.un 3 rfl (by decide)) (E3.bin 4 rfl (by decide) (by decide)) (E3.nul 5 rfl) (E3.un 6 rfl (by decide)) (E3.bin 7 rfl (by decide) (by decide)) (E3.nul 8 rfl) (E3.un 9 rfl (by decide)) (E3.bin 10 rfl (by decide) (by decide)) j h
  replace h : ((W (Proc.devRef .tc main_v144) : IVec S128x100000 32) j, (W (Proc.devRef .tc main_v150) : IVec S128x100000 32) j) = _ :=
    round_at (s := S128x100000) (s0 := S_) (E3.bin 11 rfl (by decide) (by decide)) (E3.nul 12 rfl) (E3.un 13 rfl (by decide)) (E3.bin 14 rfl (by decide) (by decide)) (E3.nul 15 rfl) (E3.un 16 rfl (by decide)) (E3.bin 17 rfl (by decide) (by decide)) (E3.bin 18 rfl (by decide) (by decide)) (Or.inr (E3.bin 19 rfl (by decide) (by decide))) j h
  replace h : ((W (Proc.devRef .tc main_v151) : IVec S128x100000 32) j, (W (Proc.devRef .tc main_v157) : IVec S128x100000 32) j) = _ :=
    round_at (s := S128x100000) (s0 := S_) (E3.bin 20 rfl (by decide) (by decide)) (E3.nul 21 rfl) (E3.un 22 rfl (by decide)) (E3.bin 23 rfl (by decide) (by decide)) (E3.nul 24 rfl) (E3.un 25 rfl (by decide)) (E3.bin 26 rfl (by decide) (by decide)) (E3.bin 27 rfl (by decide) (by decide)) (Or.inr (E3.bin 28 rfl (by decide) (by decide))) j h
  replace h : ((W (Proc.devRef .tc main_v158) : IVec S128x100000 32) j, (W (Proc.devRef .tc main_v164) : IVec S128x100000 32) j) = _ :=
    round_at (s := S128x100000) (s0 := S_) (E3.bin 29 rfl (by decide) (by decide)) (E3.nul 30 rfl) (E3.un 31 rfl (by decide)) (E3.bin 32 rfl (by decide) (by decide)) (E3.nul 33 rfl) (E3.un 34 rfl (by decide)) (E3.bin 35 rfl (by decide) (by decide)) (E3.bin 36 rfl (by decide) (by decide)) (Or.inr (E3.bin 37 rfl (by decide) (by decide))) j h
  replace h : ((W (Proc.devRef .tc main_v165) : IVec S128x100000 32) j, (W (Proc.devRef .tc main_v171) : IVec S128x100000 32) j) = _ :=
    round_at (s := S128x100000) (s0 := S_) (E3.bin 38 rfl (by decide) (by decide)) (E3.nul 39 rfl) (E3.un 40 rfl (by decide)) (E3.bin 41 rfl (by decide) (by decide)) (E3.nul 42 rfl) (E3.un 43 rfl (by decide)) (E3.bin 44 rfl (by decide) (by decide)) (E3.bin 45 rfl (by decide) (by decide)) (Or.inr (E3.bin 46 rfl (by decide) (by decide))) j h
  replace h : ((W (Proc.devRef .tc main_v173) : IVec S128x100000 32) j, (W (Proc.devRef .tc main_v177) : IVec S128x100000 32) j) = _ :=
    inject_at' (s := S128x100000) (s0 := S_) (E3.nul 47 rfl) (E3.un 48 rfl (by decide)) (E3.bin 49 rfl (by decide) (by decide)) (E3.nul 50 rfl) (E3.un 51 rfl (by decide)) (E3.bin 52 rfl (by decide) (by decide)) (E3.nul 53 rfl) (E3.un 54 rfl (by decide)) (E3.bin 55 rfl (by decide) (by decide)) j h
  exact noise_at (s := S128x100000) (s0 := S_) (E3.bin 56 rfl (by decide) (by decide)) (E3.nul 57 rfl) (E3.un 58 rfl (by decide)) (E3.bin 59 rfl (by decide) (by decide)) (E4.nul 0 rfl) (E4.un 1 rfl (by decide)) (E4.bin 2 rfl (by decide) (by decide)) (E4.un 3 rfl (by decide)) (E4.nul 4 rfl) (E4.un 5 rfl (by decide)) (E4.bin 6 rfl (by decide) (by decide)) (E4.nul 7 rfl) (E4.un 8 rfl (by decide)) (E4.bin 9 rfl (by decide) (by decide)) (E4.nul 10 rfl) (E4.un 11 rfl (by decide)) (E4.bin 12 rfl (by decide) (by decide)) (E4.nul 13 rfl) (E4.un 14 rfl (by decide)) (E4.bin 15 rfl (by decide) (by decide)) (E4.un 16 rfl (by decide)) (E4.un 17 rfl (by decide)) (E4.un 18 rfl (by decide)) (E4.un 19 rfl (by decide)) j h

/-- The noise of branch 1 at an index. -/
theorem noise1 {W : Valuation τ sig (Elt F)} (E4 : Eqs W 242 ops4) (E5 : Eqs W 302 ops5) (E6 : Eqs W 362 ops6) (E7 : Eqs W 422 ops7) (E8 : Eqs W 482 ops8) (j : S128x100000.Idx) :
    (W (Proc.devRef .tc main_v391) : FVec F S128x100000 .f32) j = noise (draw 64467757#32 2916123636#32 3050711811#32 (counter j)) := by
  have h : ((W (Proc.devRef .tc main_v196) : IVec S128x100000 32) j, (W (Proc.devRef .tc main_v203) : IVec S128x100000 32) j) = _ :=
    grid_start (s := S128x100000) (s0 := S_) (E4.nul 20 rfl) (E4.un 21 rfl (by decide)) (E4.nul 23 rfl) (E4.un 24 rfl (by decide)) (E4.bin 25 rfl (by decide) (by decide)) (E4.bin 27 rfl (by decide) (by decide)) (E4.nul 28 rfl) (E4.un 29 rfl (by decide)) (E4.bin 30 rfl (by decide) (by decide)) j
  rw [show (W (Proc.devRef .tc main_v197) : IVec S128x100000 32) = iotaInDim S128x100000 32 0 from (E4.nul 22 rfl), show (W (Proc.devRef .tc main_v200) : IVec S128x100000 32) = iotaInDim S128x100000 32 1 from (E4.nul 26 rfl)] at h
  replace h : ((W (Proc.devRef .tc main_v204) : IVec S128x100000 32) j, (W (Proc.devRef .tc main_v210) : IVec S128x100000 32) j) = _ :=
    round_at (s := S128x100000) (s0 := S_) (E4.bin 31 rfl (by decide) (by decide)) (E4.nul 32 rfl) (E4.un 33 rfl (by decide)) (E4.bin 34 rfl (by decide) (by decide)) (E4.nul 35 rfl) (E4.un 36 rfl (by decide)) (E4.bin 37 rfl (by decide) (by decide)) (E4.bin 38 rfl (by decide) (by decide)) (Or.inr (E4.bin 39 rfl (by decide) (by decide))) j h
  replace h : ((W (Proc.devRef .tc main_v211) : IVec S128x100000 32) j, (W (Proc.devRef .tc main_v217) : IVec S128x100000 32) j) = _ :=
    round_at (s := S128x100000) (s0 := S_) (E4.bin 40 rfl (by decide) (by decide)) (E4.nul 41 rfl) (E4.un 42 rfl (by decide)) (E4.bin 43 rfl (by decide) (by decide)) (E4.nul 44 rfl) (E4.un 45 rfl (by decide)) (E4.bin 46 rfl (by decide) (by decide)) (E4.bin 47 rfl (by decide) (by decide)) (Or.inr (E4.bin 48 rfl (by decide) (by decide))) j h
  replace h : ((W (Proc.devRef .tc main_v218) : IVec S128x100000 32) j, (W (Proc.devRef .tc main_v224) : IVec S128x100000 32) j) = _ :=
    round_at (s := S128x100000) (s0 := S_) (E4.bin 49 rfl (by decide) (by decide)) (E4.nul 50 rfl) (E4.un 51 rfl (by decide)) (E4.bin 52 rfl (by decide) (by decide)) (E4.nul 53 rfl) (E4.un 54 rfl (by decide)) (E4.bin 55 rfl (by decide) (by decide)) (E4.bin 56 rfl (by decide) (by decide)) (Or.inr (E4.bin 57 rfl (by decide) (by decide))) j h
  replace h : ((W (Proc.devRef .tc main_v225) : IVec S128x100000 32) j, (W (Proc.devRef .tc main_v231) : IVec S128x100000 32) j) = _ :=
    round_at (s := S128x100000) (s0 := S_) (E4.bin 58 rfl (by decide) (by decide)) (E4.nul 59 rfl) (E5.un 0 rfl (by decide)) (E5.bin 1 rfl (by decide) (by decide)) (E5.nul 2 rfl) (E5.un 3 rfl (by decide)) (E5.bin 4 rfl (by decide) (by decide)) (E5.bin 5 rfl (by decide) (by decide)) (Or.inr (E5.bin 6 rfl (by decide) (by decide))) j h
  replace h : ((W (Proc.devRef .tc main_v233) : IVec S128x100000 32) j, (W (Proc.devRef .tc main_v237) : IVec S128x100000 32) j) = _ :=
    inject_at' (s := S128x100000) (s0 := S_) (E5.nul 7 rfl) (E5.un 8 rfl (by decide)) (E5.bin 9 rfl (by decide) (by decide)) (E5.nul 10 rfl) (E5.un 11 rfl (by decide)) (E5.bin 12 rfl (by decide) (by decide)) (E5.nul 13 rfl) (E5.un 14 rfl (by decide)) (E5.bin 15 rfl (by decide) (by decide)) j h
  replace h : ((W (Proc.devRef .tc main_v238) : IVec S128x100000 32) j, (W (Proc.devRef .tc main_v244) : IVec S128x100000 32) j) = _ :=
    round_at (s := S128x100000) (s0 := S_) (E5.bin 16 rfl (by decide) (by decide)) (E5.nul 17 rfl) (E5.un 18 rfl (by decide)) (E5.bin 19 rfl (by decide) (by decide)) (E5.nul 20 rfl) (E5.un 21 rfl (by decide)) (E5.bin 22 rfl (by decide) (by decide)) (E5.bin 23 rfl (by decide) (by decide)) (Or.inr (E5.bin 24 rfl (by decide) (by decide))) j h
  replace h : ((W (Proc.devRef .tc main_v245) : IVec S128x100000 32) j, (W (Proc.devRef .tc main_v251) : IVec S128x100000 32) j) = _ :=
    round_at (s := S128x100000) (s0 := S_) (E5.bin 25 rfl (by decide) (by decide)) (E5.nul 26 rfl) (E5.un 27 rfl (by decide)) (E5.bin 28 rfl (by decide) (by decide)) (E5.nul 29 rfl) (E5.un 30 rfl (by decide)) (E5.bin 31 rfl (by decide) (by decide)) (E5.bin 32 rfl (by decide) (by decide)) (Or.inr (E5.bin 33 rfl (by decide) (by decide))) j h
  replace h : ((W (Proc.devRef .tc main_v252) : IVec S128x100000 32) j, (W (Proc.devRef .tc main_v258) : IVec S128x100000 32) j) = _ :=
    round_at (s := S128x100000) (s0 := S_) (E5.bin 34 rfl (by decide) (by decide)) (E5.nul 35 rfl) (E5.un 36 rfl (by decide)) (E5.bin 37 rfl (by decide) (by decide)) (E5.nul 38 rfl) (E5.un 39 rfl (by decide)) (E5.bin 40 rfl (by decide) (by decide)) (E5.bin 41 rfl (by decide) (by decide)) (Or.inr (E5.bin 42 rfl (by decide) (by decide))) j h
  replace h : ((W (Proc.devRef .tc main_v259) : IVec S128x100000 32) j, (W (Proc.devRef .tc main_v265) : IVec S128x100000 32) j) = _ :=
    round_at (s := S128x100000) (s0 := S_) (E5.bin 43 rfl (by decide) (by decide)) (E5.nul 44 rfl) (E5.un 45 rfl (by decide)) (E5.bin 46 rfl (by decide) (by decide)) (E5.nul 47 rfl) (E5.un 48 rfl (by decide)) (E5.bin 49 rfl (by decide) (by decide)) (E5.bin 50 rfl (by decide) (by decide)) (Or.inr (E5.bin 51 rfl (by decide) (by decide))) j h
  replace h : ((W (Proc.devRef .tc main_v267) : IVec S128x100000 32) j, (W (Proc.devRef .tc main_v271) : IVec S128x100000 32) j) = _ :=
    inject_at' (s := S128x100000) (s0 := S_) (E5.nul 52 rfl) (E5.un 53 rfl (by decide)) (E5.bin 54 rfl (by decide) (by decide)) (E5.nul 55 rfl) (E5.un 56 rfl (by decide)) (E5.bin 57 rfl (by decide) (by decide)) (E5.nul 58 rfl) (E5.un 59 rfl (by decide)) (E6.bin 0 rfl (by decide) (by decide)) j h
  replace h : ((W (Proc.devRef .tc main_v272) : IVec S128x100000 32) j, (W (Proc.devRef .tc main_v278) : IVec S128x100000 32) j) = _ :=
    round_at (s := S128x100000) (s0 := S_) (E6.bin 1 rfl (by decide) (by decide)) (E6.nul 2 rfl) (E6.un 3 rfl (by decide)) (E6.bin 4 rfl (by decide) (by decide)) (E6.nul 5 rfl) (E6.un 6 rfl (by decide)) (E6.bin 7 rfl (by decide) (by decide)) (E6.bin 8 rfl (by decide) (by decide)) (Or.inr (E6.bin 9 rfl (by decide) (by decide))) j h
  replace h : ((W (Proc.devRef .tc main_v279) : IVec S128x100000 32) j, (W (Proc.devRef .tc main_v285) : IVec S128x100000 32) j) = _ :=
    round_at (s := S128x100000) (s0 := S_) (E6.bin 10 rfl (by decide) (by decide)) (E6.nul 11 rfl) (E6.un 12 rfl (by decide)) (E6.bin 13 rfl (by decide) (by decide)) (E6.nul 14 rfl) (E6.un 15 rfl (by decide)) (E6.bin 16 rfl (by decide) (by decide)) (E6.bin 17 rfl (by decide) (by decide)) (Or.inr (E6.bin 18 rfl (by decide) (by decide))) j h
  replace h : ((W (Proc.devRef .tc main_v286) : IVec S128x100000 32) j, (W (Proc.devRef .tc main_v292) : IVec S128x100000 32) j) = _ :=
    round_at (s := S128x100000) (s0 := S_) (E6.bin 19 rfl (by decide) (by decide)) (E6.nul 20 rfl) (E6.un 21 rfl (by decide)) (E6.bin 22 rfl (by decide) (by decide)) (E6.nul 23 rfl) (E6.un 24 rfl (by decide)) (E6.bin 25 rfl (by decide) (by decide)) (E6.bin 26 rfl (by decide) (by decide)) (Or.inr (E6.bin 27 rfl (by decide) (by decide))) j h
  replace h : ((W (Proc.devRef .tc main_v293) : IVec S128x100000 32) j, (W (Proc.devRef .tc main_v299) : IVec S128x100000 32) j) = _ :=
    round_at (s := S128x100000) (s0 := S_) (E6.bin 28 rfl (by decide) (by decide)) (E6.nul 29 rfl) (E6.un 30 rfl (by decide)) (E6.bin 31 rfl (by decide) (by decide)) (E6.nul 32 rfl) (E6.un 33 rfl (by decide)) (E6.bin 34 rfl (by decide) (by decide)) (E6.bin 35 rfl (by decide) (by decide)) (Or.inr (E6.bin 36 rfl (by decide) (by decide))) j h
  replace h : ((W (Proc.devRef .tc main_v301) : IVec S128x100000 32) j, (W (Proc.devRef .tc main_v305) : IVec S128x100000 32) j) = _ :=
    inject_at' (s := S128x100000) (s0 := S_) (E6.nul 37 rfl) (E6.un 38 rfl (by decide)) (E6.bin 39 rfl (by decide) (by decide)) (E6.nul 40 rfl) (E6.un 41 rfl (by decide)) (E6.bin 42 rfl (by decide) (by decide)) (E6.nul 43 rfl) (E6.un 44 rfl (by decide)) (E6.bin 45 rfl (by decide) (by decide)) j h
  replace h : ((W (Proc.devRef .tc main_v306) : IVec S128x100000 32) j, (W (Proc.devRef .tc main_v312) : IVec S128x100000 32) j) = _ :=
    round_at (s := S128x100000) (s0 := S_) (E6.bin 46 rfl (by decide) (by decide)) (E6.nul 47 rfl) (E6.un 48 rfl (by decide)) (E6.bin 49 rfl (by decide) (by decide)) (E6.nul 50 rfl) (E6.un 51 rfl (by decide)) (E6.bin 52 rfl (by decide) (by decide)) (E6.bin 53 rfl (by decide) (by decide)) (Or.inr (E6.bin 54 rfl (by decide) (by decide))) j h
  replace h : ((W (Proc.devRef .tc main_v313) : IVec S128x100000 32) j, (W (Proc.devRef .tc main_v319) : IVec S128x100000 32) j) = _ :=
    round_at (s := S128x100000) (s0 := S_) (E6.bin 55 rfl (by decide) (by decide)) (E6.nul 56 rfl) (E6.un 57 rfl (by decide)) (E6.bin 58 rfl (by decide) (by decide)) (E6.nul 59 rfl) (E7.un 0 rfl (by decide)) (E7.bin 1 rfl (by decide) (by decide)) (E7.bin 2 rfl (by decide) (by decide)) (Or.inr (E7.bin 3 rfl (by decide) (by decide))) j h
  replace h : ((W (Proc.devRef .tc main_v320) : IVec S128x100000 32) j, (W (Proc.devRef .tc main_v326) : IVec S128x100000 32) j) = _ :=
    round_at (s := S128x100000) (s0 := S_) (E7.bin 4 rfl (by decide) (by decide)) (E7.nul 5 rfl) (E7.un 6 rfl (by decide)) (E7.bin 7 rfl (by decide) (by decide)) (E7.nul 8 rfl) (E7.un 9 rfl (by decide)) (E7.bin 10 rfl (by decide) (by decide)) (E7.bin 11 rfl (by decide) (by decide)) (Or.inr (E7.bin 12 rfl (by decide) (by decide))) j h
  replace h : ((W (Proc.devRef .tc main_v327) : IVec S128x100000 32) j, (W (Proc.devRef .tc main_v333) : IVec S128x100000 32) j) = _ :=
    round_at (s := S128x100000) (s0 := S_) (E7.bin 13 rfl (by decide) (by decide)) (E7.nul 14 rfl) (E7.un 15 rfl (by decide)) (E7.bin 16 rfl (by decide) (by decide)) (E7.nul 17 rfl) (E7.un 18 rfl (by decide)) (E7.bin 19 rfl (by decide) (by decide)) (E7.bin 20 rfl (by decide) (by decide)) (Or.inr (E7.bin 21 rfl (by decide) (by decide))) j h
  replace h : ((W (Proc.devRef .tc main_v335) : IVec S128x100000 32) j, (W (Proc.devRef .tc main_v339) : IVec S128x100000 32) j) = _ :=
    inject_at' (s := S128x100000) (s0 := S_) (E7.nul 22 rfl) (E7.un 23 rfl (by decide)) (E7.bin 24 rfl (by decide) (by decide)) (E7.nul 25 rfl) (E7.un 26 rfl (by decide)) (E7.bin 27 rfl (by decide) (by decide)) (E7.nul 28 rfl) (E7.un 29 rfl (by decide)) (E7.bin 30 rfl (by decide) (by decide)) j h
  replace h : ((W (Proc.devRef .tc main_v340) : IVec S128x100000 32) j, (W (Proc.devRef .tc main_v346) : IVec S128x100000 32) j) = _ :=
    round_at (s := S128x100000) (s0 := S_) (E7.bin 31 rfl (by decide) (by decide)) (E7.nul 32 rfl) (E7.un 33 rfl (by decide)) (E7.bin 34 rfl (by decide) (by decide)) (E7.nul 35 rfl) (E7.un 36 rfl (by decide)) (E7.bin 37 rfl (by decide) (by decide)) (E7.bin 38 rfl (by decide) (by decide)) (Or.inr (E7.bin 39 rfl (by decide) (by decide))) j h
  replace h : ((W (Proc.devRef .tc main_v347) : IVec S128x100000 32) j, (W (Proc.devRef .tc main_v353) : IVec S128x100000 32) j) = _ :=
    round_at (s := S128x100000) (s0 := S_) (E7.bin 40 rfl (by decide) (by decide)) (E7.nul 41 rfl) (E7.un 42 rfl (by decide)) (E7.bin 43 rfl (by decide) (by decide)) (E7.nul 44 rfl) (E7.un 45 rfl (by decide)) (E7.bin 46 rfl (by decide) (by decide)) (E7.bin 47 rfl (by decide) (by decide)) (Or.inr (E7.bin 48 rfl (by decide) (by decide))) j h
  replace h : ((W (Proc.devRef .tc main_v354) : IVec S128x100000 32) j, (W (Proc.devRef .tc main_v360) : IVec S128x100000 32) j) = _ :=
    round_at (s := S128x100000) (s0 := S_) (E7.bin 49 rfl (by decide) (by decide)) (E7.nul 50 rfl) (E7.un 51 rfl (by decide)) (E7.bin 52 rfl (by decide) (by decide)) (E7.nul 53 rfl) (E7.un 54 rfl (by decide)) (E7.bin 55 rfl (by decide) (by decide)) (E7.bin 56 rfl (by decide) (by decide)) (Or.inr (E7.bin 57 rfl (by decide) (by decide))) j h
  replace h : ((W (Proc.devRef .tc main_v361) : IVec S128x100000 32) j, (W (Proc.devRef .tc main_v367) : IVec S128x100000 32) j) = _ :=
    round_at (s := S128x100000) (s0 := S_) (E7.bin 58 rfl (by decide) (by decide)) (E7.nul 59 rfl) (E8.un 0 rfl (by decide)) (E8.bin 1 rfl (by decide) (by decide)) (E8.nul 2 rfl) (E8.un 3 rfl (by decide)) (E8.bin 4 rfl (by decide) (by decide)) (E8.bin 5 rfl (by decide) (by decide)) (Or.inr (E8.bin 6 rfl (by decide) (by decide))) j h
  replace h : ((W (Proc.devRef .tc main_v369) : IVec S128x100000 32) j, (W (Proc.devRef .tc main_v373) : IVec S128x100000 32) j) = _ :=
    inject_at' (s := S128x100000) (s0 := S_) (E8.nul 7 rfl) (E8.un 8 rfl (by decide)) (E8.bin 9 rfl (by decide) (by decide)) (E8.nul 10 rfl) (E8.un 11 rfl (by decide)) (E8.bin 12 rfl (by decide) (by decide)) (E8.nul 13 rfl) (E8.un 14 rfl (by decide)) (E8.bin 15 rfl (by decide) (by decide)) j h
  exact noise_at (s := S128x100000) (s0 := S_) (E8.bin 16 rfl (by decide) (by decide)) (E8.nul 17 rfl) (E8.un 18 rfl (by decide)) (E8.bin 19 rfl (by decide) (by decide)) (E8.nul 20 rfl) (E8.un 21 rfl (by decide)) (E8.bin 22 rfl (by decide) (by decide)) (E8.un 23 rfl (by decide)) (E8.nul 24 rfl) (E8.un 25 rfl (by decide)) (E8.bin 26 rfl (by decide) (by decide)) (E8.nul 27 rfl) (E8.un 28 rfl (by decide)) (E8.bin 29 rfl (by decide) (by decide)) (E8.nul 30 rfl) (E8.un 31 rfl (by decide)) (E8.bin 32 rfl (by decide) (by decide)) (E8.nul 33 rfl) (E8.un 34 rfl (by decide)) (E8.bin 35 rfl (by decide) (by decide)) (E8.un 36 rfl (by decide)) (E8.un 37 rfl (by decide)) (E8.un 38 rfl (by decide)) (E8.un 39 rfl (by decide)) j h

end Cert.Ref

end
-- ==== Proof.RefRows.lean ====
/-
  The results of the reference program, read over the extended reals: each row of the probabilities, of their logarithms and the sample as
  the row functions of the logits' row, the mask's row and the noise's row.
-/
module

public import proofs.«01_k».proof.Proof.RowSpec
public import proofs.«01_k».proof.Proof.RefNoise
public import Idealize.ShloMosaic.Lib.Pointwise
public import Idealize.ShloMosaic.Lib.Quiescent
public import Idealize.ShloMosaic.Lib.Tactic

@[expose] public section

set_option maxRecDepth 16384

noncomputable section

namespace Cert.Ref

open Cert.ReferenceIdeal Cert.ReferenceIdeal.Gen Idealize.ShloMosaic Idealize.ShloMosaic.TcCoe Idealize.SL.Sem
  Idealize.ShloMosaic.StableHlo Cert.Ssa Cert.Row

/-- The reference's exponentials of a branch are the row function's, -/
theorem ex_of {L v401 v400 v402 : T128x100000f Ideal} {c1 c2 : T0f Ideal} {v396 v397 v398 : T128f Ideal} {v399 : T128x1f Ideal}
    (h1 : c1 = constant (F := Ideal) S_ .f32 0xFF800000#32)
    (h2 : v396 = Host.reduce (FloatOps.maximumf (F := Ideal) (φ := .f32)) L c1 reducesTo_S128x100000_S128_d1 h_S_)
    (h3 : c2 = constant (F := Ideal) S_ .f32 0xFF800000#32)
    (h4 : v397 = broadcastInDim S128 ![] bcast_S_S128 c2)
    (h5 : v398 = maximumf (F := Ideal) (φ := .f32) v397 v396)
    (h6 : v399 = broadcastInDim S128x1 ![0] bcast_S128_S128x1_0 v398)
    (h7 : v400 = broadcastInDim S128x100000 ![0, 1] bcast_S128x1_S128x100000_0_1 v399)
    (h8 : v401 = subf (F := Ideal) (φ := .f32) L v400)
    (h9 : v402 = Host.exp (F := Ideal) (φ := .f32) v401) (r : Fin 128) (c : Fin 100000) :
    v402 (ix2 r c) = ex (fun k => L (ix2 r k)) c := by
  have e : v396 (ix1 r) = top (fun k => L (ix2 r k)) := by
    subst h2 h1
    pointwise
    rw [zero_bot]
    rfl
  subst h9 h8 h7 h6 h5 h4 h3
  clear h2
  pointwise
  rw [e, zero_bot, bot_sup_eq]
  rfl

/-- and its masked entries too. -/
theorem raw_of {M v402 v405 v406 v407 v408 v409 : T128x100000f Ideal} {c3 c4 : T0f Ideal} {v403 : T128f Ideal} {v404 : T128x1f Ideal}
    (h10 : c3 = constant (F := Ideal) S_ .f32 0x00000000#32)
    (h11 : v403 = Host.reduceAdd (F := Ideal) (φ := .f32) v402 c3 reducesTo_S128x100000_S128_d1 h_S_)
    (h12 : v404 = broadcastInDim S128x1 ![0] bcast_S128_S128x1_0 v403)
    (h13 : v405 = broadcastInDim S128x100000 ![0, 1] bcast_S128x1_S128x100000_0_1 v404)
    (h14 : v406 = Host.divf (F := Ideal) (φ := .f32) v402 v405)
    (h15 : c4 = constant (F := Ideal) S_ .f32 0x33D6BF95#32)
    (h16 : v407 = broadcastInDim S128x100000 ![] bcast_S_S128x100000 c4)
    (h17 : v408 = addf (F := Ideal) (φ := .f32) v406 v407)
    (h18 : v409 = mulf (F := Ideal) (φ := .f32) v408 M) (r : Fin 128) (l w : Fin 100000 → EReal)
    (hl : ∀ c, v402 (ix2 r c) = ex l c) (hw : ∀ c, M (ix2 r c) = w c) (c : Fin 100000) :
    v409 (ix2 r c) = raw l w c := by
  have e : v403 (ix1 r) = ssum l := by
    subst h11 h10
    pointwise
    exact Finset.sum_congr rfl fun k _ => hl k
  subst h18 h17 h16 h15 h14 h13 h12
  clear h11
  pointwise
  rw [e, hl, hw]
  rfl

/-- The reference's probabilities of a branch, from the masked entries. -/
theorem norm_of {v409 v428 v429 : T128x100000f Ideal} {c5 : T0f Ideal} {v426 : T128f Ideal} {v427 : T128x1f Ideal}
    (h1 : c5 = constant (F := Ideal) S_ .f32 0x00000000#32)
    (h2 : v426 = Host.reduceAdd (F := Ideal) (φ := .f32) v409 c5 reducesTo_S128x100000_S128_d1 h_S_)
    (h3 : v427 = broadcastInDim S128x1 ![0] bcast_S128_S128x1_0 v426)
    (h4 : v428 = broadcastInDim S128x100000 ![0, 1] bcast_S128x1_S128x100000_0_1 v427)
    (h5 : v429 = Host.divf (F := Ideal) (φ := .f32) v409 v428) (r : Fin 128) (c : Fin 100000) :
    v429 (ix2 r c) = Ideal.div (v409 (ix2 r c)) (∑ k, v409 (ix2 r k)) := by
  subst h5 h4 h3 h2 h1
  pointwise

/-- Their logarithms. -/
theorem log_of {v429 v434 v435 v436 : T128x100000f Ideal} {c6 : T0f Ideal}
    (h1 : c6 = constant (F := Ideal) S_ .f32 0x33D6BF95#32)
    (h2 : v434 = broadcastInDim S128x100000 ![] bcast_S_S128x100000 c6)
    (h3 : v435 = addf (F := Ideal) (φ := .f32) v429 v434)
    (h4 : v436 = Host.log (F := Ideal) (φ := .f32) v435) (r : Fin 128) (c : Fin 100000) :
    v436 (ix2 r c) = logp (v429 (ix2 r c)) := by
  subst h4 h3 h2 h1
  pointwise
  rfl

/-- The reference's sample of a branch is the first greatest entry of the row. -/
theorem first_of {v440 : T128x100000f Ideal} {io : T128x100000i Ideal} {c7 : T0f Ideal} {c8 : T0i Ideal} {v441 : T128i Ideal}
    (h1 : io = iotaInDim S128x100000 32 1)
    (h2 : c7 = constant (F := Ideal) S_ .f32 0xFF800000#32)
    (h3 : c8 = constantI S_ 32 0#32)
    (h4 : v441 = fun j => (Host.argReduce (F := Ideal) (φ := .f32) reducer_argmax_f32_i32 v440 io c7 c8 reducesTo_S128x100000_S128_d1 h_S_ j).2)
    (j : S128.Idx) (r : Fin 128) (hr : r.val = (j 0).val) :
    IsFirst (fun c : Fin 100000 => v440 (ix2 r c)) (v441 j) := by
  subst h4 h3 h2 h1
  have h := reducesTo_S128x100000_S128_d1
  have hf : ∀ i : S128x100000.Idx, h.drop i = j ↔ ∃ k : Fin 100000, ix2 r k = i := fun i => by
    rw [Shape.ReducesTo.fiber_r2_a1 h j i]
    have e : (⟨(j ⟨0, h.lt_r2_a1_0⟩).val, Shape.coordLt (j ⟨0, h.lt_r2_a1_0⟩) h.size_r2_a1_0⟩ : Fin 128) = r := Fin.ext hr.symm
    rw [e]
  rw [Ideal.argReduce_eq_reduce2]
  beta_reduce
  rw [Host.reduce2_eq_foldl_fiber]
  have key := first_of_foldl (n := 100000) (by decide) (by decide) (fun c => v440 (ix2 r c))
    (Host.argReduceFiber v440 (iotaInDim S128x100000 32 1) h j) (fun q => by
      unfold Host.argReduceFiber
      simp only [List.mem_map, List.mem_filter, List.mem_finRange, true_and, decide_eq_true_eq, hf]
      constructor
      · rintro ⟨n, ⟨c, hc⟩, rfl⟩
        exact ⟨c, by rw [← hc]; rfl⟩
      · rintro ⟨c, rfl⟩
        exact ⟨S128x100000.rowMajor (ix2 r c), ⟨c, (Equiv.symm_apply_apply _ _).symm⟩, by rw [Equiv.symm_apply_apply]; rfl⟩)
  have e0 : ((constant S_ .f32 0xFF800000#32 : FVec Ideal S_ .f32) (Shape.Idx.first h_S_), (constantI S_ 32 0#32) (Shape.Idx.first h_S_)) = ((⊥ : EReal), 0#32) :=
    congrArg (fun x : EReal => (x, 0#32)) zero_bot
  have e1 : (reducer_argmax_f32_i32 : Ideal .f32 × BitVec 32 → Ideal .f32 × BitVec 32 → Ideal .f32 × BitVec 32) = better := rfl
  rw [e1]
  exact Eq.mpr (congrArg (fun q => IsFirst (fun c : Fin 100000 => v440 (ix2 r c)) (List.foldl better q (Host.argReduceFiber v440 (iotaInDim S128x100000 32 1) h j)).2) e0) key

section Line

variable {W : Valuation τ sig (Elt Ideal)} (E8 : Eqs W 482 ops8) (E9 : Eqs W 542 ops9)

include E8 E9

/-- The logits of branch 0. -/
theorem logits0 (r : Fin 128) (c : Fin 100000) : (W (Proc.devRef .tc main_v395) : T128x100000f Ideal) (ix2 r c) = lrow (W (Proc.devRef .tc main_arg0)) 0 r c := by
  have e : (W (Proc.devRef .tc main_v395) : T128x100000f Ideal) = shapeCast S128x100000 (W (Proc.devRef .tc main_v394) : T1x128x100000f Ideal) shapeCasts_S1x128x100000_S128x100000 := (E8.resh 43 rfl (by decide))
  have e' : (W (Proc.devRef .tc main_v394) : T1x128x100000f Ideal) = (extractStridedSlice S1x128x100000 ![0, 0, 0] (W (Proc.devRef .tc main_arg0)) slices_S2x128x100000_S1x128x100000_0_0_0 : T1x128x100000f Ideal) := (E8.un 42 rfl (by decide))
  rw [e, e']
  pointwise [lrow]

/-- The mask of branch 0. -/
theorem mask0 (r : Fin 128) (c : Fin 100000) : (W (Proc.devRef .tc main_v392) : T128x100000f Ideal) (ix2 r c) = mrow (W (Proc.devRef .tc main_arg1)) 0 r c := by
  have e : (W (Proc.devRef .tc main_v392) : T128x100000f Ideal) = (extractStridedSlice S128x100000 ![0, 0] (W (Proc.devRef .tc main_arg1)) slices_S128x200000_S128x100000_0_0 : T128x100000f Ideal) := (E8.un 40 rfl (by decide))
  rw [e]
  pointwise [mrow, col]

/-- The masked entries of branch 0. -/
theorem raw0 (r : Fin 128) (c : Fin 100000) : (W (Proc.devRef .tc main_v409) : T128x100000f Ideal) (ix2 r c) = raw (lrow (W (Proc.devRef .tc main_arg0)) 0 r) (mrow (W (Proc.devRef .tc main_arg1)) 0 r) c := by
  refine raw_of (M := W (Proc.devRef .tc main_v392)) (v402 := W (Proc.devRef .tc main_v402)) (v409 := W (Proc.devRef .tc main_v409)) (E8.nul 53 rfl) (E8.bin 54 rfl (by decide) (by decide)) (E8.un 55 rfl (by decide)) (E8.un 56 rfl (by decide)) (E8.bin 57 rfl (by decide) (by decide)) (E8.nul 58 rfl) (E8.un 59 rfl (by decide)) (E9.bin 0 rfl (by decide) (by decide)) (E9.bin 1 rfl (by decide) (by decide)) r _ _ (fun c => ?_) (mask0 E8 E9 r) c
  rw [ex_of (L := W (Proc.devRef .tc main_v395)) (v402 := W (Proc.devRef .tc main_v402)) (E8.nul 44 rfl) (E8.bin 45 rfl (by decide) (by decide)) (E8.nul 46 rfl) (E8.un 47 rfl (by decide)) (E8.bin 48 rfl (by decide) (by decide)) (E8.un 49 rfl (by decide)) (E8.un 50 rfl (by decide)) (E8.bin 51 rfl (by decide) (by decide)) (E8.un 52 rfl (by decide)) r c,
    show (fun k => (W (Proc.devRef .tc main_v395) : T128x100000f Ideal) (ix2 r k)) = lrow (W (Proc.devRef .tc main_arg0)) 0 r from funext (logits0 E8 E9 r)]

/-- The probabilities of branch 0. -/
theorem prob0 (r : Fin 128) (c : Fin 100000) : (W (Proc.devRef .tc main_v429) : T128x100000f Ideal) (ix2 r c) = prob (lrow (W (Proc.devRef .tc main_arg0)) 0 r) (mrow (W (Proc.devRef .tc main_arg1)) 0 r) c := by
  rw [norm_of (v409 := W (Proc.devRef .tc main_v409)) (v429 := W (Proc.devRef .tc main_v429)) (E9.nul 22 rfl) (E9.bin 23 rfl (by decide) (by decide)) (E9.un 24 rfl (by decide)) (E9.un 25 rfl (by decide)) (E9.bin 26 rfl (by decide) (by decide)) r c, raw0 E8 E9 r c,
    show (fun k => (W (Proc.devRef .tc main_v409) : T128x100000f Ideal) (ix2 r k)) = raw (lrow (W (Proc.devRef .tc main_arg0)) 0 r) (mrow (W (Proc.devRef .tc main_arg1)) 0 r) from funext (raw0 E8 E9 r)]
  rfl

/-- The logarithms of branch 0. -/
theorem logp0 (r : Fin 128) (c : Fin 100000) : (W (Proc.devRef .tc main_v436) : T128x100000f Ideal) (ix2 r c) = logp (prob (lrow (W (Proc.devRef .tc main_arg0)) 0 r) (mrow (W (Proc.devRef .tc main_arg1)) 0 r) c) := by
  rw [log_of (v429 := W (Proc.devRef .tc main_v429)) (v436 := W (Proc.devRef .tc main_v436)) (E9.nul 32 rfl) (E9.un 33 rfl (by decide)) (E9.bin 34 rfl (by decide) (by decide)) (E9.un 35 rfl (by decide)) r c, prob0 E8 E9 r c]

/-- The sample of branch 0. -/
theorem first0 (j : S128.Idx) (r : Fin 128) (hr : r.val = (j 0).val) :
    IsFirst (fun c : Fin 100000 => @HAdd.hAdd EReal EReal EReal _ ((W (Proc.devRef .tc main_v195) : T128x100000f Ideal) (ix2 r c)) (logp (prob (lrow (W (Proc.devRef .tc main_arg0)) 0 r) (mrow (W (Proc.devRef .tc main_arg1)) 0 r) c))) ((W (Proc.devRef .tc main_v441) : T128i Ideal) j) := by
  have e : (W (Proc.devRef .tc main_v440) : T128x100000f Ideal) = addf (F := Ideal) (φ := .f32) (W (Proc.devRef .tc main_v195)) (W (Proc.devRef .tc main_v436)) := (E9.bin 40 rfl (by decide) (by decide))
  have h := first_of (v440 := W (Proc.devRef .tc main_v440)) (v441 := W (Proc.devRef .tc main_v441)) (E9.nul 41 rfl) (E9.nul 42 rfl) (E9.nul 43 rfl) (E9.qua 45 rfl (by decide) (by decide) (by decide) (by decide)) j r hr
  rw [e] at h
  refine (congrArg (IsFirst · _) (funext fun c => ?_)).mp h
  rw [← logp0 E8 E9 r c]
  rfl

/-- The logits of branch 1. -/
theorem logits1 (r : Fin 128) (c : Fin 100000) : (W (Proc.devRef .tc main_v411) : T128x100000f Ideal) (ix2 r c) = lrow (W (Proc.devRef .tc main_arg0)) 1 r c := by
  have e : (W (Proc.devRef .tc main_v411) : T128x100000f Ideal) = shapeCast S128x100000 (W (Proc.devRef .tc main_v410) : T1x128x100000f Ideal) shapeCasts_S1x128x100000_S128x100000 := (E9.resh 3 rfl (by decide))
  have e' : (W (Proc.devRef .tc main_v410) : T1x128x100000f Ideal) = (extractStridedSlice S1x128x100000 ![1, 0, 0] (W (Proc.devRef .tc main_arg0)) slices_S2x128x100000_S1x128x100000_1_0_0 : T1x128x100000f Ideal) := (E9.un 2 rfl (by decide))
  rw [e, e']
  pointwise [lrow]

/-- The mask of branch 1. -/
theorem mask1 (r : Fin 128) (c : Fin 100000) : (W (Proc.devRef .tc main_v393) : T128x100000f Ideal) (ix2 r c) = mrow (W (Proc.devRef .tc main_arg1)) 1 r c := by
  have e : (W (Proc.devRef .tc main_v393) : T128x100000f Ideal) = (extractStridedSlice S128x100000 ![0, 100000] (W (Proc.devRef .tc main_arg1)) slices_S128x200000_S128x100000_0_100000 : T128x100000f Ideal) := (E8.un 41 rfl (by decide))
  rw [e]
  pointwise [mrow, col]

/-- The masked entries of branch 1. -/
theorem raw1 (r : Fin 128) (c : Fin 100000) : (W (Proc.devRef .tc main_v425) : T128x100000f Ideal) (ix2 r c) = raw (lrow (W (Proc.devRef .tc main_arg0)) 1 r) (mrow (W (Proc.devRef .tc main_arg1)) 1 r) c := by
  refine raw_of (M := W (Proc.devRef .tc main_v393)) (v402 := W (Proc.devRef .tc main_v418)) (v409 := W (Proc.devRef .tc main_v425)) (E9.nul 13 rfl) (E9.bin 14 rfl (by decide) (by decide)) (E9.un 15 rfl (by decide)) (E9.un 16 rfl (by decide)) (E9.bin 17 rfl (by decide) (by decide)) (E9.nul 18 rfl) (E9.un 19 rfl (by decide)) (E9.bin 20 rfl (by decide) (by decide)) (E9.bin 21 rfl (by decide) (by decide)) r _ _ (fun c => ?_) (mask1 E8 E9 r) c
  rw [ex_of (L := W (Proc.devRef .tc main_v411)) (v402 := W (Proc.devRef .tc main_v418)) (E9.nul 4 rfl) (E9.bin 5 rfl (by decide) (by decide)) (E9.nul 6 rfl) (E9.un 7 rfl (by decide)) (E9.bin 8 rfl (by decide) (by decide)) (E9.un 9 rfl (by decide)) (E9.un 10 rfl (by decide)) (E9.bin 11 rfl (by decide) (by decide)) (E9.un 12 rfl (by decide)) r c,
    show (fun k => (W (Proc.devRef .tc main_v411) : T128x100000f Ideal) (ix2 r k)) = lrow (W (Proc.devRef .tc main_arg0)) 1 r from funext (logits1 E8 E9 r)]

/-- The probabilities of branch 1. -/
theorem prob1 (r : Fin 128) (c : Fin 100000) : (W (Proc.devRef .tc main_v433) : T128x100000f Ideal) (ix2 r c) = prob (lrow (W (Proc.devRef .tc main_arg0)) 1 r) (mrow (W (Proc.devRef .tc main_arg1)) 1 r) c := by
  rw [norm_of (v409 := W (Proc.devRef .tc main_v425)) (v429 := W (Proc.devRef .tc main_v433)) (E9.nul 27 rfl) (E9.bin 28 rfl (by decide) (by decide)) (E9.un 29 rfl (by decide)) (E9.un 30 rfl (by decide)) (E9.bin 31 rfl (by decide) (by decide)) r c, raw1 E8 E9 r c,
    show (fun k => (W (Proc.devRef .tc main_v425) : T128x100000f Ideal) (ix2 r k)) = raw (lrow (W (Proc.devRef .tc main_arg0)) 1 r) (mrow (W (Proc.devRef .tc main_arg1)) 1 r) from funext (raw1 E8 E9 r)]
  rfl

/-- The logarithms of branch 1. -/
theorem logp1 (r : Fin 128) (c : Fin 100000) : (W (Proc.devRef .tc main_v439) : T128x100000f Ideal) (ix2 r c) = logp (prob (lrow (W (Proc.devRef .tc main_arg0)) 1 r) (mrow (W (Proc.devRef .tc main_arg1)) 1 r) c) := by
  rw [log_of (v429 := W (Proc.devRef .tc main_v433)) (v436 := W (Proc.devRef .tc main_v439)) (E9.nul 36 rfl) (E9.un 37 rfl (by decide)) (E9.bin 38 rfl (by decide) (by decide)) (E9.un 39 rfl (by decide)) r c, prob1 E8 E9 r c]

/-- The sample of branch 1. -/
theorem first1 (j : S128.Idx) (r : Fin 128) (hr : r.val = (j 0).val) :
    IsFirst (fun c : Fin 100000 => @HAdd.hAdd EReal EReal EReal _ ((W (Proc.devRef .tc main_v391) : T128x100000f Ideal) (ix2 r c)) (logp (prob (lrow (W (Proc.devRef .tc main_arg0)) 1 r) (mrow (W (Proc.devRef .tc main_arg1)) 1 r) c))) ((W (Proc.devRef .tc main_v444) : T128i Ideal) j) := by
  have e : (W (Proc.devRef .tc main_v443) : T128x100000f Ideal) = addf (F := Ideal) (φ := .f32) (W (Proc.devRef .tc main_v391)) (W (Proc.devRef .tc main_v439)) := (E9.bin 47 rfl (by decide) (by decide))
  have h := first_of (v440 := W (Proc.devRef .tc main_v443)) (v441 := W (Proc.devRef .tc main_v444)) (E9.nul 48 rfl) (E9.nul 49 rfl) (E9.nul 50 rfl) (E9.qua 52 rfl (by decide) (by decide) (by decide) (by decide)) j r hr
  rw [e] at h
  refine (congrArg (IsFirst · _) (funext fun c => ?_)).mp h
  rw [← logp1 E8 E9 r c]
  rfl

/-- The reference's probabilities. -/
theorem out1 (r : Fin 128) (k : Fin 2) (c : Fin 100000) :
    (W (Proc.devRef .tc main_v447) : T128x200000f Ideal) (ix2 r (col k c)) = prob (lrow (W (Proc.devRef .tc main_arg0)) k r) (mrow (W (Proc.devRef .tc main_arg1)) k r) c := by
  have e : (W (Proc.devRef .tc main_v447) : T128x200000f Ideal) = concatenate S128x200000 1 [⟨S128x100000, (W (Proc.devRef .tc main_v429) : T128x100000f Ideal)⟩, ⟨S128x100000, (W (Proc.devRef .tc main_v433) : T128x100000f Ideal)⟩] concatenates_S128x100000_S128x100000_S128x200000_d1 := (E9.bin 55 rfl (by decide) (by decide))
  rw [e]
  fin_cases k
  · exact Eq.trans (by pointwise [col]) (prob0 E8 E9 r c)
  · exact Eq.trans (by pointwise [col]) (prob1 E8 E9 r c)

/-- The reference's logarithms. -/
theorem out2 (r : Fin 128) (k : Fin 2) (c : Fin 100000) :
    (W (Proc.devRef .tc main_v448) : T128x200000f Ideal) (ix2 r (col k c)) = logp (prob (lrow (W (Proc.devRef .tc main_arg0)) k r) (mrow (W (Proc.devRef .tc main_arg1)) k r) c) := by
  have e : (W (Proc.devRef .tc main_v448) : T128x200000f Ideal) = concatenate S128x200000 1 [⟨S128x100000, (W (Proc.devRef .tc main_v436) : T128x100000f Ideal)⟩, ⟨S128x100000, (W (Proc.devRef .tc main_v439) : T128x100000f Ideal)⟩] concatenates_S128x100000_S128x100000_S128x200000_d1 := (E9.bin 56 rfl (by decide) (by decide))
  rw [e]
  fin_cases k
  · exact Eq.trans (by pointwise [col]) (logp0 E8 E9 r c)
  · exact Eq.trans (by pointwise [col]) (logp1 E8 E9 r c)

end Line

end Cert.Ref

end
-- ==== Proof.RefOut.lean ====
/-
  The result arrays of the reference program over the extended reals, as functions of its arguments.
-/
module

public import proofs.«01_k».proof.Proof.RefRows
public import proofs.«01_k».proof.Proof.RefNoise

@[expose] public section

set_option maxRecDepth 16384

noncomputable section

namespace Cert.Ref

open Cert.ReferenceIdeal Cert.ReferenceIdeal.Gen Idealize.ShloMosaic Idealize.ShloMosaic.TcCoe Idealize.SL.Sem
  Idealize.ShloMosaic.StableHlo Cert.Ssa Cert.Row

/-- The counter of an index is the word of its place. -/
theorem counter_place (r : Fin 128) (c : Fin 100000) : counter (ix2 r c) = place r c := by
  show BitVec.ofNat 32 r.val * BitVec.ofNat 32 100000 + BitVec.ofNat 32 c.val = BitVec.ofNat 32 (r.val * 100000 + c.val)
  rw [← BitVec.ofNat_mul, ← BitVec.ofNat_add]

/-- Two columns side by side. -/
theorem beside (h : Shape.Concatenates [S128x1, S128x1] S128x2 1) (v w : S128x1.Idx → BitVec 32) (r : Fin 128) :
    concatenate S128x2 1 [⟨S128x1, v⟩, ⟨S128x1, w⟩] h (ix2 r 0) = v (ix2 r 0)
      ∧ concatenate S128x2 1 [⟨S128x1, v⟩, ⟨S128x1, w⟩] h (ix2 r 1) = w (ix2 r 0) := by
  constructor
  · pointwise
  · pointwise

/-- A column of a list. -/
theorem column (h) (v : S128.Idx → BitVec 32) (r : Fin 128) : broadcastInDim S128x1 ![0] h v (ix2 r 0) = v (ix1 r) := by
  pointwise

variable (m : (ℓ : Loc nD τ sig) → Buf (Elt Ideal) ℓ) (ρ : Dev nD → PrngReg) (d : Dev nD)

/-- What the buffers of a core hold after the run. -/
abbrev fin : Valuation τ sig (Elt Ideal) := after ops (launchContents m d)

/-- The logits of a core, -/
abbrev logits : S2x128x100000.Idx → EReal := m ((d.tc : Thread nD τ).loc main_arg0)
/-- and its masks. -/
abbrev masks : S128x200000.Idx → EReal := m ((d.tc : Thread nD τ).loc main_arg1)

/-- The run leaves the arguments as they were. -/
theorem fin_arg0 : fin m d (Proc.devRef .tc main_arg0) = m ((d.tc : Thread nD τ).loc main_arg0) :=
  after_below ops_chain _ main_arg0 rfl (by decide)
theorem fin_arg1 : fin m d (Proc.devRef .tc main_arg1) = m ((d.tc : Thread nD τ).loc main_arg1) :=
  after_below ops_chain _ main_arg1 rfl (by decide)

/-- The samples of the reference program, -/
abbrev res0 : S128x2.Idx → BitVec 32 := fin m d (Proc.devRef .tc main_v446)
/-- its probabilities -/
abbrev res1 : S128x200000.Idx → EReal := fin m d (Proc.devRef .tc main_v447)
/-- and its logarithms. -/
abbrev res2 : S128x200000.Idx → EReal := fin m d (Proc.devRef .tc main_v448)

/-- The probabilities as row functions of the arguments, -/
theorem val1 (r : Fin 128) (k : Fin 2) (c : Fin 100000) : res1 m d (ix2 r (col k c)) = prob (lrow (logits m d) k r) (mrow (masks m d) k r) c := by
  have h := out1 (eqs8 (launchContents m d)) (eqs9 (launchContents m d)) r k c
  rw [show after ops (launchContents m d) (Proc.devRef .tc main_arg0) = _ from fin_arg0 m d, show after ops (launchContents m d) (Proc.devRef .tc main_arg1) = _ from fin_arg1 m d] at h
  exact h

/-- the logarithms, -/
theorem val2 (r : Fin 128) (k : Fin 2) (c : Fin 100000) : res2 m d (ix2 r (col k c)) = logp (prob (lrow (logits m d) k r) (mrow (masks m d) k r) c) := by
  have h := out2 (eqs8 (launchContents m d)) (eqs9 (launchContents m d)) r k c
  rw [show after ops (launchContents m d) (Proc.devRef .tc main_arg0) = _ from fin_arg0 m d, show after ops (launchContents m d) (Proc.devRef .tc main_arg1) = _ from fin_arg1 m d] at h
  exact h

/-- and the samples. -/
theorem val0 (r : Fin 128) (k : Fin 2) : IsFirst (score (logits m d) (masks m d) k r) (res0 m d (ix2 r k)) := by
  have e : res0 m d = concatenate S128x2 1 [⟨S128x1, (fin m d (Proc.devRef .tc main_v442) : S128x1.Idx → BitVec 32)⟩,
      ⟨S128x1, (fin m d (Proc.devRef .tc main_v445) : S128x1.Idx → BitVec 32)⟩] concatenates_S128x1_S128x1_S128x2_d1 :=
    (eqs9 (launchContents m d)).bin 54 rfl (by decide) (by decide)
  have e0 : (fin m d (Proc.devRef .tc main_v442) : S128x1.Idx → BitVec 32) = broadcastInDim S128x1 ![0] bcast_S128_S128x1_0
      (fin m d (Proc.devRef .tc main_v441) : S128.Idx → BitVec 32) := (eqs9 (launchContents m d)).un 46 rfl (by decide)
  have e1 : (fin m d (Proc.devRef .tc main_v445) : S128x1.Idx → BitVec 32) = broadcastInDim S128x1 ![0] bcast_S128_S128x1_0
      (fin m d (Proc.devRef .tc main_v444) : S128.Idx → BitVec 32) := (eqs9 (launchContents m d)).un 53 rfl (by decide)
  rw [e]
  obtain rfl | rfl : k = 0 ∨ k = 1 := by omega
  · rw [(beside _ _ _ r).1, e0, column]
    have h := first0 (eqs8 (launchContents m d)) (eqs9 (launchContents m d)) (ix1 r) r rfl
    refine (congrArg (IsFirst · _) (funext fun c => ?_)).mp h
    rw [noise0 (eqs0 _) (eqs1 _) (eqs2 _) (eqs3 _) (eqs4 _) (ix2 r c), counter_place,
      show after ops (launchContents m d) (Proc.devRef .tc main_arg0) = _ from fin_arg0 m d, show after ops (launchContents m d) (Proc.devRef .tc main_arg1) = _ from fin_arg1 m d,
      score, gum, if_pos rfl]
  · rw [(beside _ _ _ r).2, e1, column]
    have h := first1 (eqs8 (launchContents m d)) (eqs9 (launchContents m d)) (ix1 r) r rfl
    refine (congrArg (IsFirst · _) (funext fun c => ?_)).mp h
    rw [noise1 (eqs4 _) (eqs5 _) (eqs6 _) (eqs7 _) (eqs8 _) (ix2 r c), counter_place,
      show after ops (launchContents m d) (Proc.devRef .tc main_arg0) = _ from fin_arg0 m d, show after ops (launchContents m d) (Proc.devRef .tc main_arg1) = _ from fin_arg1 m d,
      score, gum, if_neg (by decide)]

/-- Every run of the reference program ends with its results as above, its arguments as they were and no semaphore raised. -/
theorem run : θ_run defs (onTc (τ := τ) (main (F := Ideal))) ⟨m, fun _ => 0, ρ⟩ (fun r => (∀ c : Dev nD,
      (r.2.mem ((c.tc : Thread nD τ).loc main_v446) = res0 m c
      ∧ r.2.mem ((c.tc : Thread nD τ).loc main_v447) = res1 m c
      ∧ r.2.mem ((c.tc : Thread nD τ).loc main_v448) = res2 m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨⟨h c _, h c _, h c _⟩, (h c _).trans (fin_arg0 m c), (h c _).trans (fin_arg1 m c)⟩,
    sem_eq_zero_of_no_sems (by decide) r.2⟩) (run_ops m ρ)

end Cert.Ref

end
-- ==== Proof.PreRows.lean ====
/-
  What the precondition says of the arguments over the extended reals: the masked entries of every row have a nonzero sum.
-/
module

public import proofs.«01_k».proof.Proof.Gen.Pre_well_posed
public import proofs.«01_k».proof.Proof.RefRows
public import Idealize.ShloMosaic.Lib.ReduceAll

@[expose] public section

set_option maxRecDepth 16384

noncomputable section

namespace Cert.Pre

open Cert.Pre_well_posed Idealize.ShloMosaic Idealize.ShloMosaic.TcCoe Cert.Row

variable [Cert.Pre_well_posed.Facts]

/-- The arguments are good: on every row the masked entries have a nonzero sum. -/
def Good (a : S2x128x100000.Idx → EReal) (w : S128x200000.Idx → EReal) : Prop :=
  ∀ (k : Fin 2) (r : Fin 128), ∑ c, raw (lrow a k r) (mrow w k r) c ≠ 0

/-- A conjunction of bits that is one has both of them one. -/
theorem and_one {x y : S_.Idx → BitVec 1} (h : andi x y = fun _ => 1#1) : (x = fun _ => 1#1) ∧ y = fun _ => 1#1 := by
  have key : ∀ a b : BitVec 1, a &&& b = 1#1 → a = 1#1 ∧ b = 1#1 := by decide
  exact ⟨funext fun i => (key _ _ (congrFun h i)).1, funext fun i => (key _ _ (congrFun h i)).2⟩

/-- There is one index of the empty shape. -/
theorem one_index : Subsingleton S_.Idx := ⟨fun i j => funext fun a => a.elim0⟩

/-- A reduction by conjunction over all the entries that is one has every entry one. -/
theorem all_one {s : Shape} {axes} (h : s.ReducesTo axes S_) (x : s.Idx → BitVec 1) (v : S_.Idx → BitVec 1)
    (e : Host.reduce IntOp.andi x v h Facts.h_S_ = fun _ => 1#1) (i : s.Idx) : x i = 1#1 :=
  haveI := one_index
  Host.reduce_andi_all x v h Facts.h_S_ (fun a => a.elim0) (congrFun e _) i

/-- An entry that compares unequal to zero is not zero. -/
theorem nonzero_of {x : EReal} (h : Ideal.cmp .une x (Ideal.ofBits .f32 0x00000000#32) = 1#1) : x ≠ 0 := by
  have e : Ideal.ofBits .f32 0x00000000#32 = 0 := by simp [Ideal.ofBits, Ideal.ieee]
  rw [e] at h
  rintro rfl
  simp [Ideal.cmp] at h

/-- What the conjuncts of the precondition say. -/
theorem part25 (p q z : FVec Ideal S128 .f32) (x y : IVec S128 32) (hz : ∀ i, z i = Ideal.ofBits .f32 0x00000000#32)
    (h : fn_part25 (F := Ideal) p q x y z = fun _ => 1#1) : (∀ i, (p i : EReal) ≠ 0) ∧ ∀ i, (q i : EReal) ≠ 0 := by
  obtain ⟨h, _⟩ := and_one h
  obtain ⟨h, _⟩ := and_one h
  obtain ⟨h2, h3⟩ := and_one h
  exact ⟨fun i => nonzero_of ((congrArg (Ideal.cmp .une (p i)) (hz i)).symm.trans (all_one _ _ _ h2 i)), fun i => nonzero_of (all_one _ _ _ h3 i)⟩

/-- A total of a row. -/
theorem sum_of (v : FVec Ideal S128x100000 .f32) (r : Fin 128) :
    (Host.reduceAdd (F := Ideal) (φ := .f32) v (constant (F := Ideal) S_ .f32 0x00000000#32) Facts.reducesTo_S128x100000_S128_d1 Facts.h_S_ : FVec Ideal S128 .f32) (ix1 r)
      = ∑ c : Fin 100000, (v (ix2 r c) : EReal) := by
  pointwise

/-- The same, a part before. -/
theorem part24 (v391 v425 : FVec Ideal S128x100000 .f32) (p q : FVec Ideal S128 .f32)
    (v434 v436 : FVec Ideal S128x100000 .f32) (h : fn_part24 (F := Ideal) v391 v425 p q v434 v436 = fun _ => 1#1) :
    (∀ i, (p i : EReal) ≠ 0) ∧ ∀ i, (q i : EReal) ≠ 0 :=
  part25 p q _ _ _ (fun _ => rfl) h

/-- The same, of the sums of the masked entries. -/
theorem part23 (a : FVec Ideal S2x128x100000 .f32) (w : FVec Ideal S128x200000 .f32) (v195 v391 v393 v409 v417 : FVec Ideal S128x100000 .f32)
    (h0 : ∀ (r : Fin 128) (c : Fin 100000), v409 (ix2 r c) = raw (lrow a 0 r) (mrow w 0 r) c)
    (hw : ∀ (r : Fin 128) (c : Fin 100000), v393 (ix2 r c) = mrow w 1 r c)
    (he : ∀ (r : Fin 128) (c : Fin 100000), Host.exp (F := Ideal) (φ := .f32) v417 (ix2 r c) = ex (lrow a 1 r) c)
    (h : fn_part23 (F := Ideal) v195 v391 v393 v409 v417 = fun _ => 1#1) : Good a w := by
  obtain ⟨h2, h3⟩ := part24 _ _ _ _ _ _ h
  intro k r
  obtain rfl | rfl : k = 0 ∨ k = 1 := by omega
  · have e := h2 (ix1 r)
    beta_reduce at e
    rw [sum_of] at e
    refine fun e' => e (Eq.trans (Finset.sum_congr rfl fun c _ => h0 r c) e')
  · have e := h3 (ix1 r)
    beta_reduce at e
    rw [sum_of] at e
    refine fun e' => e (Eq.trans (Finset.sum_congr rfl fun c _ => ?_) e')
    exact Cert.Ref.raw_of rfl rfl rfl rfl rfl rfl rfl rfl rfl r (lrow a 1 r) (mrow w 1 r) (he r) (hw r) c

/-- A slab of the logits as an array. -/
theorem slab_0 (a : FVec Ideal S2x128x100000 .f32) (r : Fin 128) (c : Fin 100000) :
    shapeCast S128x100000 (extractStridedSlice S1x128x100000 ![0, 0, 0] a Facts.slices_S2x128x100000_S1x128x100000_0_0_0 : FVec Ideal S1x128x100000 .f32)
      Facts.shapeCasts_S1x128x100000_S128x100000 (ix2 r c) = lrow a 0 r c := by
  pointwise [lrow]
theorem slab_1 (a : FVec Ideal S2x128x100000 .f32) (r : Fin 128) (c : Fin 100000) :
    shapeCast S128x100000 (extractStridedSlice S1x128x100000 ![1, 0, 0] a Facts.slices_S2x128x100000_S1x128x100000_1_0_0 : FVec Ideal S1x128x100000 .f32)
      Facts.shapeCasts_S1x128x100000_S128x100000 (ix2 r c) = lrow a 1 r c := by
  pointwise [lrow]
/-- A half of the masks. -/
theorem half_0 (w : FVec Ideal S128x200000 .f32) (r : Fin 128) (c : Fin 100000) :
    (extractStridedSlice S128x100000 ![0, 0] w Facts.slices_S128x200000_S128x100000_0_0 : FVec Ideal S128x100000 .f32) (ix2 r c) = mrow w 0 r c := by
  pointwise [mrow, col]
theorem half_1 (w : FVec Ideal S128x200000 .f32) (r : Fin 128) (c : Fin 100000) :
    (extractStridedSlice S128x100000 ![0, 100000] w Facts.slices_S128x200000_S128x100000_0_100000 : FVec Ideal S128x100000 .f32) (ix2 r c) = mrow w 1 r c := by
  pointwise [mrow, col]

/-- The part that computes the masked entries of branch 0. -/
theorem part22 (a : FVec Ideal S2x128x100000 .f32) (w : FVec Ideal S128x200000 .f32) (v195 v391 v392 v393 v395 : FVec Ideal S128x100000 .f32)
    (v396 v397 : FVec Ideal S128 .f32)
    (h0 : ∀ (r : Fin 128) (c : Fin 100000), v392 (ix2 r c) = mrow w 0 r c)
    (h1 : ∀ (r : Fin 128) (c : Fin 100000), v393 (ix2 r c) = mrow w 1 r c)
    (hL : ∀ (r : Fin 128) (c : Fin 100000), v395 (ix2 r c) = lrow a 0 r c)
    (e396 : v396 = Host.reduce (FloatOps.maximumf (F := Ideal) (φ := .f32)) v395 (constant (F := Ideal) S_ .f32 0xFF800000#32) Facts.reducesTo_S128x100000_S128_d1 Facts.h_S_)
    (e397 : v397 = broadcastInDim S128 ![] Facts.bcast_S_S128 (constant (F := Ideal) S_ .f32 0xFF800000#32))
    (h : fn_part22 (F := Ideal) a v195 v391 v392 v393 v395 v396 v397 = fun _ => 1#1) : Good a w := by
  refine part23 a w _ _ _ _ _ (fun r c => ?_) h1 (fun r c => ?_) h
  · refine Cert.Ref.raw_of rfl rfl rfl rfl rfl rfl rfl rfl rfl r (lrow a 0 r) (mrow w 0 r) (fun c => ?_) (h0 r) c
    exact (Cert.Ref.ex_of rfl e396 rfl e397 rfl rfl rfl rfl rfl r c).trans (congrArg (fun l => ex l c) (funext (hL r)))
  · exact (Cert.Ref.ex_of rfl rfl rfl rfl rfl rfl rfl rfl rfl r c).trans (congrArg (fun l => ex l c) (funext (slab_1 a r)))

/-- The part that cuts the arguments. -/
theorem part21 (a : FVec Ideal S2x128x100000 .f32) (w : FVec Ideal S128x200000 .f32) (v195 v379 : FVec Ideal S128x100000 .f32)
    (h : fn_part21 (F := Ideal) a w v195 v379 = fun _ => 1#1) : Good a w :=
  part22 a w _ _ _ _ _ _ _ (half_0 w) (half_1 w) (slab_0 a) rfl rfl h

/-! The parts before it compute the noise, of which nothing is asked. -/
theorem part20 (a : FVec Ideal S2x128x100000 .f32) (w : FVec Ideal S128x200000 .f32) (v195 : FVec Ideal S128x100000 .f32) (v360 : IVec S128x100000 32) (v361 : IVec S128x100000 32) (c_115 : IVec S_ 32)
    (h : fn_part20 (F := Ideal) a w v195 v360 v361 c_115 = fun _ => 1#1) : Good a w := part21 a w _ _ h
theorem part19 (a : FVec Ideal S2x128x100000 .f32) (w : FVec Ideal S128x200000 .f32) (v195 : FVec Ideal S128x100000 .f32) (v339 : IVec S128x100000 32) (v340 : IVec S128x100000 32) (v342 : IVec S128x100000 32) (c_110 : IVec S_ 32)
    (h : fn_part19 (F := Ideal) a w v195 v339 v340 v342 c_110 = fun _ => 1#1) : Good a w := part20 a w _ _ _ _ h
theorem part18 (a : FVec Ideal S2x128x100000 .f32) (w : FVec Ideal S128x200000 .f32) (v195 : FVec Ideal S128x100000 .f32) (v320 : IVec S128x100000 32) (v325 : IVec S128x100000 32)
    (h : fn_part18 (F := Ideal) a w v195 v320 v325 = fun _ => 1#1) : Good a w := part19 a w _ _ _ _ _ h
theorem part17 (a : FVec Ideal S2x128x100000 .f32) (w : FVec Ideal S128x200000 .f32) (v195 : FVec Ideal S128x100000 .f32) (v305 : IVec S128x100000 32) (v306 : IVec S128x100000 32) (c_98 : IVec S_ 32)
    (h : fn_part17 (F := Ideal) a w v195 v305 v306 c_98 = fun _ => 1#1) : Good a w := part18 a w _ _ _ h
theorem part16 (a : FVec Ideal S2x128x100000 .f32) (w : FVec Ideal S128x200000 .f32) (v195 : FVec Ideal S128x100000 .f32) (v285 : IVec S128x100000 32) (v286 : IVec S128x100000 32) (v288 : IVec S128x100000 32) (c_92 : IVec S_ 32)
    (h : fn_part16 (F := Ideal) a w v195 v285 v286 v288 c_92 = fun _ => 1#1) : Good a w := part17 a w _ _ _ _ h
theorem part15 (a : FVec Ideal S2x128x100000 .f32) (w : FVec Ideal S128x200000 .f32) (v195 : FVec Ideal S128x100000 .f32) (v267 : IVec S128x100000 32) (v269 : IVec S128x100000 32) (v270 : IVec S128x100000 32)
    (h : fn_part15 (F := Ideal) a w v195 v267 v269 v270 = fun _ => 1#1) : Good a w := part16 a w _ _ _ _ _ h
theorem part14 (a : FVec Ideal S2x128x100000 .f32) (w : FVec Ideal S128x200000 .f32) (v195 : FVec Ideal S128x100000 .f32) (v251 : IVec S128x100000 32) (v252 : IVec S128x100000 32) (c_80 : IVec S_ 32)
    (h : fn_part14 (F := Ideal) a w v195 v251 v252 c_80 = fun _ => 1#1) : Good a w := part15 a w _ _ _ _ h
theorem part13 (a : FVec Ideal S2x128x100000 .f32) (w : FVec Ideal S128x200000 .f32) (v195 : FVec Ideal S128x100000 .f32) (v231 : IVec S128x100000 32) (v233 : IVec S128x100000 32) (v234 : IVec S128x100000 32)
    (h : fn_part13 (F := Ideal) a w v195 v231 v233 v234 = fun _ => 1#1) : Good a w := part14 a w _ _ _ _ h
theorem part12 (a : FVec Ideal S2x128x100000 .f32) (w : FVec Ideal S128x200000 .f32) (v195 : FVec Ideal S128x100000 .f32) (v211 : IVec S128x100000 32) (v216 : IVec S128x100000 32)
    (h : fn_part12 (F := Ideal) a w v195 v211 v216 = fun _ => 1#1) : Good a w := part13 a w _ _ _ _ h
theorem part11 (a : FVec Ideal S2x128x100000 .f32) (w : FVec Ideal S128x200000 .f32) (v195 : FVec Ideal S128x100000 .f32) (v196 : IVec S128x100000 32) (v197 : IVec S128x100000 32) (c_63 : IVec S_ 32)
    (h : fn_part11 (F := Ideal) a w v195 v196 v197 c_63 = fun _ => 1#1) : Good a w := part12 a w _ _ _ h
theorem part10 (a : FVec Ideal S2x128x100000 .f32) (w : FVec Ideal S128x200000 .f32) (v180 : IVec S128x100000 32)
    (h : fn_part10 (F := Ideal) a w v180 = fun _ => 1#1) : Good a w := part11 a w _ _ _ _ h
theorem part9 (a : FVec Ideal S2x128x100000 .f32) (w : FVec Ideal S128x200000 .f32) (v158 : IVec S128x100000 32) (v160 : IVec S128x100000 32) (v162 : IVec S128x100000 32)
    (h : fn_part9 (F := Ideal) a w v158 v160 v162 = fun _ => 1#1) : Good a w := part10 a w _ h
theorem part8 (a : FVec Ideal S2x128x100000 .f32) (w : FVec Ideal S128x200000 .f32) (v143 : IVec S128x100000 32) (v144 : IVec S128x100000 32)
    (h : fn_part8 (F := Ideal) a w v143 v144 = fun _ => 1#1) : Good a w := part9 a w _ _ _ h
theorem part7 (a : FVec Ideal S2x128x100000 .f32) (w : FVec Ideal S128x200000 .f32) (v123 : IVec S128x100000 32) (v124 : IVec S128x100000 32) (v126 : IVec S128x100000 32)
    (h : fn_part7 (F := Ideal) a w v123 v124 v126 = fun _ => 1#1) : Good a w := part8 a w _ _ h
theorem part6 (a : FVec Ideal S2x128x100000 .f32) (w : FVec Ideal S128x200000 .f32) (v105 : IVec S128x100000 32) (v107 : IVec S128x100000 32) (c_34 : IVec S_ 32)
    (h : fn_part6 (F := Ideal) a w v105 v107 c_34 = fun _ => 1#1) : Good a w := part7 a w _ _ _ h
theorem part5 (a : FVec Ideal S2x128x100000 .f32) (w : FVec Ideal S128x200000 .f32) (v89 : IVec S128x100000 32) (v90 : IVec S128x100000 32)
    (h : fn_part5 (F := Ideal) a w v89 v90 = fun _ => 1#1) : Good a w := part6 a w _ _ _ h
theorem part4 (a : FVec Ideal S2x128x100000 .f32) (w : FVec Ideal S128x200000 .f32) (v69 : IVec S128x100000 32) (v71 : IVec S128x100000 32) (c_22 : IVec S_ 32)
    (h : fn_part4 (F := Ideal) a w v69 v71 c_22 = fun _ => 1#1) : Good a w := part5 a w _ _ h
theorem part3 (a : FVec Ideal S2x128x100000 .f32) (w : FVec Ideal S128x200000 .f32) (v49 : IVec S128x100000 32) (v51 : IVec S128x100000 32) (v53 : IVec S128x100000 32)
    (h : fn_part3 (F := Ideal) a w v49 v51 v53 = fun _ => 1#1) : Good a w := part4 a w _ _ _ h
theorem part2 (a : FVec Ideal S2x128x100000 .f32) (w : FVec Ideal S128x200000 .f32) (v29 : IVec S128x100000 32) (v35 : IVec S128x100000 32) (c_10 : IVec S_ 32)
    (h : fn_part2 (F := Ideal) a w v29 v35 c_10 = fun _ => 1#1) : Good a w := part3 a w _ _ _ h
theorem part1 (a : FVec Ideal S2x128x100000 .f32) (w : FVec Ideal S128x200000 .f32) (v14 : IVec S128x100000 32) (v15 : IVec S128x100000 32) (v17 : IVec S128x100000 32)
    (h : fn_part1 (F := Ideal) a w v14 v15 v17 = fun _ => 1#1) : Good a w := part2 a w _ _ _ h
/-- The precondition makes the arguments good. -/
theorem good_of (a : FVec Ideal S2x128x100000 .f32) (w : FVec Ideal S128x200000 .f32)
    (h : fn (F := Ideal) a w = fun _ => 1#1) : Good a w := part1 a w _ _ _ h

end Cert.Pre

end
-- ==== Proof.lean ====
/-
  The kernel program runs and leaves its arguments and semaphores as they were, as printed and over the extended reals, and so
  does the reference program; and over the extended reals the kernel program's three results are the reference program's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_well_posed
public import proofs.«01_k».proof.Proof.KernelRun
public import proofs.«01_k».proof.Proof.KerOut
public import proofs.«01_k».proof.Proof.RefOut
public import proofs.«01_k».proof.Proof.PreRows

@[expose] public section

set_option maxRecDepth 16384

noncomputable section

namespace Cert.Proof

open Idealize.ShloMosaic Idealize.ShloMosaic.TcCoe Idealize.SL.Sem Cert.Row

/-- Two arrays that agree at every branch, row and column are equal. -/
theorem entries {A B : (⟨2, ![128, 200000]⟩ : Shape).Idx → EReal}
    (h : ∀ (r : Fin 128) (k : Fin 2) (c : Fin 100000), A (ix2 r (col k c)) = B (ix2 r (col k c))) : A = B := by
  funext i
  have hi : (i 1).val < 200000 := (i 1).isLt
  have e : i = ix2 (i 0) (col ⟨(i 1).val / 100000, by omega⟩ ⟨(i 1).val % 100000, by omega⟩) := by
    funext a
    match a with
    | ⟨0, _⟩ => rfl
    | ⟨1, _⟩ => exact Fin.ext (show (i 1).val = 100000 * ((i 1).val / 100000) + (i 1).val % 100000 by omega)
  rw [e]
  exact h _ _ _

/-- Two lists of samples that agree at every row and branch are equal. -/
theorem samples {A B : (⟨2, ![128, 2]⟩ : Shape).Idx → BitVec 32} (h : ∀ (r : Fin 128) (k : Fin 2), A (ix2 r k) = B (ix2 r k)) : A = B := by
  funext i
  have e : i = ix2 (i 0) (i 1) := by
    funext a
    match a with
    | ⟨0, _⟩ => rfl
    | ⟨1, _⟩ => rfl
  rw [e]
  exact h _ _

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hg : Cert.Pre.Good (Cert.IdealRun.logits m c) (Cert.IdealRun.masks m c))
  (h0 : Cert.Ref.logits m' c = Cert.IdealRun.logits m c) (h1 : Cert.Ref.masks m' c = Cert.IdealRun.masks m c)

include hg h0 h1

/-- The kernel program's probabilities are the reference program's, -/
theorem same1 {A : (⟨2, ![128, 200000]⟩ : Shape).Idx → EReal} (h : ∀ i, Cert.IdealRun.Final4 (F := Ideal) m c i (A i)) : A = Cert.Ref.res1 m' c :=
  entries fun r k j => by
    rw [Cert.IdealRun.value1 m c h k r j, Cert.Ref.val1 m' c r k j, h0, h1, kprob_eq _ _ (hg k r)]

/-- its logarithms the reference program's, -/
theorem same2 {A : (⟨2, ![128, 200000]⟩ : Shape).Idx → EReal} (h : ∀ i, Cert.IdealRun.Final5 (F := Ideal) m c i (A i)) : A = Cert.Ref.res2 m' c :=
  entries fun r k j => by
    rw [Cert.IdealRun.value2 m c h k r j, Cert.Ref.val2 m' c r k j, h0, h1, kprob_eq _ _ (hg k r)]

/-- and its samples the reference program's. -/
theorem same0 {A : (⟨2, ![128, 2]⟩ : Shape).Idx → BitVec 32} (h : ∀ i, Cert.IdealRun.Final3 (F := Ideal) m c i (A i)) : A = Cert.Ref.res0 m' c :=
  samples fun r k => by
    have e := Cert.IdealRun.value0 m c h k r
    have e' := Cert.Ref.val0 m' c r k
    rw [h0, h1] at e'
    refine IsFirst.unique ((congrArg (IsFirst · _) (funext fun j => ?_)).mp e) e'
    rw [kprob_eq _ _ (hg k r)]
    rfl

end

/-- Over the extended reals the two programs end with equal results. -/
theorem equal : Cert.algebraic_KernelIdeal_ReferenceIdeal := by
  intro m g m' g' hpre hargs
  have hg : ∀ c, Cert.Pre.Good (Cert.IdealRun.logits m c) (Cert.IdealRun.masks m c) := fun c => Cert.Pre.good_of _ _ (hpre c)
  refine ⟨fun c => Cert.Ref.res0 m' c, fun c => Cert.Ref.res1 m' c, fun c => Cert.Ref.res2 m' c, ?_, ?_⟩
  · exact (θ_run _ _ _).mono (fun r h c =>
      ⟨same0 m m' c (hg c) (hargs c).1 (hargs c).2 (h.1 c).2.1, same1 m m' c (hg c) (hargs c).1 (hargs c).2 (h.1 c).2.2.1,
        same2 m m' c (hg c) (hargs c).1 (hargs c).2 (h.1 c).2.2.2, (h.1 c).1.1, (h.1 c).1.2⟩) (Cert.IdealRun.run m g)
  · exact (θ_run _ _ _).mono (fun r h c =>
      ⟨(h.1 c).1.1, (h.1 c).1.2.1, (h.1 c).1.2.2, (h.1 c).2.1, (h.1 c).2.2⟩) (Cert.Ref.run m' g')

/-- Everything that is claimed. -/
theorem claim : Cert.Claim := by
  refine ⟨Cert.Kernel.Gen.facts, Cert.KernelIdeal.Gen.facts, Cert.ReferenceIdeal.Gen.facts, Cert.Pre_well_posed.Gen.facts,
    fun m g _ => Cert.KernelRun.frame m g, fun m g _ => Cert.KernelRun.frame m g, fun m g _ => ?_, fun m g _ => ?_, fun m g _ => ?_, trivial, equal⟩
  · exact (θ_run _ _ _).mono (fun r h => ⟨fun c => (h.1 c).1, h.2⟩) (Cert.IdealRun.run m g)
  · exact (θ_run _ _ _).mono (fun r h => ⟨fun c => (h.1 c).2, h.2⟩) (Cert.Ref.run m g)
  · exact (θ_run _ _ _).mono (fun r h => ⟨fun c => (h.1 c).2, h.2⟩) (Cert.Ref.run m g)

end Cert.Proof

end
